-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Quant (m : (ℓ : Loc Cert.Quant.nD Cert.Quant.τ Cert.Quant.sig) → Buf (Elt Bits) ℓ) : Prop :=
  True

def Pre_QuantReference (m : (ℓ : Loc Cert.QuantReference.nD Cert.QuantReference.τ Cert.QuantReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2)
      ∧ r.2.mem ((c.tc : Thread Cert.Quant.nD Cert.Quant.τ).loc Cert.Quant.main_arg3) = m ((c.tc : Thread Cert.Quant.nD Cert.Quant.τ).loc Cert.Quant.main_arg3))
      ∧ r.2.sem = fun _ => 0)

def quiescent_QuantReference [hQuantReference : Cert.QuantReference.Facts] : Prop :=
  ∀ (m : (ℓ : Loc Cert.QuantReference.nD Cert.QuantReference.τ Cert.QuantReference.sig) → Buf (Elt Bits) ℓ) (g : Dev Cert.QuantReference.nD → PrngReg), Pre_QuantReference m →
    θ_run (Cert.QuantReference.defs (F := Bits)) (onTc (τ := Cert.QuantReference.τ) (Cert.QuantReference.main (F := Bits))) ⟨m, fun _ => 0, g⟩ (fun r => (∀ c : Dev Cert.QuantReference.nD,
      r.2.mem ((c.tc : Thread Cert.QuantReference.nD Cert.QuantReference.τ).loc Cert.QuantReference.main_arg0) = m ((c.tc : Thread Cert.QuantReference.nD Cert.QuantReference.τ).loc Cert.QuantReference.main_arg0)
      ∧ r.2.mem ((c.tc : Thread Cert.QuantReference.nD Cert.QuantReference.τ).loc Cert.QuantReference.main_arg1) = m ((c.tc : Thread Cert.QuantReference.nD Cert.QuantReference.τ).loc Cert.QuantReference.main_arg1)
      ∧ r.2.mem ((c.tc : Thread Cert.QuantReference.nD Cert.QuantReference.τ).loc Cert.QuantReference.main_arg2) = m ((c.tc : Thread Cert.QuantReference.nD Cert.QuantReference.τ).loc Cert.QuantReference.main_arg2)
      ∧ r.2.mem ((c.tc : Thread Cert.QuantReference.nD Cert.QuantReference.τ).loc Cert.QuantReference.main_arg3) = m ((c.tc : Thread Cert.QuantReference.nD Cert.QuantReference.τ).loc Cert.QuantReference.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v1)) (v4 : (c : Dev Cert.KernelIdeal.nD) → Buf (Elt Ideal) ((c.tc : Thread Cert.KernelIdeal.nD Cert.KernelIdeal.τ).loc Cert.KernelIdeal.main_v2)) (v5 : (c : Dev Cert.KernelIdeal.nD) → Buf (Elt Ideal) ((c.tc : Thread Cert.KernelIdeal.nD Cert.KernelIdeal.τ).loc Cert.KernelIdeal.main_v0_0)) (v6 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v1) = v3 c
          ∧ r.2.mem ((c.tc : Thread Cert.KernelIdeal.nD Cert.KernelIdeal.τ).loc Cert.KernelIdeal.main_v2) = v4 c
          ∧ r.2.mem ((c.tc : Thread Cert.KernelIdeal.nD Cert.KernelIdeal.τ).loc Cert.KernelIdeal.main_v0_0) = v5 c
          ∧ r.2.mem ((c.tc : Thread Cert.KernelIdeal.nD Cert.KernelIdeal.τ).loc Cert.KernelIdeal.main_v9) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_v60) = v4 c
          ∧ r.2.mem ((c.tc : Thread Cert.ReferenceIdeal.nD Cert.ReferenceIdeal.τ).loc Cert.ReferenceIdeal.main_v61) = v5 c
          ∧ r.2.mem ((c.tc : Thread Cert.ReferenceIdeal.nD Cert.ReferenceIdeal.τ).loc Cert.ReferenceIdeal.main_v58) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Quant_QuantReference [hQuant : Cert.Quant.Facts] [hQuantReference : Cert.QuantReference.Facts] : Prop :=
  ∀ (m : (ℓ : Loc Cert.Quant.nD Cert.Quant.τ Cert.Quant.sig) → Buf (Elt Bits) ℓ) (g : Dev Cert.Quant.nD → PrngReg)
    (m' : (ℓ : Loc Cert.QuantReference.nD Cert.QuantReference.τ Cert.QuantReference.sig) → Buf (Elt Bits) ℓ) (g' : Dev Cert.QuantReference.nD → PrngReg), Pre_Quant m →
    (∀ c : Dev Cert.Quant.nD,
      m' ((c.tc : Thread Cert.QuantReference.nD Cert.QuantReference.τ).loc Cert.QuantReference.main_arg0) = m ((c.tc : Thread Cert.Quant.nD Cert.Quant.τ).loc Cert.Quant.main_arg0)
      ∧ m' ((c.tc : Thread Cert.QuantReference.nD Cert.QuantReference.τ).loc Cert.QuantReference.main_arg1) = m ((c.tc : Thread Cert.Quant.nD Cert.Quant.τ).loc Cert.Quant.main_arg1)
      ∧ m' ((c.tc : Thread Cert.QuantReference.nD Cert.QuantReference.τ).loc Cert.QuantReference.main_arg2) = m ((c.tc : Thread Cert.Quant.nD Cert.Quant.τ).loc Cert.Quant.main_arg2)
      ∧ m' ((c.tc : Thread Cert.QuantReference.nD Cert.QuantReference.τ).loc Cert.QuantReference.main_arg3) = m ((c.tc : Thread Cert.Quant.nD Cert.Quant.τ).loc Cert.Quant.main_arg3)) →
    ∃ (v0 : (c : Dev Cert.Quant.nD) → Buf (Elt Bits) ((c.tc : Thread Cert.Quant.nD Cert.Quant.τ).loc Cert.Quant.main_v0_0)) (v1 : (c : Dev Cert.Quant.nD) → Buf (Elt Bits) ((c.tc : Thread Cert.Quant.nD Cert.Quant.τ).loc Cert.Quant.main_v0_1)) (v2 : (c : Dev Cert.Quant.nD) → Buf (Elt Bits) ((c.tc : Thread Cert.Quant.nD Cert.Quant.τ).loc Cert.Quant.main_v0_2)),
      θ_run (Cert.Quant.defs (F := Bits)) (onTc (τ := Cert.Quant.τ) (Cert.Quant.main (F := Bits))) ⟨m, fun _ => 0, g⟩ (fun r => ∀ c : Dev Cert.Quant.nD,
          r.2.mem ((c.tc : Thread Cert.Quant.nD Cert.Quant.τ).loc Cert.Quant.main_v0_0) = v0 c
          ∧ r.2.mem ((c.tc : Thread Cert.Quant.nD Cert.Quant.τ).loc Cert.Quant.main_v0_1) = v1 c
          ∧ r.2.mem ((c.tc : Thread Cert.Quant.nD Cert.Quant.τ).loc Cert.Quant.main_v0_2) = v2 c
          ∧ r.2.mem ((c.tc : Thread Cert.Quant.nD Cert.Quant.τ).loc Cert.Quant.main_arg0) = m ((c.tc : Thread Cert.Quant.nD Cert.Quant.τ).loc Cert.Quant.main_arg0)
          ∧ r.2.mem ((c.tc : Thread Cert.Quant.nD Cert.Quant.τ).loc Cert.Quant.main_arg1) = m ((c.tc : Thread Cert.Quant.nD Cert.Quant.τ).loc Cert.Quant.main_arg1)
          ∧ r.2.mem ((c.tc : Thread Cert.Quant.nD Cert.Quant.τ).loc Cert.Quant.main_arg2) = m ((c.tc : Thread Cert.Quant.nD Cert.Quant.τ).loc Cert.Quant.main_arg2)
          ∧ r.2.mem ((c.tc : Thread Cert.Quant.nD Cert.Quant.τ).loc Cert.Quant.main_arg3) = m ((c.tc : Thread Cert.Quant.nD Cert.Quant.τ).loc Cert.Quant.main_arg3))
      ∧ θ_run (Cert.QuantReference.defs (F := Bits)) (onTc (τ := Cert.QuantReference.τ) (Cert.QuantReference.main (F := Bits))) ⟨m', fun _ => 0, g'⟩ (fun r => ∀ c : Dev Cert.QuantReference.nD,
          r.2.mem ((c.tc : Thread Cert.QuantReference.nD Cert.QuantReference.τ).loc Cert.QuantReference.main_v4) = v0 c
          ∧ r.2.mem ((c.tc : Thread Cert.QuantReference.nD Cert.QuantReference.τ).loc Cert.QuantReference.main_v1) = v1 c
          ∧ r.2.mem ((c.tc : Thread Cert.QuantReference.nD Cert.QuantReference.τ).loc Cert.QuantReference.main_v2) = v2 c
          ∧ r.2.mem ((c.tc : Thread Cert.QuantReference.nD Cert.QuantReference.τ).loc Cert.QuantReference.main_arg0) = m' ((c.tc : Thread Cert.QuantReference.nD Cert.QuantReference.τ).loc Cert.QuantReference.main_arg0)
          ∧ r.2.mem ((c.tc : Thread Cert.QuantReference.nD Cert.QuantReference.τ).loc Cert.QuantReference.main_arg1) = m' ((c.tc : Thread Cert.QuantReference.nD Cert.QuantReference.τ).loc Cert.QuantReference.main_arg1)
          ∧ r.2.mem ((c.tc : Thread Cert.QuantReference.nD Cert.QuantReference.τ).loc Cert.QuantReference.main_arg2) = m' ((c.tc : Thread Cert.QuantReference.nD Cert.QuantReference.τ).loc Cert.QuantReference.main_arg2)
          ∧ r.2.mem ((c.tc : Thread Cert.QuantReference.nD Cert.QuantReference.τ).loc Cert.QuantReference.main_arg3) = m' ((c.tc : Thread Cert.QuantReference.nD Cert.QuantReference.τ).loc Cert.QuantReference.main_arg3))

def Claim : Prop :=
  ∃ (hKernel : Cert.Kernel.Facts) (hKernelIdeal : Cert.KernelIdeal.Facts) (hReferenceIdeal : Cert.ReferenceIdeal.Facts) (hQuant : Cert.Quant.Facts) (hQuantReference : Cert.QuantReference.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Quant (hQuant := hQuant)
    ∧ quiescent_QuantReference (hQuantReference := hQuantReference)
    ∧ preserves_Kernel_KernelIdeal
    ∧ algebraic_KernelIdeal_ReferenceIdeal_pre_finite (hKernelIdeal := hKernelIdeal) (hReferenceIdeal := hReferenceIdeal) (hPre_finite := hPre_finite)
    ∧ bitexact_Quant_QuantReference (hQuant := hQuant) (hQuantReference := hQuantReference)
-- ==== Pre_finite.lean ====
abbrev S2x48x128x12288 : Shape := ⟨4, ![2, 48, 128, 12288]⟩
abbrev S2x8x12288x128 : Shape := ⟨4, ![2, 8, 12288, 128]⟩
abbrev S2x8x128x12288 : Shape := ⟨4, ![2, 8, 128, 12288]⟩
abbrev S2 : Shape := ⟨1, ![2]⟩
abbrev S_ : Shape := ⟨0, ![]⟩

class Facts : Prop where
  bcast_S_S2x48x128x12288 : S_.BroadcastsInDim S2x48x128x12288 (![] : Fin 0 → Fin S2x48x128x12288.rank)
  bcast_S_S2x8x12288x128 : S_.BroadcastsInDim S2x8x12288x128 (![] : Fin 0 → Fin S2x8x12288x128.rank)

variable [Facts]

def fn {F : FTy → Type} [FloatOps F] (main_arg0 : FVec F S2x48x128x12288 .bf16) (main_arg1 : FVec F S2x8x12288x128 .bf16) (main_arg2 : FVec F S2x8x128x12288 .bf16) (main_arg3 : IVec S2 32) : IVec S2x48x128x12288 1 × IVec S2x8x12288x128 1 :=
  let main_v0 : FVec F S2x48x128x12288 .bf16 := Host.absf main_arg0
  let main_cst : FVec F S_ .bf16 := constant S_ .bf16 0x7F80#16
  let main_v1 : FVec F S2x48x128x12288 .bf16 := broadcastInDim S2x48x128x12288 ![] bcast_S_S2x48x128x12288 main_cst
  let main_v2 : IVec S2x48x128x12288 1 := cmpf .olt main_v0 main_v1
  let main_v3 : FVec F S2x8x12288x128 .bf16 := Host.absf main_arg1
  let main_cst_0 : FVec F S_ .bf16 := constant S_ .bf16 0x7F80#16
  let main_v4 : FVec F S2x8x12288x128 .bf16 := broadcastInDim S2x8x12288x128 ![] bcast_S_S2x8x12288x128 main_cst_0
  let main_v5 : IVec S2x8x12288x128 1 := cmpf .olt main_v3 main_v4
  (main_v2, main_v5)
-- ==== Kernel.lean ====
abbrev S2x48x128x12288 : Shape := ⟨4, ![2, 48, 128, 12288]⟩
abbrev S2x8x12288x128 : Shape := ⟨4, ![2, 8, 12288, 128]⟩
abbrev S2x8x128x12288 : Shape := ⟨4, ![2, 8, 128, 12288]⟩
abbrev S2 : Shape := ⟨1, ![2]⟩
abbrev S2x8x6x12288 : Shape := ⟨4, ![2, 8, 6, 12288]⟩
abbrev S1x6x128x256 : Shape := ⟨4, ![1, 6, 128, 256]⟩
abbrev S1x1x12288x128 : Shape := ⟨4, ![1, 1, 12288, 128]⟩
abbrev S1x1x128x12288 : Shape := ⟨4, ![1, 1, 128, 12288]⟩
abbrev S1x1x6x256 : Shape := ⟨4, ![1, 1, 6, 256]⟩
abbrev S1 : Shape := ⟨1, ![1]⟩
abbrev S256x256 : Shape := ⟨2, ![256, 256]⟩
abbrev S1x256 : Shape := ⟨2, ![1, 256]⟩
abbrev S1x1x128x256 : Shape := ⟨4, ![1, 1, 128, 256]⟩
abbrev S128x256 : Shape := ⟨2, ![128, 256]⟩
abbrev S1x1x256x128 : Shape := ⟨4, ![1, 1, 256, 128]⟩
abbrev S256x128 : Shape := ⟨2, ![256, 128]⟩
abbrev S256 : Shape := ⟨1, ![256]⟩
abbrev S1x1x1x256 : Shape := ⟨4, ![1, 1, 1, 256]⟩
abbrev S2x48x12288 : Shape := ⟨3, ![2, 48, 12288]⟩
abbrev S_ : Shape := ⟨0, ![]⟩
abbrev S48 : Shape := ⟨1, ![48]⟩

abbrev nBuf : Space → Nat
  | .hbm => 32
  | .vmem => 12
  | .smem => 1
  | _ => 0

abbrev bufTy : (tb : Table) → Fin (tcTables nBuf tb) → BufTy
  | .hbm, ⟨0, _⟩ => ⟨S2x48x128x12288, .bf16⟩
  | .hbm, ⟨1, _⟩ => ⟨S2x8x12288x128, .bf16⟩
  | .hbm, ⟨2, _⟩ => ⟨S2x8x128x12288, .bf16⟩
  | .hbm, ⟨3, _⟩ => ⟨S2x48x128x12288, .f32⟩
  | .hbm, ⟨4, _⟩ => ⟨S2x8x6x12288, .f32⟩
  | .hbm, ⟨5, _⟩ => ⟨S2x8x6x12288, .f32⟩
  | .hbm, ⟨6, _⟩ => ⟨S2x48x12288, .f32⟩
  | .hbm, ⟨7, _⟩ => ⟨S2x48x12288, .f32⟩
  | .hbm, ⟨8, _⟩ => ⟨S_, .f32⟩
  | .hbm, ⟨9, _⟩ => ⟨S48, .f32⟩
  | .hbm, ⟨10, _⟩ => ⟨S_, .f32⟩
  | .hbm, ⟨11, _⟩ => ⟨S48, .f32⟩
  | .hbm, ⟨12, _⟩ => ⟨S_, .f32⟩
  | .hbm, ⟨13, _⟩ => ⟨S48, .f32⟩
  | .hbm, ⟨14, _⟩ => ⟨S48, .i1⟩
  | .hbm, ⟨15, _⟩ => ⟨S_, .f32⟩
  | .hbm, ⟨16, _⟩ => ⟨S48, .f32⟩
  | .hbm, ⟨17, _⟩ => ⟨S48, .f32⟩
  | .hbm, ⟨18, _⟩ => ⟨S_, .f32⟩
  | .hbm, ⟨19, _⟩ => ⟨S_, .f32⟩
  | .hbm, ⟨20, _⟩ => ⟨S48, .f32⟩
  | .hbm, ⟨21, _⟩ => ⟨S48, .f32⟩
  | .hbm, ⟨22, _⟩ => ⟨S_, .f32⟩
  | .hbm, ⟨23, _⟩ => ⟨S48, .f32⟩
  | .hbm, ⟨24, _⟩ => ⟨S48, .i1⟩
  | .hbm, ⟨25, _⟩ => ⟨S_, .f32⟩
  | .hbm, ⟨26, _⟩ => ⟨S48, .f32⟩
  | .hbm, ⟨27, _⟩ => ⟨S48, .f32⟩
  | .hbm, ⟨28, _⟩ => ⟨S_, .f32⟩
  | .hbm, ⟨29, _⟩ => ⟨S_, .f32⟩
  | .hbm, ⟨30, _⟩ => ⟨S48, .f32⟩
  | .hbm, ⟨31, _⟩ => ⟨S48, .f32⟩
  | .local _ .vmem, ⟨0, _⟩ => ⟨S1x6x128x256, .bf16⟩
  | .local _ .vmem, ⟨1, _⟩ => ⟨S1x6x128x256, .bf16⟩
  | .local _ .vmem, ⟨2, _⟩ => ⟨S1x1x12288x128, .bf16⟩
  | .local _ .vmem, ⟨3, _⟩ => ⟨S1x1x12288x128, .bf16⟩
  | .local _ .vmem, ⟨4, _⟩ => ⟨S1x1x128x12288, .bf16⟩
  | .local _ .vmem, ⟨5, _⟩ => ⟨S1x1x128x12288, .bf16⟩
  | .local _ .vmem, ⟨6, _⟩ => ⟨S1x6x128x256, .f32⟩
  | .local _ .vmem, ⟨7, _⟩ => ⟨S1x6x128x256, .f32⟩
  | .local _ .vmem, ⟨8, _⟩ => ⟨S1x1x6x256, .f32⟩
  | .local _ .vmem, ⟨9, _⟩ => ⟨S1x1x6x256, .f32⟩
  | .local _ .vmem, ⟨10, _⟩ => ⟨S1x1x6x256, .f32⟩
  | .local _ .vmem, ⟨11, _⟩ => ⟨S1x1x6x256, .f32⟩
  | .local _ .smem, ⟨0, _⟩ => ⟨S2, .i32⟩
  | _, _ => ⟨S2x48x128x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 48], ![false, false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
@[reducible] def k0_t1_loop (i : grid0.Coords) : Scf.Loop 32 :=
  let c0_i32_8 : BitVec 32 := 0#32
  let arg2 : BitVec 32 := BitVec.ofNat 32 (i 2).val
  let v22 : BitVec 32 := Scalar.subi arg2 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_9 : BitVec 32 := 1#32
  ⟨c0_i32_8, v26, c1_i32_9⟩
def k0_mult1 (i : grid0.Coords) (k0_t1 : Fin (k0_t1_loop i).trips) : BitVec 32 :=
  let c0_i32_8 : BitVec 32 := 0#32
  let c1_i32_9 : BitVec 32 := 1#32
  let arg10 : BitVec 32 := Scf.iv c0_i32_8 c1_i32_9 k0_t1
  let c256_i32_240 : BitVec 32 := 256#32
  let v436 : BitVec 32 := Scalar.muli arg10 c256_i32_240
  v436
def k0_off2 (i : grid0.Coords) (k0_t1 : Fin (k0_t1_loop i).trips) : Fin 4 → Nat :=
  let c0_241 : Index := 0#32
  let c0_242 : Index := 0#32
  let c0_i32_8 : BitVec 32 := 0#32
  let c1_i32_9 : BitVec 32 := 1#32
  let arg10 : BitVec 32 := Scf.iv c0_i32_8 c1_i32_9 k0_t1
  let c256_i32_240 : BitVec 32 := 256#32
  let v436 : BitVec 32 := Scalar.muli arg10 c256_i32_240
  let v437 : BitVec 32 := v436
  let v438 : Index := Scalar.indexCast v437
  let c0_243 : Index := 0#32
  ![0, 0, v438.toNat, 0]
def k0_off3 (i : grid0.Coords) (k0_t1 : Fin (k0_t1_loop i).trips) : Fin 4 → Nat :=
  let c0_248 : Index := 0#32
  let c0_249 : Index := 0#32
  let c0_250 : Index := 0#32
  let c0_i32_8 : BitVec 32 := 0#32
  let c1_i32_9 : BitVec 32 := 1#32
  let arg10 : BitVec 32 := Scf.iv c0_i32_8 c1_i32_9 k0_t1
  let c256_i32_240 : BitVec 32 := 256#32
  let v436 : BitVec 32 := Scalar.muli arg10 c256_i32_240
  let v437 : BitVec 32 := v436
  let v462 : Index := Scalar.indexCast v437
  ![0, 0, 0, v462.toNat]
@[reducible] def k0_t2_loop (i : grid0.Coords) : Scf.Loop 32 :=
  let c0_i32_8 : BitVec 32 := 0#32
  let arg2 : BitVec 32 := BitVec.ofNat 32 (i 2).val
  let v22 : BitVec 32 := Scalar.subi arg2 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let v23 : BitVec 32 := Scalar.addi c0_i32_8 v22
  let c1_i32_10 : BitVec 32 := 1#32
  ⟨v26, v23, c1_i32_10⟩
def k0_mult2 (i : grid0.Coords) (k0_t2 : Fin (k0_t2_loop i).trips) : BitVec 32 :=
  let c0_i32_8 : BitVec 32 := 0#32
  let arg2 : BitVec 32 := BitVec.ofNat 32 (i 2).val
  let v22 : BitVec 32 := Scalar.subi arg2 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_10 : BitVec 32 := 1#32
  let arg10 : BitVec 32 := Scf.iv v26 c1_i32_10 k0_t2
  let c256_i32_240 : BitVec 32 := 256#32
  let v436 : BitVec 32 := Scalar.muli arg10 c256_i32_240
  v436
def k0_off4 (i : grid0.Coords) (k0_t2 : Fin (k0_t2_loop i).trips) : Fin 4 → Nat :=
  let c0_241 : Index := 0#32
  let c0_242 : Index := 0#32
  let c0_i32_8 : BitVec 32 := 0#32
  let arg2 : BitVec 32 := BitVec.ofNat 32 (i 2).val
  let v22 : BitVec 32 := Scalar.subi arg2 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_10 : BitVec 32 := 1#32
  let arg10 : BitVec 32 := Scf.iv v26 c1_i32_10 k0_t2
  let c256_i32_240 : BitVec 32 := 256#32
  let v436 : BitVec 32 := Scalar.muli arg10 c256_i32_240
  let v437 : BitVec 32 := v436
  let v438 : Index := Scalar.indexCast v437
  let c0_243 : Index := 0#32
  ![0, 0, v438.toNat, 0]
def k0_off5 (i : grid0.Coords) (k0_t2 : Fin (k0_t2_loop i).trips) : Fin 4 → Nat :=
  let c0_248 : Index := 0#32
  let c0_249 : Index := 0#32
  let c0_250 : Index := 0#32
  let c0_i32_8 : BitVec 32 := 0#32
  let arg2 : BitVec 32 := BitVec.ofNat 32 (i 2).val
  let v22 : BitVec 32 := Scalar.subi arg2 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_10 : BitVec 32 := 1#32
  let arg10 : BitVec 32 := Scf.iv v26 c1_i32_10 k0_t2
  let c256_i32_240 : BitVec 32 := 256#32
  let v436 : BitVec 32 := Scalar.muli arg10 c256_i32_240
  let v437 : BitVec 32 := v436
  let v462 : Index := Scalar.indexCast v437
  ![0, 0, 0, v462.toNat]
def k0_mult3 (i : grid0.Coords) : BitVec 32 :=
  let arg2 : BitVec 32 := BitVec.ofNat 32 (i 2).val
  let c256_i32_11 : BitVec 32 := 256#32
  let v29 : BitVec 32 := Scalar.muli arg2 c256_i32_11
  v29
def k0_off6 (i : grid0.Coords) : Fin 4 → Nat :=
  let c0_12 : Index := 0#32
  let c0_13 : Index := 0#32
  let arg2 : BitVec 32 := BitVec.ofNat 32 (i 2).val
  let c256_i32_11 : BitVec 32 := 256#32
  let v29 : BitVec 32 := Scalar.muli arg2 c256_i32_11
  let v30 : BitVec 32 := v29
  let v31 : Index := Scalar.indexCast v30
  let c0_14 : Index := 0#32
  ![0, 0, v31.toNat, 0]
def k0_off7 (i : grid0.Coords) : Fin 4 → Nat :=
  let c0_21 : Index := 0#32
  let c0_22 : Index := 0#32
  let c0_23 : Index := 0#32
  let arg2 : BitVec 32 := BitVec.ofNat 32 (i 2).val
  let c256_i32_11 : BitVec 32 := 256#32
  let v29 : BitVec 32 := Scalar.muli arg2 c256_i32_11
  let v30 : BitVec 32 := v29
  let v60 : Index := Scalar.indexCast v30
  ![0, 0, 0, v60.toNat]
@[reducible] def k0_t3_loop (i : grid0.Coords) : Scf.Loop 32 :=
  let c0_i32_47 : BitVec 32 := 0#32
  let arg2 : BitVec 32 := BitVec.ofNat 32 (i 2).val
  let v92 : BitVec 32 := Scalar.subi arg2 c0_i32_47
  let c1_i32_48 : BitVec 32 := 1#32
  let v94 : BitVec 32 := Scalar.divsi v92 c1_i32_48
  let v95 : BitVec 32 := Scalar.muli v94 c1_i32_48
  let v96 : BitVec 32 := Scalar.addi c0_i32_47 v95
  let c1_i32_49 : BitVec 32 := 1#32
  ⟨c0_i32_47, v96, c1_i32_49⟩
def k0_mult4 (i : grid0.Coords) (k0_t3 : Fin (k0_t3_loop i).trips) : BitVec 32 :=
  let c0_i32_47 : BitVec 32 := 0#32
  let c1_i32_49 : BitVec 32 := 1#32
  let arg10 : BitVec 32 := Scf.iv c0_i32_47 c1_i32_49 k0_t3
  let c256_i32_240 : BitVec 32 := 256#32
  let v436 : BitVec 32 := Scalar.muli arg10 c256_i32_240
  v436
def k0_off8 (i : grid0.Coords) (k0_t3 : Fin (k0_t3_loop i).trips) : Fin 4 → Nat :=
  let c0_241 : Index := 0#32
  let c0_242 : Index := 0#32
  let c0_i32_47 : BitVec 32 := 0#32
  let c1_i32_49 : BitVec 32 := 1#32
  let arg10 : BitVec 32 := Scf.iv c0_i32_47 c1_i32_49 k0_t3
  let c256_i32_240 : BitVec 32 := 256#32
  let v436 : BitVec 32 := Scalar.muli arg10 c256_i32_240
  let v437 : BitVec 32 := v436
  let v438 : Index := Scalar.indexCast v437
  let c0_243 : Index := 0#32
  ![0, 0, v438.toNat, 0]
def k0_off9 (i : grid0.Coords) (k0_t3 : Fin (k0_t3_loop i).trips) : Fin 4 → Nat :=
  let c0_248 : Index := 0#32
  let c0_249 : Index := 0#32
  let c0_250 : Index := 0#32
  let c0_i32_47 : BitVec 32 := 0#32
  let c1_i32_49 : BitVec 32 := 1#32
  let arg10 : BitVec 32 := Scf.iv c0_i32_47 c1_i32_49 k0_t3
  let c256_i32_240 : BitVec 32 := 256#32
  let v436 : BitVec 32 := Scalar.muli arg10 c256_i32_240
  let v437 : BitVec 32 := v436
  let v462 : Index := Scalar.indexCast v437
  ![0, 0, 0, v462.toNat]
@[reducible] def k0_t4_loop (i : grid0.Coords) : Scf.Loop 32 :=
  let c0_i32_47 : BitVec 32 := 0#32
  let arg2 : BitVec 32 := BitVec.ofNat 32 (i 2).val
  let v92 : BitVec 32 := Scalar.subi arg2 c0_i32_47
  let c1_i32_48 : BitVec 32 := 1#32
  let v94 : BitVec 32 := Scalar.divsi v92 c1_i32_48
  let v95 : BitVec 32 := Scalar.muli v94 c1_i32_48
  let v96 : BitVec 32 := Scalar.addi c0_i32_47 v95
  let v93 : BitVec 32 := Scalar.addi c0_i32_47 v92
  let c1_i32_50 : BitVec 32 := 1#32
  ⟨v96, v93, c1_i32_50⟩
def k0_mult5 (i : grid0.Coords) (k0_t4 : Fin (k0_t4_loop i).trips) : BitVec 32 :=
  let c0_i32_47 : BitVec 32 := 0#32
  let arg2 : BitVec 32 := BitVec.ofNat 32 (i 2).val
  let v92 : BitVec 32 := Scalar.subi arg2 c0_i32_47
  let c1_i32_48 : BitVec 32 := 1#32
  let v94 : BitVec 32 := Scalar.divsi v92 c1_i32_48
  let v95 : BitVec 32 := Scalar.muli v94 c1_i32_48
  let v96 : BitVec 32 := Scalar.addi c0_i32_47 v95
  let c1_i32_50 : BitVec 32 := 1#32
  let arg10 : BitVec 32 := Scf.iv v96 c1_i32_50 k0_t4
  let c256_i32_240 : BitVec 32 := 256#32
  let v436 : BitVec 32 := Scalar.muli arg10 c256_i32_240
  v436
def k0_off10 (i : grid0.Coords) (k0_t4 : Fin (k0_t4_loop i).trips) : Fin 4 → Nat :=
  let c0_241 : Index := 0#32
  let c0_242 : Index := 0#32
  let c0_i32_47 : BitVec 32 := 0#32
  let arg2 : BitVec 32 := BitVec.ofNat 32 (i 2).val
  let v92 : BitVec 32 := Scalar.subi arg2 c0_i32_47
  let c1_i32_48 : BitVec 32 := 1#32
  let v94 : BitVec 32 := Scalar.divsi v92 c1_i32_48
  let v95 : BitVec 32 := Scalar.muli v94 c1_i32_48
  let v96 : BitVec 32 := Scalar.addi c0_i32_47 v95
  let c1_i32_50 : BitVec 32 := 1#32
  let arg10 : BitVec 32 := Scf.iv v96 c1_i32_50 k0_t4
  let c256_i32_240 : BitVec 32 := 256#32
  let v436 : BitVec 32 := Scalar.muli arg10 c256_i32_240
  let v437 : BitVec 32 := v436
  let v438 : Index := Scalar.indexCast v437
  let c0_243 : Index := 0#32
  ![0, 0, v438.toNat, 0]
def k0_off11 (i : grid0.Coords) (k0_t4 : Fin (k0_t4_loop i).trips) : Fin 4 → Nat :=
  let c0_248 : Index := 0#32
  let c0_249 : Index := 0#32
  let c0_250 : Index := 0#32
  let c0_i32_47 : BitVec 32 := 0#32
  let arg2 : BitVec 32 := BitVec.ofNat 32 (i 2).val
  let v92 : BitVec 32 := Scalar.subi arg2 c0_i32_47
  let c1_i32_48 : BitVec 32 := 1#32
  let v94 : BitVec 32 := Scalar.divsi v92 c1_i32_48
  let v95 : BitVec 32 := Scalar.muli v94 c1_i32_48
  let v96 : BitVec 32 := Scalar.addi c0_i32_47 v95
  let c1_i32_50 : BitVec 32 := 1#32
  let arg10 : BitVec 32 := Scf.iv v96 c1_i32_50 k0_t4
  let c256_i32_240 : BitVec 32 := 256#32
  let v436 : BitVec 32 := Scalar.muli arg10 c256_i32_240
  let v437 : BitVec 32 := v436
  let v462 : Index := Scalar.indexCast v437
  ![0, 0, 0, v462.toNat]
def k0_mult6 (i : grid0.Coords) : BitVec 32 :=
  let arg2 : BitVec 32 := BitVec.ofNat 32 (i 2).val
  let c256_i32_51 : BitVec 32 := 256#32
  let v99 : BitVec 32 := Scalar.muli arg2 c256_i32_51
  v99
@[reducible] def k0_t5_loop (i : grid0.Coords) : Scf.Loop 32 :=
  let c0_i32_87 : BitVec 32 := 0#32
  let arg2 : BitVec 32 := BitVec.ofNat 32 (i 2).val
  let v162 : BitVec 32 := Scalar.subi arg2 c0_i32_87
  let c1_i32_88 : BitVec 32 := 1#32
  let v164 : BitVec 32 := Scalar.divsi v162 c1_i32_88
  let v165 : BitVec 32 := Scalar.muli v164 c1_i32_88
  let v166 : BitVec 32 := Scalar.addi c0_i32_87 v165
  let c1_i32_89 : BitVec 32 := 1#32
  ⟨c0_i32_87, v166, c1_i32_89⟩
def k0_mult7 (i : grid0.Coords) (k0_t5 : Fin (k0_t5_loop i).trips) : BitVec 32 :=
  let c0_i32_87 : BitVec 32 := 0#32
  let c1_i32_89 : BitVec 32 := 1#32
  let arg10 : BitVec 32 := Scf.iv c0_i32_87 c1_i32_89 k0_t5
  let c256_i32_240 : BitVec 32 := 256#32
  let v436 : BitVec 32 := Scalar.muli arg10 c256_i32_240
  v436
def k0_off12 (i : grid0.Coords) (k0_t5 : Fin (k0_t5_loop i).trips) : Fin 4 → Nat :=
  let c0_241 : Index := 0#32
  let c0_242 : Index := 0#32
  let c0_i32_87 : BitVec 32 := 0#32
  let c1_i32_89 : BitVec 32 := 1#32
  let arg10 : BitVec 32 := Scf.iv c0_i32_87 c1_i32_89 k0_t5
  let c256_i32_240 : BitVec 32 := 256#32
  let v436 : BitVec 32 := Scalar.muli arg10 c256_i32_240
  let v437 : BitVec 32 := v436
  let v438 : Index := Scalar.indexCast v437
  let c0_243 : Index := 0#32
  ![0, 0, v438.toNat, 0]
def k0_off13 (i : grid0.Coords) (k0_t5 : Fin (k0_t5_loop i).trips) : Fin 4 → Nat :=
  let c0_248 : Index := 0#32
  let c0_249 : Index := 0#32
  let c0_250 : Index := 0#32
  let c0_i32_87 : BitVec 32 := 0#32
  let c1_i32_89 : BitVec 32 := 1#32
  let arg10 : BitVec 32 := Scf.iv c0_i32_87 c1_i32_89 k0_t5
  let c256_i32_240 : BitVec 32 := 256#32
  let v436 : BitVec 32 := Scalar.muli arg10 c256_i32_240
  let v437 : BitVec 32 := v436
  let v462 : Index := Scalar.indexCast v437
  ![0, 0, 0, v462.toNat]
@[reducible] def k0_t6_loop (i : grid0.Coords) : Scf.Loop 32 :=
  let c0_i32_87 : BitVec 32 := 0#32
  let arg2 : BitVec 32 := BitVec.ofNat 32 (i 2).val
  let v162 : BitVec 32 := Scalar.subi arg2 c0_i32_87
  let c1_i32_88 : BitVec 32 := 1#32
  let v164 : BitVec 32 := Scalar.divsi v162 c1_i32_88
  let v165 : BitVec 32 := Scalar.muli v164 c1_i32_88
  let v166 : BitVec 32 := Scalar.addi c0_i32_87 v165
  let v163 : BitVec 32 := Scalar.addi c0_i32_87 v162
  let c1_i32_90 : BitVec 32 := 1#32
  ⟨v166, v163, c1_i32_90⟩
def k0_mult8 (i : grid0.Coords) (k0_t6 : Fin (k0_t6_loop i).trips) : BitVec 32 :=
  let c0_i32_87 : BitVec 32 := 0#32
  let arg2 : BitVec 32 := BitVec.ofNat 32 (i 2).val
  let v162 : BitVec 32 := Scalar.subi arg2 c0_i32_87
  let c1_i32_88 : BitVec 32 := 1#32
  let v164 : BitVec 32 := Scalar.divsi v162 c1_i32_88
  let v165 : BitVec 32 := Scalar.muli v164 c1_i32_88
  let v166 : BitVec 32 := Scalar.addi c0_i32_87 v165
  let c1_i32_90 : BitVec 32 := 1#32
  let arg10 : BitVec 32 := Scf.iv v166 c1_i32_90 k0_t6
  let c256_i32_240 : BitVec 32 := 256#32
  let v436 : BitVec 32 := Scalar.muli arg10 c256_i32_240
  v436
def k0_off14 (i : grid0.Coords) (k0_t6 : Fin (k0_t6_loop i).trips) : Fin 4 → Nat :=
  let c0_241 : Index := 0#32
  let c0_242 : Index := 0#32
  let c0_i32_87 : BitVec 32 := 0#32
  let arg2 : BitVec 32 := BitVec.ofNat 32 (i 2).val
  let v162 : BitVec 32 := Scalar.subi arg2 c0_i32_87
  let c1_i32_88 : BitVec 32 := 1#32
  let v164 : BitVec 32 := Scalar.divsi v162 c1_i32_88
  let v165 : BitVec 32 := Scalar.muli v164 c1_i32_88
  let v166 : BitVec 32 := Scalar.addi c0_i32_87 v165
  let c1_i32_90 : BitVec 32 := 1#32
  let arg10 : BitVec 32 := Scf.iv v166 c1_i32_90 k0_t6
  let c256_i32_240 : BitVec 32 := 256#32
  let v436 : BitVec 32 := Scalar.muli arg10 c256_i32_240
  let v437 : BitVec 32 := v436
  let v438 : Index := Scalar.indexCast v437
  let c0_243 : Index := 0#32
  ![0, 0, v438.toNat, 0]
def k0_off15 (i : grid0.Coords) (k0_t6 : Fin (k0_t6_loop i).trips) : Fin 4 → Nat :=
  let c0_248 : Index := 0#32
  let c0_249 : Index := 0#32
  let c0_250 : Index := 0#32
  let c0_i32_87 : BitVec 32 := 0#32
  let arg2 : BitVec 32 := BitVec.ofNat 32 (i 2).val
  let v162 : BitVec 32 := Scalar.subi arg2 c0_i32_87
  let c1_i32_88 : BitVec 32 := 1#32
  let v164 : BitVec 32 := Scalar.divsi v162 c1_i32_88
  let v165 : BitVec 32 := Scalar.muli v164 c1_i32_88
  let v166 : BitVec 32 := Scalar.addi c0_i32_87 v165
  let c1_i32_90 : BitVec 32 := 1#32
  let arg10 : BitVec 32 := Scf.iv v166 c1_i32_90 k0_t6
  let c256_i32_240 : BitVec 32 := 256#32
  let v436 : BitVec 32 := Scalar.muli arg10 c256_i32_240
  let v437 : BitVec 32 := v436
  let v462 : Index := Scalar.indexCast v437
  ![0, 0, 0, v462.toNat]
def k0_mult9 (i : grid0.Coords) : BitVec 32 :=
  let arg2 : BitVec 32 := BitVec.ofNat 32 (i 2).val
  let c256_i32_91 : BitVec 32 := 256#32
  let v169 : BitVec 32 := Scalar.muli arg2 c256_i32_91
  v169
@[reducible] def k0_t7_loop (i : grid0.Coords) : Scf.Loop 32 :=
  let c0_i32_127 : BitVec 32 := 0#32
  let arg2 : BitVec 32 := BitVec.ofNat 32 (i 2).val
  let v232 : BitVec 32 := Scalar.subi arg2 c0_i32_127
  let c1_i32_128 : BitVec 32 := 1#32
  let v234 : BitVec 32 := Scalar.divsi v232 c1_i32_128
  let v235 : BitVec 32 := Scalar.muli v234 c1_i32_128
  let v236 : BitVec 32 := Scalar.addi c0_i32_127 v235
  let c1_i32_129 : BitVec 32 := 1#32
  ⟨c0_i32_127, v236, c1_i32_129⟩
def k0_mult10 (i : grid0.Coords) (k0_t7 : Fin (k0_t7_loop i).trips) : BitVec 32 :=
  let c0_i32_127 : BitVec 32 := 0#32
  let c1_i32_129 : BitVec 32 := 1#32
  let arg10 : BitVec 32 := Scf.iv c0_i32_127 c1_i32_129 k0_t7
  let c256_i32_240 : BitVec 32 := 256#32
  let v436 : BitVec 32 := Scalar.muli arg10 c256_i32_240
  v436
def k0_off16 (i : grid0.Coords) (k0_t7 : Fin (k0_t7_loop i).trips) : Fin 4 → Nat :=
  let c0_241 : Index := 0#32
  let c0_242 : Index := 0#32
  let c0_i32_127 : BitVec 32 := 0#32
  let c1_i32_129 : BitVec 32 := 1#32
  let arg10 : BitVec 32 := Scf.iv c0_i32_127 c1_i32_129 k0_t7
  let c256_i32_240 : BitVec 32 := 256#32
  let v436 : BitVec 32 := Scalar.muli arg10 c256_i32_240
  let v437 : BitVec 32 := v436
  let v438 : Index := Scalar.indexCast v437
  let c0_243 : Index := 0#32
  ![0, 0, v438.toNat, 0]
def k0_off17 (i : grid0.Coords) (k0_t7 : Fin (k0_t7_loop i).trips) : Fin 4 → Nat :=
  let c0_248 : Index := 0#32
  let c0_249 : Index := 0#32
  let c0_250 : Index := 0#32
  let c0_i32_127 : BitVec 32 := 0#32
  let c1_i32_129 : BitVec 32 := 1#32
  let arg10 : BitVec 32 := Scf.iv c0_i32_127 c1_i32_129 k0_t7
  let c256_i32_240 : BitVec 32 := 256#32
  let v436 : BitVec 32 := Scalar.muli arg10 c256_i32_240
  let v437 : BitVec 32 := v436
  let v462 : Index := Scalar.indexCast v437
  ![0, 0, 0, v462.toNat]
@[reducible] def k0_t8_loop (i : grid0.Coords) : Scf.Loop 32 :=
  let c0_i32_127 : BitVec 32 := 0#32
  let arg2 : BitVec 32 := BitVec.ofNat 32 (i 2).val
  let v232 : BitVec 32 := Scalar.subi arg2 c0_i32_127
  let c1_i32_128 : BitVec 32 := 1#32
  let v234 : BitVec 32 := Scalar.divsi v232 c1_i32_128
  let v235 : BitVec 32 := Scalar.muli v234 c1_i32_128
  let v236 : BitVec 32 := Scalar.addi c0_i32_127 v235
  let v233 : BitVec 32 := Scalar.addi c0_i32_127 v232
  let c1_i32_130 : BitVec 32 := 1#32
  ⟨v236, v233, c1_i32_130⟩
def k0_mult11 (i : grid0.Coords) (k0_t8 : Fin (k0_t8_loop i).trips) : BitVec 32 :=
  let c0_i32_127 : BitVec 32 := 0#32
  let arg2 : BitVec 32 := BitVec.ofNat 32 (i 2).val
  let v232 : BitVec 32 := Scalar.subi arg2 c0_i32_127
  let c1_i32_128 : BitVec 32 := 1#32
  let v234 : BitVec 32 := Scalar.divsi v232 c1_i32_128
  let v235 : BitVec 32 := Scalar.muli v234 c1_i32_128
  let v236 : BitVec 32 := Scalar.addi c0_i32_127 v235
  let c1_i32_130 : BitVec 32 := 1#32
  let arg10 : BitVec 32 := Scf.iv v236 c1_i32_130 k0_t8
  let c256_i32_240 : BitVec 32 := 256#32
  let v436 : BitVec 32 := Scalar.muli arg10 c256_i32_240
  v436
def k0_off18 (i : grid0.Coords) (k0_t8 : Fin (k0_t8_loop i).trips) : Fin 4 → Nat :=
  let c0_241 : Index := 0#32
  let c0_242 : Index := 0#32
  let c0_i32_127 : BitVec 32 := 0#32
  let arg2 : BitVec 32 := BitVec.ofNat 32 (i 2).val
  let v232 : BitVec 32 := Scalar.subi arg2 c0_i32_127
  let c1_i32_128 : BitVec 32 := 1#32
  let v234 : BitVec 32 := Scalar.divsi v232 c1_i32_128
  let v235 : BitVec 32 := Scalar.muli v234 c1_i32_128
  let v236 : BitVec 32 := Scalar.addi c0_i32_127 v235
  let c1_i32_130 : BitVec 32 := 1#32
  let arg10 : BitVec 32 := Scf.iv v236 c1_i32_130 k0_t8
  let c256_i32_240 : BitVec 32 := 256#32
  let v436 : BitVec 32 := Scalar.muli arg10 c256_i32_240
  let v437 : BitVec 32 := v436
  let v438 : Index := Scalar.indexCast v437
  let c0_243 : Index := 0#32
  ![0, 0, v438.toNat, 0]
def k0_off19 (i : grid0.Coords) (k0_t8 : Fin (k0_t8_loop i).trips) : Fin 4 → Nat :=
  let c0_248 : Index := 0#32
  let c0_249 : Index := 0#32
  let c0_250 : Index := 0#32
  let c0_i32_127 : BitVec 32 := 0#32
  let arg2 : BitVec 32 := BitVec.ofNat 32 (i 2).val
  let v232 : BitVec 32 := Scalar.subi arg2 c0_i32_127
  let c1_i32_128 : BitVec 32 := 1#32
  let v234 : BitVec 32 := Scalar.divsi v232 c1_i32_128
  let v235 : BitVec 32 := Scalar.muli v234 c1_i32_128
  let v236 : BitVec 32 := Scalar.addi c0_i32_127 v235
  let c1_i32_130 : BitVec 32 := 1#32
  let arg10 : BitVec 32 := Scf.iv v236 c1_i32_130 k0_t8
  let c256_i32_240 : BitVec 32 := 256#32
  let v436 : BitVec 32 := Scalar.muli arg10 c256_i32_240
  let v437 : BitVec 32 := v436
  let v462 : Index := Scalar.indexCast v437
  ![0, 0, 0, v462.toNat]
def k0_mult12 (i : grid0.Coords) : BitVec 32 :=
  let arg2 : BitVec 32 := BitVec.ofNat 32 (i 2).val
  let c256_i32_131 : BitVec 32 := 256#32
  let v239 : BitVec 32 := Scalar.muli arg2 c256_i32_131
  v239
@[reducible] def k0_t9_loop (i : grid0.Coords) : Scf.Loop 32 :=
  let c0_i32_167 : BitVec 32 := 0#32
  let arg2 : BitVec 32 := BitVec.ofNat 32 (i 2).val
  let v302 : BitVec 32 := Scalar.subi arg2 c0_i32_167
  let c1_i32_168 : BitVec 32 := 1#32
  let v304 : BitVec 32 := Scalar.divsi v302 c1_i32_168
  let v305 : BitVec 32 := Scalar.muli v304 c1_i32_168
  let v306 : BitVec 32 := Scalar.addi c0_i32_167 v305
  let c1_i32_169 : BitVec 32 := 1#32
  ⟨c0_i32_167, v306, c1_i32_169⟩
def k0_mult13 (i : grid0.Coords) (k0_t9 : Fin (k0_t9_loop i).trips) : BitVec 32 :=
  let c0_i32_167 : BitVec 32 := 0#32
  let c1_i32_169 : BitVec 32 := 1#32
  let arg10 : BitVec 32 := Scf.iv c0_i32_167 c1_i32_169 k0_t9
  let c256_i32_240 : BitVec 32 := 256#32
  let v436 : BitVec 32 := Scalar.muli arg10 c256_i32_240
  v436
def k0_off20 (i : grid0.Coords) (k0_t9 : Fin (k0_t9_loop i).trips) : Fin 4 → Nat :=
  let c0_241 : Index := 0#32
  let c0_242 : Index := 0#32
  let c0_i32_167 : BitVec 32 := 0#32
  let c1_i32_169 : BitVec 32 := 1#32
  let arg10 : BitVec 32 := Scf.iv c0_i32_167 c1_i32_169 k0_t9
  let c256_i32_240 : BitVec 32 := 256#32
  let v436 : BitVec 32 := Scalar.muli arg10 c256_i32_240
  let v437 : BitVec 32 := v436
  let v438 : Index := Scalar.indexCast v437
  let c0_243 : Index := 0#32
  ![0, 0, v438.toNat, 0]
def k0_off21 (i : grid0.Coords) (k0_t9 : Fin (k0_t9_loop i).trips) : Fin 4 → Nat :=
  let c0_248 : Index := 0#32
  let c0_249 : Index := 0#32
  let c0_250 : Index := 0#32
  let c0_i32_167 : BitVec 32 := 0#32
  let c1_i32_169 : BitVec 32 := 1#32
  let arg10 : BitVec 32 := Scf.iv c0_i32_167 c1_i32_169 k0_t9
  let c256_i32_240 : BitVec 32 := 256#32
  let v436 : BitVec 32 := Scalar.muli arg10 c256_i32_240
  let v437 : BitVec 32 := v436
  let v462 : Index := Scalar.indexCast v437
  ![0, 0, 0, v462.toNat]
@[reducible] def k0_t10_loop (i : grid0.Coords) : Scf.Loop 32 :=
  let c0_i32_167 : BitVec 32 := 0#32
  let arg2 : BitVec 32 := BitVec.ofNat 32 (i 2).val
  let v302 : BitVec 32 := Scalar.subi arg2 c0_i32_167
  let c1_i32_168 : BitVec 32 := 1#32
  let v304 : BitVec 32 := Scalar.divsi v302 c1_i32_168
  let v305 : BitVec 32 := Scalar.muli v304 c1_i32_168
  let v306 : BitVec 32 := Scalar.addi c0_i32_167 v305
  let v303 : BitVec 32 := Scalar.addi c0_i32_167 v302
  let c1_i32_170 : BitVec 32 := 1#32
  ⟨v306, v303, c1_i32_170⟩
def k0_mult14 (i : grid0.Coords) (k0_t10 : Fin (k0_t10_loop i).trips) : BitVec 32 :=
  let c0_i32_167 : BitVec 32 := 0#32
  let arg2 : BitVec 32 := BitVec.ofNat 32 (i 2).val
  let v302 : BitVec 32 := Scalar.subi arg2 c0_i32_167
  let c1_i32_168 : BitVec 32 := 1#32
  let v304 : BitVec 32 := Scalar.divsi v302 c1_i32_168
  let v305 : BitVec 32 := Scalar.muli v304 c1_i32_168
  let v306 : BitVec 32 := Scalar.addi c0_i32_167 v305
  let c1_i32_170 : BitVec 32 := 1#32
  let arg10 : BitVec 32 := Scf.iv v306 c1_i32_170 k0_t10
  let c256_i32_240 : BitVec 32 := 256#32
  let v436 : BitVec 32 := Scalar.muli arg10 c256_i32_240
  v436
def k0_off22 (i : grid0.Coords) (k0_t10 : Fin (k0_t10_loop i).trips) : Fin 4 → Nat :=
  let c0_241 : Index := 0#32
  let c0_242 : Index := 0#32
  let c0_i32_167 : BitVec 32 := 0#32
  let arg2 : BitVec 32 := BitVec.ofNat 32 (i 2).val
  let v302 : BitVec 32 := Scalar.subi arg2 c0_i32_167
  let c1_i32_168 : BitVec 32 := 1#32
  let v304 : BitVec 32 := Scalar.divsi v302 c1_i32_168
  let v305 : BitVec 32 := Scalar.muli v304 c1_i32_168
  let v306 : BitVec 32 := Scalar.addi c0_i32_167 v305
  let c1_i32_170 : BitVec 32 := 1#32
  let arg10 : BitVec 32 := Scf.iv v306 c1_i32_170 k0_t10
  let c256_i32_240 : BitVec 32 := 256#32
  let v436 : BitVec 32 := Scalar.muli arg10 c256_i32_240
  let v437 : BitVec 32 := v436
  let v438 : Index := Scalar.indexCast v437
  let c0_243 : Index := 0#32
  ![0, 0, v438.toNat, 0]
def k0_off23 (i : grid0.Coords) (k0_t10 : Fin (k0_t10_loop i).trips) : Fin 4 → Nat :=
  let c0_248 : Index := 0#32
  let c0_249 : Index := 0#32
  let c0_250 : Index := 0#32
  let c0_i32_167 : BitVec 32 := 0#32
  let arg2 : BitVec 32 := BitVec.ofNat 32 (i 2).val
  let v302 : BitVec 32 := Scalar.subi arg2 c0_i32_167
  let c1_i32_168 : BitVec 32 := 1#32
  let v304 : BitVec 32 := Scalar.divsi v302 c1_i32_168
  let v305 : BitVec 32 := Scalar.muli v304 c1_i32_168
  let v306 : BitVec 32 := Scalar.addi c0_i32_167 v305
  let c1_i32_170 : BitVec 32 := 1#32
  let arg10 : BitVec 32 := Scf.iv v306 c1_i32_170 k0_t10
  let c256_i32_240 : BitVec 32 := 256#32
  let v436 : BitVec 32 := Scalar.muli arg10 c256_i32_240
  let v437 : BitVec 32 := v436
  let v462 : Index := Scalar.indexCast v437
  ![0, 0, 0, v462.toNat]
def k0_mult15 (i : grid0.Coords) : BitVec 32 :=
  let arg2 : BitVec 32 := BitVec.ofNat 32 (i 2).val
  let c256_i32_171 : BitVec 32 := 256#32
  let v309 : BitVec 32 := Scalar.muli arg2 c256_i32_171
  v309
@[reducible] def k0_t11_loop (i : grid0.Coords) : Scf.Loop 32 :=
  let c0_i32_207 : BitVec 32 := 0#32
  let arg2 : BitVec 32 := BitVec.ofNat 32 (i 2).val
  let v372 : BitVec 32 := Scalar.subi arg2 c0_i32_207
  let c1_i32_208 : BitVec 32 := 1#32
  let v374 : BitVec 32 := Scalar.divsi v372 c1_i32_208
  let v375 : BitVec 32 := Scalar.muli v374 c1_i32_208
  let v376 : BitVec 32 := Scalar.addi c0_i32_207 v375
  let c1_i32_209 : BitVec 32 := 1#32
  ⟨c0_i32_207, v376, c1_i32_209⟩
def k0_mult16 (i : grid0.Coords) (k0_t11 : Fin (k0_t11_loop i).trips) : BitVec 32 :=
  let c0_i32_207 : BitVec 32 := 0#32
  let c1_i32_209 : BitVec 32 := 1#32
  let arg10 : BitVec 32 := Scf.iv c0_i32_207 c1_i32_209 k0_t11
  let c256_i32_240 : BitVec 32 := 256#32
  let v436 : BitVec 32 := Scalar.muli arg10 c256_i32_240
  v436
def k0_off24 (i : grid0.Coords) (k0_t11 : Fin (k0_t11_loop i).trips) : Fin 4 → Nat :=
  let c0_241 : Index := 0#32
  let c0_242 : Index := 0#32
  let c0_i32_207 : BitVec 32 := 0#32
  let c1_i32_209 : BitVec 32 := 1#32
  let arg10 : BitVec 32 := Scf.iv c0_i32_207 c1_i32_209 k0_t11
  let c256_i32_240 : BitVec 32 := 256#32
  let v436 : BitVec 32 := Scalar.muli arg10 c256_i32_240
  let v437 : BitVec 32 := v436
  let v438 : Index := Scalar.indexCast v437
  let c0_243 : Index := 0#32
  ![0, 0, v438.toNat, 0]
def k0_off25 (i : grid0.Coords) (k0_t11 : Fin (k0_t11_loop i).trips) : Fin 4 → Nat :=
  let c0_248 : Index := 0#32
  let c0_249 : Index := 0#32
  let c0_250 : Index := 0#32
  let c0_i32_207 : BitVec 32 := 0#32
  let c1_i32_209 : BitVec 32 := 1#32
  let arg10 : BitVec 32 := Scf.iv c0_i32_207 c1_i32_209 k0_t11
  let c256_i32_240 : BitVec 32 := 256#32
  let v436 : BitVec 32 := Scalar.muli arg10 c256_i32_240
  let v437 : BitVec 32 := v436
  let v462 : Index := Scalar.indexCast v437
  ![0, 0, 0, v462.toNat]
@[reducible] def k0_t12_loop (i : grid0.Coords) : Scf.Loop 32 :=
  let c0_i32_207 : BitVec 32 := 0#32
  let arg2 : BitVec 32 := BitVec.ofNat 32 (i 2).val
  let v372 : BitVec 32 := Scalar.subi arg2 c0_i32_207
  let c1_i32_208 : BitVec 32 := 1#32
  let v374 : BitVec 32 := Scalar.divsi v372 c1_i32_208
  let v375 : BitVec 32 := Scalar.muli v374 c1_i32_208
  let v376 : BitVec 32 := Scalar.addi c0_i32_207 v375
  let v373 : BitVec 32 := Scalar.addi c0_i32_207 v372
  let c1_i32_210 : BitVec 32 := 1#32
  ⟨v376, v373, c1_i32_210⟩
def k0_mult17 (i : grid0.Coords) (k0_t12 : Fin (k0_t12_loop i).trips) : BitVec 32 :=
  let c0_i32_207 : BitVec 32 := 0#32
  let arg2 : BitVec 32 := BitVec.ofNat 32 (i 2).val
  let v372 : BitVec 32 := Scalar.subi arg2 c0_i32_207
  let c1_i32_208 : BitVec 32 := 1#32
  let v374 : BitVec 32 := Scalar.divsi v372 c1_i32_208
  let v375 : BitVec 32 := Scalar.muli v374 c1_i32_208
  let v376 : BitVec 32 := Scalar.addi c0_i32_207 v375
  let c1_i32_210 : BitVec 32 := 1#32
  let arg10 : BitVec 32 := Scf.iv v376 c1_i32_210 k0_t12
  let c256_i32_240 : BitVec 32 := 256#32
  let v436 : BitVec 32 := Scalar.muli arg10 c256_i32_240
  v436
def k0_off26 (i : grid0.Coords) (k0_t12 : Fin (k0_t12_loop i).trips) : Fin 4 → Nat :=
  let c0_241 : Index := 0#32
  let c0_242 : Index := 0#32
  let c0_i32_207 : BitVec 32 := 0#32
  let arg2 : BitVec 32 := BitVec.ofNat 32 (i 2).val
  let v372 : BitVec 32 := Scalar.subi arg2 c0_i32_207
  let c1_i32_208 : BitVec 32 := 1#32
  let v374 : BitVec 32 := Scalar.divsi v372 c1_i32_208
  let v375 : BitVec 32 := Scalar.muli v374 c1_i32_208
  let v376 : BitVec 32 := Scalar.addi c0_i32_207 v375
  let c1_i32_210 : BitVec 32 := 1#32
  let arg10 : BitVec 32 := Scf.iv v376 c1_i32_210 k0_t12
  let c256_i32_240 : BitVec 32 := 256#32
  let v436 : BitVec 32 := Scalar.muli arg10 c256_i32_240
  let v437 : BitVec 32 := v436
  let v438 : Index := Scalar.indexCast v437
  let c0_243 : Index := 0#32
  ![0, 0, v438.toNat, 0]
def k0_off27 (i : grid0.Coords) (k0_t12 : Fin (k0_t12_loop i).trips) : Fin 4 → Nat :=
  let c0_248 : Index := 0#32
  let c0_249 : Index := 0#32
  let c0_250 : Index := 0#32
  let c0_i32_207 : BitVec 32 := 0#32
  let arg2 : BitVec 32 := BitVec.ofNat 32 (i 2).val
  let v372 : BitVec 32 := Scalar.subi arg2 c0_i32_207
  let c1_i32_208 : BitVec 32 := 1#32
  let v374 : BitVec 32 := Scalar.divsi v372 c1_i32_208
  let v375 : BitVec 32 := Scalar.muli v374 c1_i32_208
  let v376 : BitVec 32 := Scalar.addi c0_i32_207 v375
  let c1_i32_210 : BitVec 32 := 1#32
  let arg10 : BitVec 32 := Scf.iv v376 c1_i32_210 k0_t12
  let c256_i32_240 : BitVec 32 := 256#32
  let v436 : BitVec 32 := Scalar.muli arg10 c256_i32_240
  let v437 : BitVec 32 := v436
  let v462 : Index := Scalar.indexCast v437
  ![0, 0, 0, v462.toNat]
def k0_mult18 (i : grid0.Coords) : BitVec 32 :=
  let arg2 : BitVec 32 := BitVec.ofNat 32 (i 2).val
  let c256_i32_211 : BitVec 32 := 256#32
  let v379 : BitVec 32 := Scalar.muli arg2 c256_i32_211
  v379
def k0_cond1 (i : grid0.Coords) (v2 : BitVec 32) : BitVec 1 :=
  let arg2 : BitVec 32 := BitVec.ofNat 32 (i 2).val
  let c256_i32 : BitVec 32 := 256#32
  let v0 : BitVec 32 := Scalar.muli arg2 c256_i32
  let v10 : BitVec 1 := Scalar.cmpi .slt v0 v2
  let v11 : BitVec 32 := Scalar.extui v10
  let c0_i32 : BitVec 32 := 0#32
  let v12 : BitVec 1 := Scalar.cmpi .ne v11 c0_i32
  v12

def k0_cond2 (i : grid0.Coords) (v2 : BitVec 32) : BitVec 1 :=
  let arg2 : BitVec 32 := BitVec.ofNat 32 (i 2).val
  let c256_i32 : BitVec 32 := 256#32
  let v0 : BitVec 32 := Scalar.muli arg2 c256_i32
  let v13 : BitVec 1 := Scalar.cmpi .sge v0 v2
  let v14 : BitVec 32 := Scalar.extui v13
  let c0_i32_0 : BitVec 32 := 0#32
  let v15 : BitVec 1 := Scalar.cmpi .ne v14 c0_i32_0
  v15

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x6x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x12288x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x12288 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x6x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x6x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x6x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x48x128x12288 : Shape := ⟨4, ![2, 48, 128, 12288]⟩
abbrev S2x8x12288x128 : Shape := ⟨4, ![2, 8, 12288, 128]⟩
abbrev S2x8x128x12288 : Shape := ⟨4, ![2, 8, 128, 12288]⟩
abbrev S2 : Shape := ⟨1, ![2]⟩
abbrev S2x8x6x128x12288 : Shape := ⟨5, ![2, 8, 6, 128, 12288]⟩
abbrev S12288 : Shape := ⟨1, ![12288]⟩
abbrev S1x12288 : Shape := ⟨2, ![1, 12288]⟩
abbrev S2x1 : Shape := ⟨2, ![2, 1]⟩
abbrev S2x12288 : Shape := ⟨2, ![2, 12288]⟩
abbrev S2x8x6x12288x12288 : Shape := ⟨5, ![2, 8, 6, 12288, 12288]⟩
abbrev S_ : Shape := ⟨0, ![]⟩
abbrev S12288x1 : Shape := ⟨2, ![12288, 1]⟩
abbrev S12288x12288 : Shape := ⟨2, ![12288, 12288]⟩
abbrev S1x12288x12288 : Shape := ⟨3, ![1, 12288, 12288]⟩
abbrev S2x12288x1 : Shape := ⟨3, ![2, 12288, 1]⟩
abbrev S2x12288x12288 : Shape := ⟨3, ![2, 12288, 12288]⟩
abbrev S2x1x1x12288x12288 : Shape := ⟨5, ![2, 1, 1, 12288, 12288]⟩
abbrev S2x8x6x12288 : Shape := ⟨4, ![2, 8, 6, 12288]⟩
abbrev S2x8x6x1x12288 : Shape := ⟨5, ![2, 8, 6, 1, 12288]⟩
abbrev S2x8x6x12288x128 : Shape := ⟨5, ![2, 8, 6, 12288, 128]⟩
abbrev S2x1x1x1x12288 : Shape := ⟨5, ![2, 1, 1, 1, 12288]⟩
abbrev S2x1x1x12288 : Shape := ⟨4, ![2, 1, 1, 12288]⟩
abbrev S8x6 : Shape := ⟨2, ![8, 6]⟩
abbrev S48 : Shape := ⟨1, ![48]⟩
abbrev S2x48x12288 : Shape := ⟨3, ![2, 48, 12288]⟩

abbrev nBuf : Space → Nat
  | .hbm => 103
  | .vmem => 0
  | .smem => 0
  | _ => 0

abbrev bufTy : (tb : Table) → Fin (tcTables nBuf tb) → BufTy
  | .hbm, ⟨0, _⟩ => ⟨S2x48x128x12288, .bf16⟩
  | .hbm, ⟨1, _⟩ => ⟨S2x8x12288x128, .bf16⟩
  | .hbm, ⟨2, _⟩ => ⟨S2x8x128x12288, .bf16⟩
  | .hbm, ⟨3, _⟩ => ⟨S2, .i32⟩
  | .hbm, ⟨4, _⟩ => ⟨S2x8x6x128x12288, .bf16⟩
  | .hbm, ⟨5, _⟩ => ⟨S12288, .i32⟩
  | .hbm, ⟨6, _⟩ => ⟨S1x12288, .i32⟩
  | .hbm, ⟨7, _⟩ => ⟨S2x1, .i32⟩
  | .hbm, ⟨8, _⟩ => ⟨S2x12288, .i32⟩
  | .hbm, ⟨9, _⟩ => ⟨S2x12288, .i32⟩
  | .hbm, ⟨10, _⟩ => ⟨S2x12288, .i1⟩
  | .hbm, ⟨11, _⟩ => ⟨S2x8x6x12288x12288, .f32⟩
  | .hbm, ⟨12, _⟩ => ⟨S2x8x6x12288x12288, .f32⟩
  | .hbm, ⟨13, _⟩ => ⟨S_, .f32⟩
  | .hbm, ⟨14, _⟩ => ⟨S2x8x6x12288x12288, .f32⟩
  | .hbm, ⟨15, _⟩ => ⟨S2x8x6x12288x12288, .f32⟩
  | .hbm, ⟨16, _⟩ => ⟨S12288x1, .i32⟩
  | .hbm, ⟨17, _⟩ => ⟨S1x12288, .i32⟩
  | .hbm, ⟨18, _⟩ => ⟨S12288x12288, .i32⟩
  | .hbm, ⟨19, _⟩ => ⟨S12288x12288, .i32⟩
  | .hbm, ⟨20, _⟩ => ⟨S12288x12288, .i1⟩
  | .hbm, ⟨21, _⟩ => ⟨S1x12288x12288, .i1⟩
  | .hbm, ⟨22, _⟩ => ⟨S2x12288x1, .i1⟩
  | .hbm, ⟨23, _⟩ => ⟨S2x12288x12288, .i1⟩
  | .hbm, ⟨24, _⟩ => ⟨S2x12288x12288, .i1⟩
  | .hbm, ⟨25, _⟩ => ⟨S2x12288x12288, .i1⟩
  | .hbm, ⟨26, _⟩ => ⟨S2x1x1x12288x12288, .i1⟩
  | .hbm, ⟨27, _⟩ => ⟨S2x8x6x12288x12288, .f32⟩
  | .hbm, ⟨28, _⟩ => ⟨S_, .f32⟩
  | .hbm, ⟨29, _⟩ => ⟨S_, .f32⟩
  | .hbm, ⟨30, _⟩ => ⟨S2x8x6x12288x12288, .i1⟩
  | .hbm, ⟨31, _⟩ => ⟨S2x8x6x12288x12288, .f32⟩
  | .hbm, ⟨32, _⟩ => ⟨S2x8x6x12288x12288, .f32⟩
  | .hbm, ⟨33, _⟩ => ⟨S_, .f32⟩
  | .hbm, ⟨34, _⟩ => ⟨S2x8x6x12288, .f32⟩
  | .hbm, ⟨35, _⟩ => ⟨S_, .f32⟩
  | .hbm, ⟨36, _⟩ => ⟨S_, .f32⟩
  | .hbm, ⟨37, _⟩ => ⟨S2x8x6x12288x12288, .i1⟩
  | .hbm, ⟨38, _⟩ => ⟨S2x8x6x12288x12288, .f32⟩
  | .hbm, ⟨39, _⟩ => ⟨S2x8x6x12288x12288, .f32⟩
  | .hbm, ⟨40, _⟩ => ⟨S_, .f32⟩
  | .hbm, ⟨41, _⟩ => ⟨S2x8x6x12288, .f32⟩
  | .hbm, ⟨42, _⟩ => ⟨S2x8x6x1x12288, .f32⟩
  | .hbm, ⟨43, _⟩ => ⟨S2x8x6x12288x12288, .f32⟩
  | .hbm, ⟨44, _⟩ => ⟨S2x8x6x12288x12288, .f32⟩
  | .hbm, ⟨45, _⟩ => ⟨S2x8x6x12288x12288, .f32⟩
  | .hbm, ⟨46, _⟩ => ⟨S_, .f32⟩
  | .hbm, ⟨47, _⟩ => ⟨S_, .f32⟩
  | .hbm, ⟨48, _⟩ => ⟨S2x8x6x12288x12288, .i1⟩
  | .hbm, ⟨49, _⟩ => ⟨S2x8x6x12288x12288, .f32⟩
  | .hbm, ⟨50, _⟩ => ⟨S2x8x6x12288x12288, .f32⟩
  | .hbm, ⟨51, _⟩ => ⟨S_, .f32⟩
  | .hbm, ⟨52, _⟩ => ⟨S2x8x6x12288, .f32⟩
  | .hbm, ⟨53, _⟩ => ⟨S2x8x6x1x12288, .f32⟩
  | .hbm, ⟨54, _⟩ => ⟨S2x8x6x12288x12288, .f32⟩
  | .hbm, ⟨55, _⟩ => ⟨S2x8x6x12288x12288, .f32⟩
  | .hbm, ⟨56, _⟩ => ⟨S2x8x6x12288x12288, .bf16⟩
  | .hbm, ⟨57, _⟩ => ⟨S2x8x6x12288x128, .f32⟩
  | .hbm, ⟨58, _⟩ => ⟨S2x8x6x128x12288, .f32⟩
  | .hbm, ⟨59, _⟩ => ⟨S2x1x1x1x12288, .i1⟩
  | .hbm, ⟨60, _⟩ => ⟨S_, .f32⟩
  | .hbm, ⟨61, _⟩ => ⟨S_, .f32⟩
  | .hbm, ⟨62, _⟩ => ⟨S2x8x6x128x12288, .i1⟩
  | .hbm, ⟨63, _⟩ => ⟨S2x8x6x128x12288, .f32⟩
  | .hbm, ⟨64, _⟩ => ⟨S2x8x6x128x12288, .f32⟩
  | .hbm, ⟨65, _⟩ => ⟨S2x1x1x12288, .i1⟩
  | .hbm, ⟨66, _⟩ => ⟨S_, .f32⟩
  | .hbm, ⟨67, _⟩ => ⟨S_, .f32⟩
  | .hbm, ⟨68, _⟩ => ⟨S2x8x6x12288, .i1⟩
  | .hbm, ⟨69, _⟩ => ⟨S2x8x6x12288, .f32⟩
  | .hbm, ⟨70, _⟩ => ⟨S2x8x6x12288, .f32⟩
  | .hbm, ⟨71, _⟩ => ⟨S2x8x6x128x12288, .f32⟩
  | .hbm, ⟨72, _⟩ => ⟨S_, .f32⟩
  | .hbm, ⟨73, _⟩ => ⟨S2x8x6x12288, .f32⟩
  | .hbm, ⟨74, _⟩ => ⟨S_, .f32⟩
  | .hbm, ⟨75, _⟩ => ⟨S8x6, .f32⟩
  | .hbm, ⟨76, _⟩ => ⟨S48, .f32⟩
  | .hbm, ⟨77, _⟩ => ⟨S_, .f32⟩
  | .hbm, ⟨78, _⟩ => ⟨S8x6, .f32⟩
  | .hbm, ⟨79, _⟩ => ⟨S48, .f32⟩
  | .hbm, ⟨80, _⟩ => ⟨S_, .f32⟩
  | .hbm, ⟨81, _⟩ => ⟨S48, .f32⟩
  | .hbm, ⟨82, _⟩ => ⟨S48, .i1⟩
  | .hbm, ⟨83, _⟩ => ⟨S_, .f32⟩
  | .hbm, ⟨84, _⟩ => ⟨S48, .f32⟩
  | .hbm, ⟨85, _⟩ => ⟨S48, .f32⟩
  | .hbm, ⟨86, _⟩ => ⟨S_, .f32⟩
  | .hbm, ⟨87, _⟩ => ⟨S_, .f32⟩
  | .hbm, ⟨88, _⟩ => ⟨S48, .f32⟩
  | .hbm, ⟨89, _⟩ => ⟨S48, .f32⟩
  | .hbm, ⟨90, _⟩ => ⟨S_, .f32⟩
  | .hbm, ⟨91, _⟩ => ⟨S48, .f32⟩
  | .hbm, ⟨92, _⟩ => ⟨S48, .i1⟩
  | .hbm, ⟨93, _⟩ => ⟨S_, .f32⟩
  | .hbm, ⟨94, _⟩ => ⟨S48, .f32⟩
  | .hbm, ⟨95, _⟩ => ⟨S48, .f32⟩
  | .hbm, ⟨96, _⟩ => ⟨S_, .f32⟩
  | .hbm, ⟨97, _⟩ => ⟨S_, .f32⟩
  | .hbm, ⟨98, _⟩ => ⟨S48, .f32⟩
  | .hbm, ⟨99, _⟩ => ⟨S48, .f32⟩
  | .hbm, ⟨100, _⟩ => ⟨S2x48x12288, .f32⟩
  | .hbm, ⟨101, _⟩ => ⟨S2x48x12288, .f32⟩
  | .hbm, ⟨102, _⟩ => ⟨S2x48x128x12288, .f32⟩
  | _, _ => ⟨S2x48x128x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_call5_v0 : Ref sig .tc := ⟨.hbm, 87, rfl⟩
abbrev main_call5_v1 : Ref sig .tc := ⟨.hbm, 88, rfl⟩
abbrev main_v53 : Ref sig .tc := ⟨.hbm, 89, rfl⟩
abbrev main_cst_14 : Ref sig .tc := ⟨.hbm, 90, rfl⟩
abbrev main_v54 : Ref sig .tc := ⟨.hbm, 91, rfl⟩
abbrev main_v55 : Ref sig .tc := ⟨.hbm, 92, rfl⟩
abbrev main_cst_15 : Ref sig .tc := ⟨.hbm, 93, rfl⟩
abbrev main_v56 : Ref sig .tc := ⟨.hbm, 94, rfl⟩
abbrev main_v57 : Ref sig .tc := ⟨.hbm, 95, rfl⟩
abbrev main_cst_16 : Ref sig .tc := ⟨.hbm, 96, rfl⟩
abbrev main_call6_v0 : Ref sig .tc := ⟨.hbm, 97, rfl⟩
abbrev main_call6_v1 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩

abbrev nD : Nat := 1
abbrev τ : Topo := Topo.v7x

variable {F : FTy → Type} [FloatOps F]
-- ==== Quant.lean ====
abbrev S2x48x128x12288 : Shape := ⟨4, ![2, 48, 128, 12288]⟩
abbrev S2x48x12288 : Shape := ⟨3, ![2, 48, 12288]⟩
abbrev S48 : Shape := ⟨1, ![48]⟩
abbrev S2x12288x48x128 : Shape := ⟨4, ![2, 12288, 48, 128]⟩
abbrev S2x12288x48 : Shape := ⟨3, ![2, 12288, 48]⟩
abbrev S1x48x128x256 : Shape := ⟨4, ![1, 48, 128, 256]⟩
abbrev S1x48x256 : Shape := ⟨3, ![1, 48, 256]⟩
abbrev S1x256x48x128 : Shape := ⟨4, ![1, 256, 48, 128]⟩
abbrev S1x256x48 : Shape := ⟨3, ![1, 256, 48]⟩
abbrev S256x128 : Shape := ⟨2, ![256, 128]⟩
abbrev S1x1x128x256 : Shape := ⟨4, ![1, 1, 128, 256]⟩
abbrev S128x256 : Shape := ⟨2, ![128, 256]⟩
abbrev S1 : Shape := ⟨1, ![1]⟩
abbrev S32x256 : Shape := ⟨2, ![32, 256]⟩
abbrev S256x128x1 : Shape := ⟨3, ![256, 128, 1]⟩
abbrev S256x1x128 : Shape := ⟨3, ![256, 1, 128]⟩
abbrev S256x4x128 : Shape := ⟨3, ![256, 4, 128]⟩
abbrev S1x256x4x128 : Shape := ⟨4, ![1, 256, 4, 128]⟩
abbrev S48x256 : Shape := ⟨2, ![48, 256]⟩
abbrev S256x48 : Shape := ⟨2, ![256, 48]⟩

abbrev nBuf : Space → Nat
  | .hbm => 7
  | .vmem => 12
  | .smem => 1
  | _ => 0

abbrev bufTy : (tb : Table) → Fin (tcTables nBuf tb) → BufTy
  | .hbm, ⟨0, _⟩ => ⟨S2x48x128x12288, .f32⟩
  | .hbm, ⟨1, _⟩ => ⟨S2x48x12288, .f32⟩
  | .hbm, ⟨2, _⟩ => ⟨S2x48x12288, .f32⟩
  | .hbm, ⟨3, _⟩ => ⟨S48, .f32⟩
  | .hbm, ⟨4, _⟩ => ⟨S2x12288x48x128, .fp8e4m3⟩
  | .hbm, ⟨5, _⟩ => ⟨S2x12288x48, .f32⟩
  | .hbm, ⟨6, _⟩ => ⟨S2x12288x48, .f32⟩
  | .local _ .vmem, ⟨0, _⟩ => ⟨S1x48x128x256, .f32⟩
  | .local _ .vmem, ⟨1, _⟩ => ⟨S1x48x128x256, .f32⟩
  | .local _ .vmem, ⟨2, _⟩ => ⟨S1x48x256, .f32⟩
  | .local _ .vmem, ⟨3, _⟩ => ⟨S1x48x256, .f32⟩
  | .local _ .vmem, ⟨4, _⟩ => ⟨S1x48x256, .f32⟩
  | .local _ .vmem, ⟨5, _⟩ => ⟨S1x48x256, .f32⟩
  | .local _ .vmem, ⟨6, _⟩ => ⟨S1x256x48x128, .fp8e4m3⟩
  | .local _ .vmem, ⟨7, _⟩ => ⟨S1x256x48x128, .fp8e4m3⟩
  | .local _ .vmem, ⟨8, _⟩ => ⟨S1x256x48, .f32⟩
  | .local _ .vmem, ⟨9, _⟩ => ⟨S1x256x48, .f32⟩
  | .local _ .vmem, ⟨10, _⟩ => ⟨S1x256x48, .f32⟩
  | .local _ .vmem, ⟨11, _⟩ => ⟨S1x256x48, .f32⟩
  | .local _ .smem, ⟨0, _⟩ => ⟨S48, .f32⟩
  | _, _ => ⟨S2x48x128x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨2, ![2, 48], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x48x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x48x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x48x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x48x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x48 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QuantReference.lean ====
abbrev S2x48x128x12288 : Shape := ⟨4, ![2, 48, 128, 12288]⟩
abbrev S2x48x12288 : Shape := ⟨3, ![2, 48, 12288]⟩
abbrev S48 : Shape := ⟨1, ![48]⟩
abbrev S2x12288x48x128 : Shape := ⟨4, ![2, 12288, 48, 128]⟩
abbrev S2x12288x48 : Shape := ⟨3, ![2, 12288, 48]⟩
abbrev S48x1 : Shape := ⟨2, ![48, 1]⟩
abbrev S1x1x48x1 : Shape := ⟨4, ![1, 1, 48, 1]⟩

abbrev nBuf : Space → Nat
  | .hbm => 9
  | .vmem => 3
  | .smem => 0
  | _ => 0

abbrev bufTy : (tb : Table) → Fin (tcTables nBuf tb) → BufTy
  | .hbm, ⟨0, _⟩ => ⟨S2x48x128x12288, .f32⟩
  | .hbm, ⟨1, _⟩ => ⟨S2x48x12288, .f32⟩
  | .hbm, ⟨2, _⟩ => ⟨S2x48x12288, .f32⟩
  | .hbm, ⟨3, _⟩ => ⟨S48, .f32⟩
  | .hbm, ⟨4, _⟩ => ⟨S2x12288x48x128, .f32⟩
  | .hbm, ⟨5, _⟩ => ⟨S2x12288x48, .f32⟩
  | .hbm, ⟨6, _⟩ => ⟨S2x12288x48, .f32⟩
  | .hbm, ⟨7, _⟩ => ⟨S48x1, .f32⟩
  | .hbm, ⟨8, _⟩ => ⟨S2x12288x48x128, .fp8e4m3⟩
  | .local _ .vmem, ⟨0, _⟩ => ⟨S2x12288x48x128, .f32⟩
  | .local _ .vmem, ⟨1, _⟩ => ⟨S48x1, .f32⟩
  | .local _ .vmem, ⟨2, _⟩ => ⟨S2x12288x48x128, .fp8e4m3⟩
  | _, _ => ⟨S2x48x128x12288, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x12288x48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x12288x48x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelPoints.lean ====
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 3 (fun _ => rfl) (by decide)) (P := 1) (by decide) t).mpr (Nat.mod_one _) : ∀ t : Fin grid0.N, Pipeline.Window.fetchOf grid0 false cc0_transform_0 t = true)
/-- Window 1 (operand 2 (%arg1)) is fetched at the points ≡ 0 (mod 48), at any contents of the tables (its index map reads none). -/
theorem fetch0_1 (a : (pcfg0 (F := F)).Adm) : ∀ t : Fin (cfg0 a).N, ((cfg0 a).win 1).fetch t = true ↔ t.val % 48 = 0 :=
  (fun t => Pipeline.Window.fetchOf_reads cc0_transform_1 reads0_1 hreads0_1 1 (by decide) (by decide) (Pipeline.Window.sep_of_coord cc0_transform_1 1 1 (fun _ => rfl) (by decide)) (P := 48) (by decide) t : ∀ t : Fin grid0.N, Pipeline.Window.fetchOf grid0 false cc0_transform_1 t = true ↔ t.val % 48 = 0)
/-- Window 2 (operand 3 (%arg2)) is fetched at the points ≡ 0 (mod 48), at any contents of the tables (its index map reads none). -/
theorem fetch0_2 (a : (pcfg0 (F := F)).Adm) : ∀ t : Fin (cfg0 a).N, ((cfg0 a).win 2).fetch t = true ↔ t.val % 48 = 0 :=
  (fun t => Pipeline.Window.fetchOf_reads cc0_transform_2 reads0_2 hreads0_2 1 (by decide) (by decide) (Pipeline.Window.sep_of_coord cc0_transform_2 1 1 (fun _ => rfl) (by decide)) (P := 48) (by decide) t : ∀ t : Fin grid0.N, Pipeline.Window.fetchOf grid0 false cc0_transform_2 t = true ↔ t.val % 48 = 0)
/-- Window 3 (result 0 (%0#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 2 (by decide) (by decide) (Pipeline.Window.sep_of_coord cc0_transform_3 2 3 (fun _ => rfl) (by decide)) (P := 1) (m := 0) (by decide) rfl t).mpr (Nat.mod_one _) : ∀ t : Fin grid0.N, Pipeline.Window.flushOf grid0 true cc0_transform_3 t = true)
/-- Window 4 (result 1 (%0#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 2 (by decide) (by decide) (Pipeline.Window.sep_of_coord cc0_transform_4 2 3 (fun _ => rfl) (by decide)) (P := 1) (m := 0) (by decide) rfl t).mpr (Nat.mod_one _) : ∀ t : Fin grid0.N, Pipeline.Window.flushOf grid0 true cc0_transform_4 t = true)
/-- Window 5 (result 2 (%0#2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 2 (by decide) (by decide) (Pipeline.Window.sep_of_coord cc0_transform_5 2 3 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
/-- The stage of window 1 at a step. -/
abbrev st0_1 (a : (pcfg0 (F := F)).Adm) (t : Fin (cfg0 a).N) := ((cfg0 a).win 1).stage ((cfg0 a).slots t 1)
/-- The stage of window 2 at a step. -/
abbrev st0_2 (a : (pcfg0 (F := F)).Adm) (t : Fin (cfg0 a).N) := ((cfg0 a).win 2).stage ((cfg0 a).slots t 2)
/-- The stage of window 3 at a step. -/
abbrev st0_3 (a : (pcfg0 (F := F)).Adm) (t : Fin (cfg0 a).N) := ((cfg0 a).win 3).stage ((cfg0 a).slots t 3)
/-- The stage of window 4 at a step. -/
abbrev st0_4 (a : (pcfg0 (F := F)).Adm) (t : Fin (cfg0 a).N) := ((cfg0 a).win 4).stage ((cfg0 a).slots t 4)
/-- The stage of window 5 at a step. -/
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attn (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

end Cert.Kernel.Gen

end
-- ==== Proof.KernelRuns.lean ====
module

public import proofs.«01_k».proof.Proof.Gen.Kernel.Launch
public import proofs.«01_k».proof.Proof.Gen.Kernel.Skeleton
public import proofs.«01_k».proof.Proof.Gen.Kernel.Loops
public import proofs.«01_k».proof.Proof.KernelPoints
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main begins with the region). -/
abbrev V (c : Dev nD) (b : Ref sig .tc) : Buf (Elt F) ((c : Thread nD τ).loc b) := m ((c : Thread nD τ).loc b)

/-- The same contents as a valuation of the device's buffers. -/
abbrev V0 (c : Dev nD) : Valuation τ sig (Elt F) := StableHlo.after (List.flatten []) (fun b => m (c, b))

/-- The host lines after the call: the reshapes, the maxima over batch and position, and the two scales. -/
abbrev tail : List (List (HloOp τ sig (Elt F))) := [hostOps1, hostOps1_1, hostOps1_2, hostOps1_3]

set_option maxHeartbeats 800000 in
/-- @main at the certificate's variants `𝒱₀`: the region, continued by the host lines after it (`Pipeline.hmainP_around` off
    `main_chain`). -/
theorem hmain (𝒱₀ : Variants) : Pipeline.HMainPK (Ix := Unit) (Name := ℕ) (U := UR sig nD τ) (Lvl := ℕ) pcfgs 0 defs₀ 𝒱₀ m (main (F := F)) (fun c b => V0 m c (Proc.devRef .tc b))
      (fun _ => Pipeline.chain ((tail (F := F)).map StableHlo.seq)) :=
  Pipeline.hmainP_around pcfgs 0 defs₀ 𝒱₀ m main [] tail (by simp only [List.Forall]) (by simp only [List.Forall]) main_chain

/-- The host lines touch the call's arrays and the buffers that bypass it only, and not the length table. -/
theorem tail_sub : ∀ ops ∈ (tail : List (List (HloOp τ sig (Elt F)))), ∀ op ∈ ops, op.bufs ⊆ Pipeline.tailRefs sig pre0 spec0 := by
  intro ops hops op hop
  simp only [tail, List.mem_cons, List.mem_nil_iff, or_false] at hops
  rcases hops with rfl | rfl | rfl | rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_1_sub) op hop) ?_
    simp only [hostOps1_1, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_2_sub) op hop) ?_
    simp only [hostOps1_2, List.mem_cons, List.mem_nil_iff, or_false] at hop
    rcases hop with rfl | rfl | rfl | rfl | rfl | rfl | rfl
    all_goals intro j; fin_cases j <;> simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_3_sub) op hop) ?_
    simp only [hostOps1_3, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)

/-- The host lines allocate nothing. -/
theorem tail_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl | rfl
  · simp only [hostOps1, List.mem_cons, List.mem_nil_iff, or_false] at hop
    rcases hop with rfl | rfl | rfl | rfl | rfl | rfl | rfl | rfl | rfl | rfl | rfl | rfl | rfl <;> rfl
  · simp only [hostOps1_1, List.mem_cons, List.mem_nil_iff, or_false] at hop
    rcases hop with rfl | rfl | rfl <;> rfl
  · simp only [hostOps1_2, List.mem_cons, List.mem_nil_iff, or_false] at hop
    rcases hop with rfl | rfl | rfl | rfl | rfl | rfl | rfl <;> rfl
  · simp only [hostOps1_3, List.mem_cons, List.mem_nil_iff, or_false] at hop
    rcases hop with rfl | rfl | rfl <;> rfl

/-- The buffers the host lines write. -/
abbrev tailW : List (Ref sig .tc) :=
  [main_v1, main_v2, main_cst, main_v3, main_cst_0, main_v4, main_cst_1, main_v5, main_v6, main_cst_2, main_v7, main_v8, main_cst_3,
    main_call0_v0, main_call0_v1, main_v9, main_cst_4, main_v10, main_v11, main_cst_5, main_v12, main_v13, main_cst_6,
    main_call1_v0, main_call1_v1, main_v14]

/-- What a host line writes is one of those buffers. -/
theorem tail_writes : ∀ ops ∈ (tail : List (List (HloOp τ sig (Elt F)))), ∀ op ∈ ops, ∀ b : Ref sig .tc, Proc.devRef .tc b ∈ op.writes → b ∈ tailW := by
  intro ops hops op hop
  simp only [tail, List.mem_cons, List.mem_nil_iff, or_false] at hops
  rcases hops with rfl | rfl | rfl | rfl
  · simp only [hostOps1, List.mem_cons, List.mem_nil_iff, or_false] at hop
    rcases hop with rfl | rfl | rfl | rfl | rfl | rfl | rfl | rfl | rfl | rfl | rfl | rfl | rfl
    all_goals intro b hb; simp only [StableHlo.nullary_writes, StableHlo.unary_writes, StableHlo.binary_writes, StableHlo.ternary_writes, StableHlo.reshape_writes, Finset.mem_singleton] at hb; cases Proc.devRef_injective _ hb; decide
  · simp only [hostOps1_1, List.mem_cons, List.mem_nil_iff, or_false] at hop
    rcases hop with rfl | rfl | rfl
    all_goals intro b hb; simp only [StableHlo.nullary_writes, StableHlo.unary_writes, StableHlo.binary_writes, StableHlo.ternary_writes, StableHlo.reshape_writes, Finset.mem_singleton] at hb; cases Proc.devRef_injective _ hb; decide
  · simp only [hostOps1_2, List.mem_cons, List.mem_nil_iff, or_false] at hop
    rcases hop with rfl | rfl | rfl | rfl | rfl | rfl | rfl
    all_goals intro b hb; simp only [StableHlo.nullary_writes, StableHlo.unary_writes, StableHlo.binary_writes, StableHlo.ternary_writes, StableHlo.reshape_writes, Finset.mem_singleton] at hb; cases Proc.devRef_injective _ hb; decide
  · simp only [hostOps1_3, List.mem_cons, List.mem_nil_iff, or_false] at hop
    rcases hop with rfl | rfl | rfl
    all_goals intro b hb; simp only [StableHlo.nullary_writes, StableHlo.unary_writes, StableHlo.binary_writes, StableHlo.ternary_writes, StableHlo.reshape_writes, Finset.mem_singleton] at hb; cases Proc.devRef_injective _ hb; decide

/-- The host lines write no array of the call. -/
theorem tail_keeps : ∀ ops ∈ (tail : List (List (HloOp τ sig (Elt F)))), ∀ op ∈ ops, ∀ w, Proc.devRef .tc (Pipeline.arrRef spec0 w) ∉ op.writes :=
  fun ops hops op hop w hb => (by decide : ∀ w, Pipeline.arrRef spec0 w ∉ tailW) w (tail_writes ops hops op hop _ hb)

/-- The call reads the rotated queries as they were given. -/
theorem V_main_arg0 (c : Dev nD) : V m c main_arg0 = m ((c : Thread nD τ).loc main_arg0) := rfl
/-- The call reads the rotated keys as they were given. -/
theorem V_main_arg1 (c : Dev nD) : V m c main_arg1 = m ((c : Thread nD τ).loc main_arg1) := rfl
/-- The call reads the values as they were given. -/
theorem V_main_arg2 (c : Dev nD) : V m c main_arg2 = m ((c : Thread nD τ).loc main_arg2) := rfl
/-- The call reads the lengths as they were given. -/
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The pipeline at the lengths of the memory `m`. -/
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg3
/-- The length table is a whole array. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The length table on core `c` holds `f`. -/
abbrev tbPt0 (c : Dev nD) {S : Shape} {e : EltTy} (M : Memref sig .tc .smem S e) (f : TbBuf0 (F := F) c M) : sProp 𝕄 :=
  M.view.loc (c : Thread nD τ) ↦{fullShare.right} f

/-- The word of the table that the body reads at a grid point: the length of that point's sequence. -/
abbrev tbW0 (c : Dev nD) (xt0 : TbBuf0 (F := F) c tbM0_0) (i : grid0.Coords) : Elt F .i32 :=
  View.readAt (Elt F) tbM0_0.view (Rect.unit (s := S2) (k0_off1 i) S1.size (k0_off1_inb i)).toLoadRect xt0 (Shape.Idx.first (numel1_S1.symm ▸ Nat.one_pos))

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No host line writes the lengths: they end as they were given. -/
theorem W_main_arg3 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) tail c main_arg3 = m ((c : Thread nD τ).loc main_arg3) := by
  unfold Pipeline.afterTail
  rw [StableHlo.after_of_forall_not_mem (b := Proc.devRef .tc main_arg3) _ _ fun op hop hb => ?_,
    Pipeline.withArrays_of_ne _ c (V0 m c) _ main_arg3 (by exact (by decide : ∀ w, Pipeline.arrRef spec0 w ≠ main_arg3))]
  · rfl
  · obtain ⟨ops, hops, hop⟩ := List.mem_flatten.mp hop
    exact (by decide : main_arg3 ∉ tailW) (tail_writes ops hops op hop _ hb)

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (by decide : main_arg3 ∈ Pipeline.restRefs sig spec0)).trans (W_main_arg3 m hO dats c)⟩) h

/-! ## The kernel body on any staging memrefs: a subtype the run finds -/

/-- One staging buffer of output window 3, through which its contents are stated (`View.read_writes_of_cover`: the
    choice does not matter). -/
abbrev VO0_3 : View sig .tc .vmem S1x6x128x256 .f32 := (Memref.whole cc0_stg3_0 : Memref sig .tc .vmem S1x6x128x256 .f32).view
/-- One staging buffer of output window 4, through which its contents are stated (`View.read_writes_of_cover`: the
    choice does not matter). -/
abbrev VO0_4 : View sig .tc .vmem S1x1x6x256 .f32 := (Memref.whole cc0_stg4_0 : Memref sig .tc .vmem S1x1x6x256 .f32).view
/-- One staging buffer of output window 5, through which its contents are stated (`View.read_writes_of_cover`: the
    choice does not matter). -/
abbrev VO0_5 : View sig .tc .vmem S1x1x6x256 .f32 := (Memref.whole cc0_stg5_0 : Memref sig .tc .vmem S1x1x6x256 .f32).view
/-- Each window's current staging memref at point `t`, spelled as the pipeline passes it (`bodyAt0`), and its wholeness. -/
abbrev ms0_0 (hO : Ok m) (t : Fin (cfgM m hO).N) : Memref sig .tc .vmem S1x6x128x256 .bf16 := spec0_0.stage ((cfgM m hO).slots t 0)
/-- The stage of window 0 is a whole array. -/
abbrev hs0_0 (hO : Ok m) (t : Fin (cfgM m hO).N) : (ms0_0 m hO t).IsWhole := hstage0_0 (((cfgM m hO).slots t 0).cast nbuf0_0)
/-- The stage of window 1 at a step, at its own shape. -/
abbrev ms0_1 (hO : Ok m) (t : Fin (cfgM m hO).N) : Memref sig .tc .vmem S1x1x12288x128 .bf16 := spec0_1.stage ((cfgM m hO).slots t 1)
/-- The stage of window 1 is a whole array. -/
abbrev hs0_1 (hO : Ok m) (t : Fin (cfgM m hO).N) : (ms0_1 m hO t).IsWhole := hstage0_1 (((cfgM m hO).slots t 1).cast nbuf0_1)
/-- The stage of window 2 at a step, at its own shape. -/
abbrev ms0_2 (hO : Ok m) (t : Fin (cfgM m hO).N) : Memref sig .tc .vmem S1x1x128x12288 .bf16 := spec0_2.stage ((cfgM m hO).slots t 2)
/-- The stage of window 2 is a whole array. -/
abbrev hs0_2 (hO : Ok m) (t : Fin (cfgM m hO).N) : (ms0_2 m hO t).IsWhole := hstage0_2 (((cfgM m hO).slots t 2).cast nbuf0_2)
/-- The stage of window 3 at a step, at its own shape. -/
abbrev ms0_3 (hO : Ok m) (t : Fin (cfgM m hO).N) : Memref sig .tc .vmem S1x6x128x256 .f32 := spec0_3.stage ((cfgM m hO).slots t 3)
/-- The stage of window 3 is a whole array. -/
abbrev hs0_3 (hO : Ok m) (t : Fin (cfgM m hO).N) : (ms0_3 m hO t).IsWhole := hstage0_3 (((cfgM m hO).slots t 3).cast nbuf0_3)
/-- The stage of window 4 at a step, at its own shape. -/
abbrev ms0_4 (hO : Ok m) (t : Fin (cfgM m hO).N) : Memref sig .tc .vmem S1x1x6x256 .f32 := spec0_4.stage ((cfgM m hO).slots t 4)
/-- The stage of window 4 is a whole array. -/
abbrev hs0_4 (hO : Ok m) (t : Fin (cfgM m hO).N) : (ms0_4 m hO t).IsWhole := hstage0_4 (((cfgM m hO).slots t 4).cast nbuf0_4)
/-- The stage of window 5 at a step, at its own shape. -/
abbrev ms0_5 (hO : Ok m) (t : Fin (cfgM m hO).N) : Memref sig .tc .vmem S1x1x6x256 .f32 := spec0_5.stage ((cfgM m hO).slots t 5)
/-- The stage of window 5 is a whole array. -/
abbrev hs0_5 (hO : Ok m) (t : Fin (cfgM m hO).N) : (ms0_5 m hO t).IsWhole := hstage0_5 (((cfgM m hO).slots t 5).cast nbuf0_5)

end Cert.Kernel.Gen

end
-- ==== Proof.KernelRunA.lean ====
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1548000 in
/-- The case of a block of rows below the sequence's length: six heads of attention. What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : k0_cond1 i (tbW0 c xt0 i) = 1#1) (hc2 : ¬ k0_cond2 i (tbW0 c xt0 i) = 1#1) :
    Σ' (L3 : List (View.Piece (Elt F) S1x6x128x256 .f32)), Σ' (L4 : List (View.Piece (Elt F) S1x1x6x256 .f32)), { L5 : List (View.Piece (Elt F) S1x1x6x256 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ tbPt0 c tbM0_0 xt0
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f L5) ∗ tbPt0 c tbM0_0 xt0) -∗ K ⟨⟩))
          ⊢ wp frame (wpE (defs₀ (F := F)) Variants.none c none) E (cc0_attn i tbM0_0 htbM0_0 arg4 harg4 arg5 harg5 arg6 harg6 arg7 harg7 arg8 harg8 arg9 harg9) K } := by
  refine ⟨?_, ?_, ?_, fun E K => ?run⟩
  case run =>
    simp only [cc0_attn_eq_skeleton]; unfold cc0_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, HT0, Hk⟩
    obtain rfl := harg4.eq_unread hf0; obtain rfl := harg5.eq_unread hf1; obtain rfl := harg6.eq_unread hf2
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [H4]; · iexists _; iexact H4
    isplitl [H5]; · iexists _; iexact H5
    iexact HT0

end Cert.Kernel.Gen

end
-- ==== Proof.KernelRunB.lean ====
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1548000 in
/-- The case of a block of rows at or past the sequence's length: the body fills its outputs with zeros. What its stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_B (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : ¬ k0_cond1 i (tbW0 c xt0 i) = 1#1) (hc2 : k0_cond2 i (tbW0 c xt0 i) = 1#1) :
    Σ' (L3 : List (View.Piece (Elt F) S1x6x128x256 .f32)), Σ' (L4 : List (View.Piece (Elt F) S1x1x6x256 .f32)), { L5 : List (View.Piece (Elt F) S1x1x6x256 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ tbPt0 c tbM0_0 xt0
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f L5) ∗ tbPt0 c tbM0_0 xt0) -∗ K ⟨⟩))
          ⊢ wp frame (wpE (defs₀ (F := F)) Variants.none c none) E (cc0_attn i tbM0_0 htbM0_0 arg4 harg4 arg5 harg5 arg6 harg6 arg7 harg7 arg8 harg8 arg9 harg9) K } := by
  refine ⟨?_, ?_, ?_, fun E K => ?run⟩
  case run =>
    simp only [cc0_attn_eq_skeleton]; unfold cc0_attn_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, HT0, Hk⟩
    obtain rfl := harg4.eq_unread hf0; obtain rfl := harg5.eq_unread hf1; obtain rfl := harg6.eq_unread hf2
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [H4]; · iexists _; iexact H4
    isplitl [H5]; · iexists _; iexact H5
    iexact HT0

end Cert.Kernel.Gen

end
-- ==== Proof.KernelFrame.lean ====
module

public import proofs.«01_k».proof.Proof.KernelRunA
public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The two guards of the body are complementary: one tests that the block of rows starts below the sequence's length, the
    other that it does not. -/
theorem cond2_iff (i : grid0.Coords) (w : BitVec 32) : k0_cond2 i w = 1#1 ↔ ¬ k0_cond1 i w = 1#1 := by
  simp only [k0_cond1, k0_cond2, Scalar.cmpi, Scalar.extui, IntOp.cmpi, BitVec.slt, BitVec.sle]
  generalize (Scalar.muli (BitVec.ofNat 32 (i 2).val) 256#32).toInt = x
  generalize w.toInt = y
  by_cases h : x < y
  · have h' : ¬ y ≤ x := by omega
    simp [h, h']
  · have h' : y ≤ x := by omega
    simp [h, h']

/-- No output is idle at any point: at each, one of the two guards holds, and under either the body stores every output. -/
theorem not_idle (c1 c2 : BitVec 1) (h : c2 = 1#1 ↔ ¬ c1 = 1#1) : (!(c1 == 1#1) && !(c2 == 1#1)) = false := by
  by_cases h1 : c1 = 1#1
  · simp [h1]
  · simp [h.2 h1]

/-- The run's pieces for output 3 tile its block (6 stores of `S1x1x128x256`), so they cover it. -/
theorem cover0_A_3 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : k0_cond1 i (tbW0 c xt0 i) = 1#1) (hc2 : ¬ k0_cond2 i (tbW0 c xt0 i) = 1#1) (y : S1x6x128x256.Idx) :
    ∃ pc ∈ (kernelRun0_A c i arg4 harg4 arg5 harg5 arg6 harg6 arg7 harg7 arg8 harg8 arg9 harg9 x0 x1 x2 xt0 hc1 hc2).1, y ∈ pc.1.set :=
  View.cover_of_tiledL (kernelRun0_A c i arg4 harg4 arg5 harg5 arg6 harg6 arg7 harg7 arg8 harg8 arg9 harg9 x0 x1 x2 xt0 hc1 hc2).1 S1x1x128x256.size (by sl_kernel_rfl) y

/-- What the run leaves in output 3's staging buffer: its pieces read back over junk. -/
def out0_A_3 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : k0_cond1 i (tbW0 c xt0 i) = 1#1) (hc2 : ¬ k0_cond2 i (tbW0 c xt0 i) = 1#1) : Vec F S1x6x128x256 .f32 :=
  VO0_3.read (Elt F) (VO0_3.writes (Elt F) VO0_3.junk (kernelRun0_A c i arg4 harg4 arg5 harg5 arg6 harg6 arg7 harg7 arg8 harg8 arg9 harg9 x0 x1 x2 xt0 hc1 hc2).1)

/-- The run's pieces for output 4 tile its block (6 stores of `S1x1x1x256`), so they cover it. -/
theorem cover0_A_4 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : k0_cond1 i (tbW0 c xt0 i) = 1#1) (hc2 : ¬ k0_cond2 i (tbW0 c xt0 i) = 1#1) (y : S1x1x6x256.Idx) :
    ∃ pc ∈ (kernelRun0_A c i arg4 harg4 arg5 harg5 arg6 harg6 arg7 harg7 arg8 harg8 arg9 harg9 x0 x1 x2 xt0 hc1 hc2).2.1, y ∈ pc.1.set :=
  View.cover_of_tiledL (kernelRun0_A c i arg4 harg4 arg5 harg5 arg6 harg6 arg7 harg7 arg8 harg8 arg9 harg9 x0 x1 x2 xt0 hc1 hc2).2.1 S1x1x1x256.size (by sl_kernel_rfl) y

/-- What the run leaves in output 4's staging buffer: its pieces read back over junk. -/
def out0_A_4 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : k0_cond1 i (tbW0 c xt0 i) = 1#1) (hc2 : ¬ k0_cond2 i (tbW0 c xt0 i) = 1#1) : Vec F S1x1x6x256 .f32 :=
  VO0_4.read (Elt F) (VO0_4.writes (Elt F) VO0_4.junk (kernelRun0_A c i arg4 harg4 arg5 harg5 arg6 harg6 arg7 harg7 arg8 harg8 arg9 harg9 x0 x1 x2 xt0 hc1 hc2).2.1)

/-- The run's pieces for output 5 tile its block (6 stores of `S1x1x1x256`), so they cover it. -/
theorem cover0_A_5 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : k0_cond1 i (tbW0 c xt0 i) = 1#1) (hc2 : ¬ k0_cond2 i (tbW0 c xt0 i) = 1#1) (y : S1x1x6x256.Idx) :
    ∃ pc ∈ (kernelRun0_A c i arg4 harg4 arg5 harg5 arg6 harg6 arg7 harg7 arg8 harg8 arg9 harg9 x0 x1 x2 xt0 hc1 hc2).2.2.1, y ∈ pc.1.set :=
  View.cover_of_tiledL (kernelRun0_A c i arg4 harg4 arg5 harg5 arg6 harg6 arg7 harg7 arg8 harg8 arg9 harg9 x0 x1 x2 xt0 hc1 hc2).2.2.1 S1x1x1x256.size (by sl_kernel_rfl) y

/-- What the run leaves in output 5's staging buffer: its pieces read back over junk. -/
def out0_A_5 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : k0_cond1 i (tbW0 c xt0 i) = 1#1) (hc2 : ¬ k0_cond2 i (tbW0 c xt0 i) = 1#1) : Vec F S1x1x6x256 .f32 :=
  VO0_5.read (Elt F) (VO0_5.writes (Elt F) VO0_5.junk (kernelRun0_A c i arg4 harg4 arg5 harg5 arg6 harg6 arg7 harg7 arg8 harg8 arg9 harg9 x0 x1 x2 xt0 hc1 hc2).2.2.1)

/-- The run's pieces for output 3 tile its block (one store, the whole block), so they cover it. -/
theorem cover0_B_3 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : ¬ k0_cond1 i (tbW0 c xt0 i) = 1#1) (hc2 : k0_cond2 i (tbW0 c xt0 i) = 1#1) (y : S1x6x128x256.Idx) :
    ∃ pc ∈ (kernelRun0_B c i arg4 harg4 arg5 harg5 arg6 harg6 arg7 harg7 arg8 harg8 arg9 harg9 x0 x1 x2 xt0 hc1 hc2).1, y ∈ pc.1.set :=
  View.cover_of_tiledL (kernelRun0_B c i arg4 harg4 arg5 harg5 arg6 harg6 arg7 harg7 arg8 harg8 arg9 harg9 x0 x1 x2 xt0 hc1 hc2).1 S1x6x128x256.size (by sl_kernel_rfl) y

/-- What the run leaves in output 3's staging buffer: its pieces read back over junk. -/
def out0_B_3 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : ¬ k0_cond1 i (tbW0 c xt0 i) = 1#1) (hc2 : k0_cond2 i (tbW0 c xt0 i) = 1#1) : Vec F S1x6x128x256 .f32 :=
  VO0_3.read (Elt F) (VO0_3.writes (Elt F) VO0_3.junk (kernelRun0_B c i arg4 harg4 arg5 harg5 arg6 harg6 arg7 harg7 arg8 harg8 arg9 harg9 x0 x1 x2 xt0 hc1 hc2).1)

/-- The run's pieces for output 4 tile its block (one store, the whole block), so they cover it. -/
theorem cover0_B_4 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : ¬ k0_cond1 i (tbW0 c xt0 i) = 1#1) (hc2 : k0_cond2 i (tbW0 c xt0 i) = 1#1) (y : S1x1x6x256.Idx) :
    ∃ pc ∈ (kernelRun0_B c i arg4 harg4 arg5 harg5 arg6 harg6 arg7 harg7 arg8 harg8 arg9 harg9 x0 x1 x2 xt0 hc1 hc2).2.1, y ∈ pc.1.set :=
  View.cover_of_tiledL (kernelRun0_B c i arg4 harg4 arg5 harg5 arg6 harg6 arg7 harg7 arg8 harg8 arg9 harg9 x0 x1 x2 xt0 hc1 hc2).2.1 S1x1x6x256.size (by sl_kernel_rfl) y

/-- What the run leaves in output 4's staging buffer: its pieces read back over junk. -/
def out0_B_4 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : ¬ k0_cond1 i (tbW0 c xt0 i) = 1#1) (hc2 : k0_cond2 i (tbW0 c xt0 i) = 1#1) : Vec F S1x1x6x256 .f32 :=
  VO0_4.read (Elt F) (VO0_4.writes (Elt F) VO0_4.junk (kernelRun0_B c i arg4 harg4 arg5 harg5 arg6 harg6 arg7 harg7 arg8 harg8 arg9 harg9 x0 x1 x2 xt0 hc1 hc2).2.1)

/-- The run's pieces for output 5 tile its block (one store, the whole block), so they cover it. -/
theorem cover0_B_5 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : ¬ k0_cond1 i (tbW0 c xt0 i) = 1#1) (hc2 : k0_cond2 i (tbW0 c xt0 i) = 1#1) (y : S1x1x6x256.Idx) :
    ∃ pc ∈ (kernelRun0_B c i arg4 harg4 arg5 harg5 arg6 harg6 arg7 harg7 arg8 harg8 arg9 harg9 x0 x1 x2 xt0 hc1 hc2).2.2.1, y ∈ pc.1.set :=
  View.cover_of_tiledL (kernelRun0_B c i arg4 harg4 arg5 harg5 arg6 harg6 arg7 harg7 arg8 harg8 arg9 harg9 x0 x1 x2 xt0 hc1 hc2).2.2.1 S1x1x6x256.size (by sl_kernel_rfl) y

/-- What the run leaves in output 5's staging buffer: its pieces read back over junk. -/
def out0_B_5 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : ¬ k0_cond1 i (tbW0 c xt0 i) = 1#1) (hc2 : k0_cond2 i (tbW0 c xt0 i) = 1#1) : Vec F S1x1x6x256 .f32 :=
  VO0_5.read (Elt F) (VO0_5.writes (Elt F) VO0_5.junk (kernelRun0_B c i arg4 harg4 arg5 harg5 arg6 harg6 arg7 harg7 arg8 harg8 arg9 harg9 x0 x1 x2 xt0 hc1 hc2).2.2.1)

/-! ## What the outputs hold after each point -/

/-- What the outputs' staging buffers hold after the body at point `t` (as a tuple, in window order): the run's contents at
    the point's memrefs and input blocks. -/
@[irreducible] def outsAt0 (hO : Ok m) (c : Dev nD) (t : Fin (cfgM m hO).N) : Vec F S1x6x128x256 .f32 × Vec F S1x1x6x256 .f32 × Vec F S1x1x6x256 .f32 :=
  if h : k0_cond1 (grid0.coords t) (tbW0 c (tbl m 0) (grid0.coords t)) = 1#1 then
    (out0_A_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h (fun e => (cond2_iff _ _).1 e h), out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h (fun e => (cond2_iff _ _).1 e h), out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h (fun e => (cond2_iff _ _).1 e h))
  else
    (out0_B_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h ((cond2_iff _ _).2 h), out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h ((cond2_iff _ _).2 h), out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h ((cond2_iff _ _).2 h))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t).1
    | ⟨4, _⟩ => (outsAt0 m hO c t).2.1
    | ⟨5, _⟩ => (outsAt0 m hO c t).2.2
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- After a step, window 1 still holds its input block. -/
theorem after0_1 (hO : Ok m) (c : Dev nD) (t : Fin (cfgM m hO).N) : (dats m hO 0 c).after 1 t = iblk m hO c 1 t := by dsimp only [dats]; try rfl
/-- After a step, window 2 still holds its input block. -/
theorem after0_2 (hO : Ok m) (c : Dev nD) (t : Fin (cfgM m hO).N) : (dats m hO 0 c).after 2 t = iblk m hO c 2 t := by dsimp only [dats]; try rfl
/-- After a step, window 3 holds the step's output block. -/
theorem after0_3 (hO : Ok m) (c : Dev nD) (t : Fin (cfgM m hO).N) : (dats m hO 0 c).after 3 t = (outsAt0 m hO c t).1 := by dsimp only [dats]; try rfl
/-- After a step, window 4 holds the step's block of score maxima. -/
theorem after0_4 (hO : Ok m) (c : Dev nD) (t : Fin (cfgM m hO).N) : (dats m hO 0 c).after 4 t = (outsAt0 m hO c t).2.1 := by dsimp only [dats]; try rfl
/-- After a step, window 5 holds the step's block of output maxima. -/
theorem after0_5 (hO : Ok m) (c : Dev nD) (t : Fin (cfgM m hO).N) : (dats m hO 0 c).after 5 t = (outsAt0 m hO c t).2.2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Before a step, window 1 holds its input block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Before a step, window 2 holds its input block. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  unfold outsAt0
  by_cases h : k0_cond1 (grid0.coords t) (tbW0 c (tbl m 0) (grid0.coords t)) = 1#1
  · simp only [dif_pos h]
    unfold out0_A_3 out0_A_4 out0_A_5; (try dsimp only)
    iintro ⟨⟨HΦ, HT0⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ (iblk m hO c 0 t) (iblk m hO c 1 t) (iblk m hO c 2 t) (tbl m 0) h (fun e => (cond2_iff _ _).1 e h)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HT0]; · iexact HT0
    iintro ⟨H0, H1, H2, ⟨%e3, H3⟩, ⟨%e4, H4⟩, ⟨%e5, H5⟩, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _ _)
  · simp only [dif_neg h]
    unfold out0_B_3 out0_B_4 out0_B_5; (try dsimp only)
    iintro ⟨⟨HΦ, HT0⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (iblk m hO c 0 t) (iblk m hO c 1 t) (iblk m hO c 2 t) (tbl m 0) h ((cond2_iff _ _).2 h)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HT0]; · iexact HT0
    iintro ⟨H0, H1, H2, ⟨%e3, H3⟩, ⟨%e4, H4⟩, ⟨%e5, H5⟩, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 2000000 in
/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  have e3 : idle0 (F := F) (tbl m) 3 (((pcfg0 (F := F)).gridAt (tbl m)).coords t) = false := not_idle _ _ (cond2_iff _ _)
  have e4 : idle0 (F := F) (tbl m) 4 (((pcfg0 (F := F)).gridAt (tbl m)).coords t) = false := not_idle _ _ (cond2_iff _ _)
  have e5 : idle0 (F := F) (tbl m) 5 (((pcfg0 (F := F)).gridAt (tbl m)).coords t) = false := not_idle _ _ (cond2_iff _ _)
  simp only []
  simp only [e3, e4, e5]
  exact triple_restated (sound_body m hO c t) rfl .rfl fun _ => .rfl

/-! ## The run and the frame -/

-- `θ_run_frameP_around`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) tail)) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := tail) (hsub := tail_sub) (hfresh := tail_fresh) (hkeep := tail_keeps)
    (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the host lines after the call leave it (`Pipeline.afterTail`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) tail)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- THE FRAME: `Cert.quiescent_Kernel`'s statement (Defs.lean) at any `F`, for every contents of the prefetched table. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.Kernel.Gen

end
-- ==== Proof.KernelIdealPoints.lean ====
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 3 (fun _ => rfl) (by decide)) (P := 1) (by decide) t).mpr (Nat.mod_one _) : ∀ t : Fin grid0.N, Pipeline.Window.fetchOf grid0 false cc0_transform_0 t = true)
/-- Window 1 (operand 2 (%arg1)) is fetched at the points ≡ 0 (mod 48), at any contents of the tables (its index map reads none). -/
theorem fetch0_1 (a : (pcfg0 (F := F)).Adm) : ∀ t : Fin (cfg0 a).N, ((cfg0 a).win 1).fetch t = true ↔ t.val % 48 = 0 :=
  (fun t => Pipeline.Window.fetchOf_reads cc0_transform_1 reads0_1 hreads0_1 1 (by decide) (by decide) (Pipeline.Window.sep_of_coord cc0_transform_1 1 1 (fun _ => rfl) (by decide)) (P := 48) (by decide) t : ∀ t : Fin grid0.N, Pipeline.Window.fetchOf grid0 false cc0_transform_1 t = true ↔ t.val % 48 = 0)
/-- Window 2 (operand 3 (%arg2)) is fetched at the points ≡ 0 (mod 48), at any contents of the tables (its index map reads none). -/
theorem fetch0_2 (a : (pcfg0 (F := F)).Adm) : ∀ t : Fin (cfg0 a).N, ((cfg0 a).win 2).fetch t = true ↔ t.val % 48 = 0 :=
  (fun t => Pipeline.Window.fetchOf_reads cc0_transform_2 reads0_2 hreads0_2 1 (by decide) (by decide) (Pipeline.Window.sep_of_coord cc0_transform_2 1 1 (fun _ => rfl) (by decide)) (P := 48) (by decide) t : ∀ t : Fin grid0.N, Pipeline.Window.fetchOf grid0 false cc0_transform_2 t = true ↔ t.val % 48 = 0)
/-- Window 3 (result 0 (%0#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 2 (by decide) (by decide) (Pipeline.Window.sep_of_coord cc0_transform_3 2 3 (fun _ => rfl) (by decide)) (P := 1) (m := 0) (by decide) rfl t).mpr (Nat.mod_one _) : ∀ t : Fin grid0.N, Pipeline.Window.flushOf grid0 true cc0_transform_3 t = true)
/-- Window 4 (result 1 (%0#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 2 (by decide) (by decide) (Pipeline.Window.sep_of_coord cc0_transform_4 2 3 (fun _ => rfl) (by decide)) (P := 1) (m := 0) (by decide) rfl t).mpr (Nat.mod_one _) : ∀ t : Fin grid0.N, Pipeline.Window.flushOf grid0 true cc0_transform_4 t = true)
/-- Window 5 (result 2 (%0#2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 2 (by decide) (by decide) (Pipeline.Window.sep_of_coord cc0_transform_5 2 3 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
/-- The stage of window 1 at a step. -/
abbrev st0_1 (a : (pcfg0 (F := F)).Adm) (t : Fin (cfg0 a).N) := ((cfg0 a).win 1).stage ((cfg0 a).slots t 1)
/-- The stage of window 2 at a step. -/
abbrev st0_2 (a : (pcfg0 (F := F)).Adm) (t : Fin (cfg0 a).N) := ((cfg0 a).win 2).stage ((cfg0 a).slots t 2)
/-- The stage of window 3 at a step. -/
abbrev st0_3 (a : (pcfg0 (F := F)).Adm) (t : Fin (cfg0 a).N) := ((cfg0 a).win 3).stage ((cfg0 a).slots t 3)
/-- The stage of window 4 at a step. -/
abbrev st0_4 (a : (pcfg0 (F := F)).Adm) (t : Fin (cfg0 a).N) := ((cfg0 a).win 4).stage ((cfg0 a).slots t 4)
/-- The stage of window 5 at a step. -/
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attn (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

end Cert.KernelIdeal.Gen

end
-- ==== Proof.KernelIdealRuns.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KernelIdealPoints
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main begins with the region). -/
abbrev V (c : Dev nD) (b : Ref sig .tc) : Buf (Elt F) ((c : Thread nD τ).loc b) := m ((c : Thread nD τ).loc b)

/-- The same contents as a valuation of the device's buffers. -/
abbrev V0 (c : Dev nD) : Valuation τ sig (Elt F) := StableHlo.after (List.flatten []) (fun b => m (c, b))

/-- The host lines after the call: the reshapes, the maxima over batch and position, and the two scales. -/
abbrev tail : List (List (HloOp τ sig (Elt F))) := [hostOps1, hostOps1_1, hostOps1_2, hostOps1_3]

set_option maxHeartbeats 800000 in
/-- @main at the certificate's variants `𝒱₀`: the region, continued by the host lines after it (`Pipeline.hmainP_around` off
    `main_chain`). -/
theorem hmain (𝒱₀ : Variants) : Pipeline.HMainPK (Ix := Unit) (Name := ℕ) (U := UR sig nD τ) (Lvl := ℕ) pcfgs 0 defs₀ 𝒱₀ m (main (F := F)) (fun c b => V0 m c (Proc.devRef .tc b))
      (fun _ => Pipeline.chain ((tail (F := F)).map StableHlo.seq)) :=
  Pipeline.hmainP_around pcfgs 0 defs₀ 𝒱₀ m main [] tail (by simp only [List.Forall]) (by simp only [List.Forall]) main_chain

/-- The host lines touch the call's arrays and the buffers that bypass it only, and not the length table. -/
theorem tail_sub : ∀ ops ∈ (tail : List (List (HloOp τ sig (Elt F)))), ∀ op ∈ ops, op.bufs ⊆ Pipeline.tailRefs sig pre0 spec0 := by
  intro ops hops op hop
  simp only [tail, List.mem_cons, List.mem_nil_iff, or_false] at hops
  rcases hops with rfl | rfl | rfl | rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_1_sub) op hop) ?_
    simp only [hostOps1_1, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_2_sub) op hop) ?_
    simp only [hostOps1_2, List.mem_cons, List.mem_nil_iff, or_false] at hop
    rcases hop with rfl | rfl | rfl | rfl | rfl | rfl | rfl
    all_goals intro j; fin_cases j <;> simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_3_sub) op hop) ?_
    simp only [hostOps1_3, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)

/-- The host lines allocate nothing. -/
theorem tail_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl | rfl
  · simp only [hostOps1, List.mem_cons, List.mem_nil_iff, or_false] at hop
    rcases hop with rfl | rfl | rfl | rfl | rfl | rfl | rfl | rfl | rfl | rfl | rfl | rfl | rfl <;> rfl
  · simp only [hostOps1_1, List.mem_cons, List.mem_nil_iff, or_false] at hop
    rcases hop with rfl | rfl | rfl <;> rfl
  · simp only [hostOps1_2, List.mem_cons, List.mem_nil_iff, or_false] at hop
    rcases hop with rfl | rfl | rfl | rfl | rfl | rfl | rfl <;> rfl
  · simp only [hostOps1_3, List.mem_cons, List.mem_nil_iff, or_false] at hop
    rcases hop with rfl | rfl | rfl <;> rfl

/-- The buffers the host lines write. -/
abbrev tailW : List (Ref sig .tc) :=
  [main_v1, main_v2, main_cst, main_v3, main_cst_0, main_v4, main_cst_1, main_v5, main_v6, main_cst_2, main_v7, main_v8, main_cst_3,
    main_call0_v0, main_call0_v1, main_v9, main_cst_4, main_v10, main_v11, main_cst_5, main_v12, main_v13, main_cst_6,
    main_call1_v0, main_call1_v1, main_v14]

/-- What a host line writes is one of those buffers. -/
theorem tail_writes : ∀ ops ∈ (tail : List (List (HloOp τ sig (Elt F)))), ∀ op ∈ ops, ∀ b : Ref sig .tc, Proc.devRef .tc b ∈ op.writes → b ∈ tailW := by
  intro ops hops op hop
  simp only [tail, List.mem_cons, List.mem_nil_iff, or_false] at hops
  rcases hops with rfl | rfl | rfl | rfl
  · simp only [hostOps1, List.mem_cons, List.mem_nil_iff, or_false] at hop
    rcases hop with rfl | rfl | rfl | rfl | rfl | rfl | rfl | rfl | rfl | rfl | rfl | rfl | rfl
    all_goals intro b hb; simp only [StableHlo.nullary_writes, StableHlo.unary_writes, StableHlo.binary_writes, StableHlo.ternary_writes, StableHlo.reshape_writes, Finset.mem_singleton] at hb; cases Proc.devRef_injective _ hb; decide
  · simp only [hostOps1_1, List.mem_cons, List.mem_nil_iff, or_false] at hop
    rcases hop with rfl | rfl | rfl
    all_goals intro b hb; simp only [StableHlo.nullary_writes, StableHlo.unary_writes, StableHlo.binary_writes, StableHlo.ternary_writes, StableHlo.reshape_writes, Finset.mem_singleton] at hb; cases Proc.devRef_injective _ hb; decide
  · simp only [hostOps1_2, List.mem_cons, List.mem_nil_iff, or_false] at hop
    rcases hop with rfl | rfl | rfl | rfl | rfl | rfl | rfl
    all_goals intro b hb; simp only [StableHlo.nullary_writes, StableHlo.unary_writes, StableHlo.binary_writes, StableHlo.ternary_writes, StableHlo.reshape_writes, Finset.mem_singleton] at hb; cases Proc.devRef_injective _ hb; decide
  · simp only [hostOps1_3, List.mem_cons, List.mem_nil_iff, or_false] at hop
    rcases hop with rfl | rfl | rfl
    all_goals intro b hb; simp only [StableHlo.nullary_writes, StableHlo.unary_writes, StableHlo.binary_writes, StableHlo.ternary_writes, StableHlo.reshape_writes, Finset.mem_singleton] at hb; cases Proc.devRef_injective _ hb; decide

/-- The host lines write no array of the call. -/
theorem tail_keeps : ∀ ops ∈ (tail : List (List (HloOp τ sig (Elt F)))), ∀ op ∈ ops, ∀ w, Proc.devRef .tc (Pipeline.arrRef spec0 w) ∉ op.writes :=
  fun ops hops op hop w hb => (by decide : ∀ w, Pipeline.arrRef spec0 w ∉ tailW) w (tail_writes ops hops op hop _ hb)

/-- The call reads the rotated queries as they were given. -/
theorem V_main_arg0 (c : Dev nD) : V m c main_arg0 = m ((c : Thread nD τ).loc main_arg0) := rfl
/-- The call reads the rotated keys as they were given. -/
theorem V_main_arg1 (c : Dev nD) : V m c main_arg1 = m ((c : Thread nD τ).loc main_arg1) := rfl
/-- The call reads the values as they were given. -/
theorem V_main_arg2 (c : Dev nD) : V m c main_arg2 = m ((c : Thread nD τ).loc main_arg2) := rfl
/-- The call reads the lengths as they were given. -/
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The pipeline at the lengths of the memory `m`. -/
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg3
/-- The length table is a whole array. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The length table on core `c` holds `f`. -/
abbrev tbPt0 (c : Dev nD) {S : Shape} {e : EltTy} (M : Memref sig .tc .smem S e) (f : TbBuf0 (F := F) c M) : sProp 𝕄 :=
  M.view.loc (c : Thread nD τ) ↦{fullShare.right} f

/-- The word of the table that the body reads at a grid point: the length of that point's sequence. -/
abbrev tbW0 (c : Dev nD) (xt0 : TbBuf0 (F := F) c tbM0_0) (i : grid0.Coords) : Elt F .i32 :=
  View.readAt (Elt F) tbM0_0.view (Rect.unit (s := S2) (k0_off1 i) S1.size (k0_off1_inb i)).toLoadRect xt0 (Shape.Idx.first (numel1_S1.symm ▸ Nat.one_pos))

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No host line writes the lengths: they end as they were given. -/
theorem W_main_arg3 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) tail c main_arg3 = m ((c : Thread nD τ).loc main_arg3) := by
  unfold Pipeline.afterTail
  rw [StableHlo.after_of_forall_not_mem (b := Proc.devRef .tc main_arg3) _ _ fun op hop hb => ?_,
    Pipeline.withArrays_of_ne _ c (V0 m c) _ main_arg3 (by exact (by decide : ∀ w, Pipeline.arrRef spec0 w ≠ main_arg3))]
  · rfl
  · obtain ⟨ops, hops, hop⟩ := List.mem_flatten.mp hop
    exact (by decide : main_arg3 ∉ tailW) (tail_writes ops hops op hop _ hb)

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (by decide : main_arg3 ∈ Pipeline.restRefs sig spec0)).trans (W_main_arg3 m hO dats c)⟩) h

/-! ## The kernel body on any staging memrefs: a subtype the run finds -/

/-- One staging buffer of output window 3, through which its contents are stated (`View.read_writes_of_cover`: the
    choice does not matter). -/
abbrev VO0_3 : View sig .tc .vmem S1x6x128x256 .f32 := (Memref.whole cc0_stg3_0 : Memref sig .tc .vmem S1x6x128x256 .f32).view
/-- One staging buffer of output window 4, through which its contents are stated (`View.read_writes_of_cover`: the
    choice does not matter). -/
abbrev VO0_4 : View sig .tc .vmem S1x1x6x256 .f32 := (Memref.whole cc0_stg4_0 : Memref sig .tc .vmem S1x1x6x256 .f32).view
/-- One staging buffer of output window 5, through which its contents are stated (`View.read_writes_of_cover`: the
    choice does not matter). -/
abbrev VO0_5 : View sig .tc .vmem S1x1x6x256 .f32 := (Memref.whole cc0_stg5_0 : Memref sig .tc .vmem S1x1x6x256 .f32).view
/-- Each window's current staging memref at point `t`, spelled as the pipeline passes it (`bodyAt0`), and its wholeness. -/
abbrev ms0_0 (hO : Ok m) (t : Fin (cfgM m hO).N) : Memref sig .tc .vmem S1x6x128x256 .bf16 := spec0_0.stage ((cfgM m hO).slots t 0)
/-- The stage of window 0 is a whole array. -/
abbrev hs0_0 (hO : Ok m) (t : Fin (cfgM m hO).N) : (ms0_0 m hO t).IsWhole := hstage0_0 (((cfgM m hO).slots t 0).cast nbuf0_0)
/-- The stage of window 1 at a step, at its own shape. -/
abbrev ms0_1 (hO : Ok m) (t : Fin (cfgM m hO).N) : Memref sig .tc .vmem S1x1x12288x128 .bf16 := spec0_1.stage ((cfgM m hO).slots t 1)
/-- The stage of window 1 is a whole array. -/
abbrev hs0_1 (hO : Ok m) (t : Fin (cfgM m hO).N) : (ms0_1 m hO t).IsWhole := hstage0_1 (((cfgM m hO).slots t 1).cast nbuf0_1)
/-- The stage of window 2 at a step, at its own shape. -/
abbrev ms0_2 (hO : Ok m) (t : Fin (cfgM m hO).N) : Memref sig .tc .vmem S1x1x128x12288 .bf16 := spec0_2.stage ((cfgM m hO).slots t 2)
/-- The stage of window 2 is a whole array. -/
abbrev hs0_2 (hO : Ok m) (t : Fin (cfgM m hO).N) : (ms0_2 m hO t).IsWhole := hstage0_2 (((cfgM m hO).slots t 2).cast nbuf0_2)
/-- The stage of window 3 at a step, at its own shape. -/
abbrev ms0_3 (hO : Ok m) (t : Fin (cfgM m hO).N) : Memref sig .tc .vmem S1x6x128x256 .f32 := spec0_3.stage ((cfgM m hO).slots t 3)
/-- The stage of window 3 is a whole array. -/
abbrev hs0_3 (hO : Ok m) (t : Fin (cfgM m hO).N) : (ms0_3 m hO t).IsWhole := hstage0_3 (((cfgM m hO).slots t 3).cast nbuf0_3)
/-- The stage of window 4 at a step, at its own shape. -/
abbrev ms0_4 (hO : Ok m) (t : Fin (cfgM m hO).N) : Memref sig .tc .vmem S1x1x6x256 .f32 := spec0_4.stage ((cfgM m hO).slots t 4)
/-- The stage of window 4 is a whole array. -/
abbrev hs0_4 (hO : Ok m) (t : Fin (cfgM m hO).N) : (ms0_4 m hO t).IsWhole := hstage0_4 (((cfgM m hO).slots t 4).cast nbuf0_4)
/-- The stage of window 5 at a step, at its own shape. -/
abbrev ms0_5 (hO : Ok m) (t : Fin (cfgM m hO).N) : Memref sig .tc .vmem S1x1x6x256 .f32 := spec0_5.stage ((cfgM m hO).slots t 5)
/-- The stage of window 5 is a whole array. -/
abbrev hs0_5 (hO : Ok m) (t : Fin (cfgM m hO).N) : (ms0_5 m hO t).IsWhole := hstage0_5 (((cfgM m hO).slots t 5).cast nbuf0_5)

end Cert.KernelIdeal.Gen

end
-- ==== Proof.KernelIdealRunA.lean ====
module

public import proofs.«01_k».proof.Proof.KernelIdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1548000 in
/-- The case of a block of rows below the sequence's length: six heads of attention. What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : k0_cond1 i (tbW0 c xt0 i) = 1#1) (hc2 : ¬ k0_cond2 i (tbW0 c xt0 i) = 1#1) :
    Σ' (L3 : List (View.Piece (Elt F) S1x6x128x256 .f32)), Σ' (L4 : List (View.Piece (Elt F) S1x1x6x256 .f32)), { L5 : List (View.Piece (Elt F) S1x1x6x256 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ tbPt0 c tbM0_0 xt0
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f L5) ∗ tbPt0 c tbM0_0 xt0) -∗ K ⟨⟩))
          ⊢ wp frame (wpE (defs₀ (F := F)) Variants.none c none) E (cc0_attn i tbM0_0 htbM0_0 arg4 harg4 arg5 harg5 arg6 harg6 arg7 harg7 arg8 harg8 arg9 harg9) K } := by
  refine ⟨?_, ?_, ?_, fun E K => ?run⟩
  case run =>
    simp only [cc0_attn_eq_skeleton]; unfold cc0_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, HT0, Hk⟩
    obtain rfl := harg4.eq_unread hf0; obtain rfl := harg5.eq_unread hf1; obtain rfl := harg6.eq_unread hf2
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [H4]; · iexists _; iexact H4
    isplitl [H5]; · iexists _; iexact H5
    iexact HT0

end Cert.KernelIdeal.Gen

end
-- ==== Proof.KernelIdealRunB.lean ====
module

public import proofs.«01_k».proof.Proof.KernelIdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1548000 in
/-- The case of a block of rows at or past the sequence's length: the body fills its outputs with zeros. What its stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_B (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : ¬ k0_cond1 i (tbW0 c xt0 i) = 1#1) (hc2 : k0_cond2 i (tbW0 c xt0 i) = 1#1) :
    Σ' (L3 : List (View.Piece (Elt F) S1x6x128x256 .f32)), Σ' (L4 : List (View.Piece (Elt F) S1x1x6x256 .f32)), { L5 : List (View.Piece (Elt F) S1x1x6x256 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ tbPt0 c tbM0_0 xt0
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f L5) ∗ tbPt0 c tbM0_0 xt0) -∗ K ⟨⟩))
          ⊢ wp frame (wpE (defs₀ (F := F)) Variants.none c none) E (cc0_attn i tbM0_0 htbM0_0 arg4 harg4 arg5 harg5 arg6 harg6 arg7 harg7 arg8 harg8 arg9 harg9) K } := by
  refine ⟨?_, ?_, ?_, fun E K => ?run⟩
  case run =>
    simp only [cc0_attn_eq_skeleton]; unfold cc0_attn_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, HT0, Hk⟩
    obtain rfl := harg4.eq_unread hf0; obtain rfl := harg5.eq_unread hf1; obtain rfl := harg6.eq_unread hf2
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [H4]; · iexists _; iexact H4
    isplitl [H5]; · iexists _; iexact H5
    iexact HT0

end Cert.KernelIdeal.Gen

end
-- ==== Proof.KernelIdealFrame.lean ====
module

public import proofs.«01_k».proof.Proof.KernelIdealRunA
public import proofs.«01_k».proof.Proof.KernelIdealRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The two guards of the body are complementary: one tests that the block of rows starts below the sequence's length, the
    other that it does not. -/
theorem cond2_iff (i : grid0.Coords) (w : BitVec 32) : k0_cond2 i w = 1#1 ↔ ¬ k0_cond1 i w = 1#1 := by
  simp only [k0_cond1, k0_cond2, Scalar.cmpi, Scalar.extui, IntOp.cmpi, BitVec.slt, BitVec.sle]
  generalize (Scalar.muli (BitVec.ofNat 32 (i 2).val) 256#32).toInt = x
  generalize w.toInt = y
  by_cases h : x < y
  · have h' : ¬ y ≤ x := by omega
    simp [h, h']
  · have h' : y ≤ x := by omega
    simp [h, h']

/-- No output is idle at any point: at each, one of the two guards holds, and under either the body stores every output. -/
theorem not_idle (c1 c2 : BitVec 1) (h : c2 = 1#1 ↔ ¬ c1 = 1#1) : (!(c1 == 1#1) && !(c2 == 1#1)) = false := by
  by_cases h1 : c1 = 1#1
  · simp [h1]
  · simp [h.2 h1]

/-- The run's pieces for output 3 tile its block (6 stores of `S1x1x128x256`), so they cover it. -/
theorem cover0_A_3 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : k0_cond1 i (tbW0 c xt0 i) = 1#1) (hc2 : ¬ k0_cond2 i (tbW0 c xt0 i) = 1#1) (y : S1x6x128x256.Idx) :
    ∃ pc ∈ (kernelRun0_A c i arg4 harg4 arg5 harg5 arg6 harg6 arg7 harg7 arg8 harg8 arg9 harg9 x0 x1 x2 xt0 hc1 hc2).1, y ∈ pc.1.set :=
  View.cover_of_tiledL (kernelRun0_A c i arg4 harg4 arg5 harg5 arg6 harg6 arg7 harg7 arg8 harg8 arg9 harg9 x0 x1 x2 xt0 hc1 hc2).1 S1x1x128x256.size (by sl_kernel_rfl) y

/-- What the run leaves in output 3's staging buffer: its pieces read back over junk. -/
def out0_A_3 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : k0_cond1 i (tbW0 c xt0 i) = 1#1) (hc2 : ¬ k0_cond2 i (tbW0 c xt0 i) = 1#1) : Vec F S1x6x128x256 .f32 :=
  VO0_3.read (Elt F) (VO0_3.writes (Elt F) VO0_3.junk (kernelRun0_A c i arg4 harg4 arg5 harg5 arg6 harg6 arg7 harg7 arg8 harg8 arg9 harg9 x0 x1 x2 xt0 hc1 hc2).1)

/-- The run's pieces for output 4 tile its block (6 stores of `S1x1x1x256`), so they cover it. -/
theorem cover0_A_4 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : k0_cond1 i (tbW0 c xt0 i) = 1#1) (hc2 : ¬ k0_cond2 i (tbW0 c xt0 i) = 1#1) (y : S1x1x6x256.Idx) :
    ∃ pc ∈ (kernelRun0_A c i arg4 harg4 arg5 harg5 arg6 harg6 arg7 harg7 arg8 harg8 arg9 harg9 x0 x1 x2 xt0 hc1 hc2).2.1, y ∈ pc.1.set :=
  View.cover_of_tiledL (kernelRun0_A c i arg4 harg4 arg5 harg5 arg6 harg6 arg7 harg7 arg8 harg8 arg9 harg9 x0 x1 x2 xt0 hc1 hc2).2.1 S1x1x1x256.size (by sl_kernel_rfl) y

/-- What the run leaves in output 4's staging buffer: its pieces read back over junk. -/
def out0_A_4 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : k0_cond1 i (tbW0 c xt0 i) = 1#1) (hc2 : ¬ k0_cond2 i (tbW0 c xt0 i) = 1#1) : Vec F S1x1x6x256 .f32 :=
  VO0_4.read (Elt F) (VO0_4.writes (Elt F) VO0_4.junk (kernelRun0_A c i arg4 harg4 arg5 harg5 arg6 harg6 arg7 harg7 arg8 harg8 arg9 harg9 x0 x1 x2 xt0 hc1 hc2).2.1)

/-- The run's pieces for output 5 tile its block (6 stores of `S1x1x1x256`), so they cover it. -/
theorem cover0_A_5 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : k0_cond1 i (tbW0 c xt0 i) = 1#1) (hc2 : ¬ k0_cond2 i (tbW0 c xt0 i) = 1#1) (y : S1x1x6x256.Idx) :
    ∃ pc ∈ (kernelRun0_A c i arg4 harg4 arg5 harg5 arg6 harg6 arg7 harg7 arg8 harg8 arg9 harg9 x0 x1 x2 xt0 hc1 hc2).2.2.1, y ∈ pc.1.set :=
  View.cover_of_tiledL (kernelRun0_A c i arg4 harg4 arg5 harg5 arg6 harg6 arg7 harg7 arg8 harg8 arg9 harg9 x0 x1 x2 xt0 hc1 hc2).2.2.1 S1x1x1x256.size (by sl_kernel_rfl) y

/-- What the run leaves in output 5's staging buffer: its pieces read back over junk. -/
def out0_A_5 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : k0_cond1 i (tbW0 c xt0 i) = 1#1) (hc2 : ¬ k0_cond2 i (tbW0 c xt0 i) = 1#1) : Vec F S1x1x6x256 .f32 :=
  VO0_5.read (Elt F) (VO0_5.writes (Elt F) VO0_5.junk (kernelRun0_A c i arg4 harg4 arg5 harg5 arg6 harg6 arg7 harg7 arg8 harg8 arg9 harg9 x0 x1 x2 xt0 hc1 hc2).2.2.1)

/-- The run's pieces for output 3 tile its block (one store, the whole block), so they cover it. -/
theorem cover0_B_3 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : ¬ k0_cond1 i (tbW0 c xt0 i) = 1#1) (hc2 : k0_cond2 i (tbW0 c xt0 i) = 1#1) (y : S1x6x128x256.Idx) :
    ∃ pc ∈ (kernelRun0_B c i arg4 harg4 arg5 harg5 arg6 harg6 arg7 harg7 arg8 harg8 arg9 harg9 x0 x1 x2 xt0 hc1 hc2).1, y ∈ pc.1.set :=
  View.cover_of_tiledL (kernelRun0_B c i arg4 harg4 arg5 harg5 arg6 harg6 arg7 harg7 arg8 harg8 arg9 harg9 x0 x1 x2 xt0 hc1 hc2).1 S1x6x128x256.size (by sl_kernel_rfl) y

/-- What the run leaves in output 3's staging buffer: its pieces read back over junk. -/
def out0_B_3 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : ¬ k0_cond1 i (tbW0 c xt0 i) = 1#1) (hc2 : k0_cond2 i (tbW0 c xt0 i) = 1#1) : Vec F S1x6x128x256 .f32 :=
  VO0_3.read (Elt F) (VO0_3.writes (Elt F) VO0_3.junk (kernelRun0_B c i arg4 harg4 arg5 harg5 arg6 harg6 arg7 harg7 arg8 harg8 arg9 harg9 x0 x1 x2 xt0 hc1 hc2).1)

/-- The run's pieces for output 4 tile its block (one store, the whole block), so they cover it. -/
theorem cover0_B_4 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : ¬ k0_cond1 i (tbW0 c xt0 i) = 1#1) (hc2 : k0_cond2 i (tbW0 c xt0 i) = 1#1) (y : S1x1x6x256.Idx) :
    ∃ pc ∈ (kernelRun0_B c i arg4 harg4 arg5 harg5 arg6 harg6 arg7 harg7 arg8 harg8 arg9 harg9 x0 x1 x2 xt0 hc1 hc2).2.1, y ∈ pc.1.set :=
  View.cover_of_tiledL (kernelRun0_B c i arg4 harg4 arg5 harg5 arg6 harg6 arg7 harg7 arg8 harg8 arg9 harg9 x0 x1 x2 xt0 hc1 hc2).2.1 S1x1x6x256.size (by sl_kernel_rfl) y

/-- What the run leaves in output 4's staging buffer: its pieces read back over junk. -/
def out0_B_4 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : ¬ k0_cond1 i (tbW0 c xt0 i) = 1#1) (hc2 : k0_cond2 i (tbW0 c xt0 i) = 1#1) : Vec F S1x1x6x256 .f32 :=
  VO0_4.read (Elt F) (VO0_4.writes (Elt F) VO0_4.junk (kernelRun0_B c i arg4 harg4 arg5 harg5 arg6 harg6 arg7 harg7 arg8 harg8 arg9 harg9 x0 x1 x2 xt0 hc1 hc2).2.1)

/-- The run's pieces for output 5 tile its block (one store, the whole block), so they cover it. -/
theorem cover0_B_5 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : ¬ k0_cond1 i (tbW0 c xt0 i) = 1#1) (hc2 : k0_cond2 i (tbW0 c xt0 i) = 1#1) (y : S1x1x6x256.Idx) :
    ∃ pc ∈ (kernelRun0_B c i arg4 harg4 arg5 harg5 arg6 harg6 arg7 harg7 arg8 harg8 arg9 harg9 x0 x1 x2 xt0 hc1 hc2).2.2.1, y ∈ pc.1.set :=
  View.cover_of_tiledL (kernelRun0_B c i arg4 harg4 arg5 harg5 arg6 harg6 arg7 harg7 arg8 harg8 arg9 harg9 x0 x1 x2 xt0 hc1 hc2).2.2.1 S1x1x6x256.size (by sl_kernel_rfl) y

/-- What the run leaves in output 5's staging buffer: its pieces read back over junk. -/
def out0_B_5 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole)
    (x0 : Vec F S1x6x128x256 .bf16) (x1 : Vec F S1x1x12288x128 .bf16) (x2 : Vec F S1x1x128x12288 .bf16) (xt0 : TbBuf0 (F := F) c tbM0_0)
    (hc1 : ¬ k0_cond1 i (tbW0 c xt0 i) = 1#1) (hc2 : k0_cond2 i (tbW0 c xt0 i) = 1#1) : Vec F S1x1x6x256 .f32 :=
  VO0_5.read (Elt F) (VO0_5.writes (Elt F) VO0_5.junk (kernelRun0_B c i arg4 harg4 arg5 harg5 arg6 harg6 arg7 harg7 arg8 harg8 arg9 harg9 x0 x1 x2 xt0 hc1 hc2).2.2.1)

/-! ## What the outputs hold after each point -/

/-- What the outputs' staging buffers hold after the body at point `t` (as a tuple, in window order): the run's contents at
    the point's memrefs and input blocks. -/
@[irreducible] def outsAt0 (hO : Ok m) (c : Dev nD) (t : Fin (cfgM m hO).N) : Vec F S1x6x128x256 .f32 × Vec F S1x1x6x256 .f32 × Vec F S1x1x6x256 .f32 :=
  if h : k0_cond1 (grid0.coords t) (tbW0 c (tbl m 0) (grid0.coords t)) = 1#1 then
    (out0_A_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h (fun e => (cond2_iff _ _).1 e h), out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h (fun e => (cond2_iff _ _).1 e h), out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h (fun e => (cond2_iff _ _).1 e h))
  else
    (out0_B_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h ((cond2_iff _ _).2 h), out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h ((cond2_iff _ _).2 h), out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h ((cond2_iff _ _).2 h))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t).1
    | ⟨4, _⟩ => (outsAt0 m hO c t).2.1
    | ⟨5, _⟩ => (outsAt0 m hO c t).2.2
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- After a step, window 1 still holds its input block. -/
theorem after0_1 (hO : Ok m) (c : Dev nD) (t : Fin (cfgM m hO).N) : (dats m hO 0 c).after 1 t = iblk m hO c 1 t := by dsimp only [dats]; try rfl
/-- After a step, window 2 still holds its input block. -/
theorem after0_2 (hO : Ok m) (c : Dev nD) (t : Fin (cfgM m hO).N) : (dats m hO 0 c).after 2 t = iblk m hO c 2 t := by dsimp only [dats]; try rfl
/-- After a step, window 3 holds the step's output block. -/
theorem after0_3 (hO : Ok m) (c : Dev nD) (t : Fin (cfgM m hO).N) : (dats m hO 0 c).after 3 t = (outsAt0 m hO c t).1 := by dsimp only [dats]; try rfl
/-- After a step, window 4 holds the step's block of score maxima. -/
theorem after0_4 (hO : Ok m) (c : Dev nD) (t : Fin (cfgM m hO).N) : (dats m hO 0 c).after 4 t = (outsAt0 m hO c t).2.1 := by dsimp only [dats]; try rfl
/-- After a step, window 5 holds the step's block of output maxima. -/
theorem after0_5 (hO : Ok m) (c : Dev nD) (t : Fin (cfgM m hO).N) : (dats m hO 0 c).after 5 t = (outsAt0 m hO c t).2.2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Before a step, window 1 holds its input block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Before a step, window 2 holds its input block. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  unfold outsAt0
  by_cases h : k0_cond1 (grid0.coords t) (tbW0 c (tbl m 0) (grid0.coords t)) = 1#1
  · simp only [dif_pos h]
    unfold out0_A_3 out0_A_4 out0_A_5; (try dsimp only)
    iintro ⟨⟨HΦ, HT0⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ (iblk m hO c 0 t) (iblk m hO c 1 t) (iblk m hO c 2 t) (tbl m 0) h (fun e => (cond2_iff _ _).1 e h)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HT0]; · iexact HT0
    iintro ⟨H0, H1, H2, ⟨%e3, H3⟩, ⟨%e4, H4⟩, ⟨%e5, H5⟩, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _ _)
  · simp only [dif_neg h]
    unfold out0_B_3 out0_B_4 out0_B_5; (try dsimp only)
    iintro ⟨⟨HΦ, HT0⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (iblk m hO c 0 t) (iblk m hO c 1 t) (iblk m hO c 2 t) (tbl m 0) h ((cond2_iff _ _).2 h)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HT0]; · iexact HT0
    iintro ⟨H0, H1, H2, ⟨%e3, H3⟩, ⟨%e4, H4⟩, ⟨%e5, H5⟩, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 2000000 in
/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  have e3 : idle0 (F := F) (tbl m) 3 (((pcfg0 (F := F)).gridAt (tbl m)).coords t) = false := not_idle _ _ (cond2_iff _ _)
  have e4 : idle0 (F := F) (tbl m) 4 (((pcfg0 (F := F)).gridAt (tbl m)).coords t) = false := not_idle _ _ (cond2_iff _ _)
  have e5 : idle0 (F := F) (tbl m) 5 (((pcfg0 (F := F)).gridAt (tbl m)).coords t) = false := not_idle _ _ (cond2_iff _ _)
  simp only []
  simp only [e3, e4, e5]
  exact triple_restated (sound_body m hO c t) rfl .rfl fun _ => .rfl

/-! ## The run and the frame -/

-- `θ_run_frameP_around`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) tail)) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := tail) (hsub := tail_sub) (hfresh := tail_fresh) (hkeep := tail_keeps)
    (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the host lines after the call leave it (`Pipeline.afterTail`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) tail)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- THE FRAME: `Cert.quiescent_KernelIdeal`'s statement (Defs.lean) at any `F`, for every contents of the prefetched table. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Gen

end
-- ==== Proof.Head.lean ====
module

public import proofs.«01_k».proof.Proof.KernelIdealFrame
public import Idealize.ShloMosaic.Lib.Pointwise

@[expose] public section

set_option synthInstance.maxSize 4096

noncomputable section

/-! # One head of a block of rows

    The kernel's body treats its six heads one after the other, each by the same operations: over the blocks of keys
    before the diagonal one a step that carries the row maxima, the greatest absolute scores, the sums of exponentials and
    the weighted values; a masked step at the diagonal block; a division. The functions below are that computation once,
    and the lemmas say that the loop of each head computes `loopU`. -/

namespace Cert.KernelIdeal.Gen

open Idealize.ShloMosaic Idealize.SL.Sem

variable {F : FTy → Type} [FloatOps F]

/-- What a head carries from block to block: the row maxima, the greatest absolute scores, the sums of exponentials, the
    weighted values. -/
abbrev St (F : FTy → Type) : Type := FVec F S1x256 .f32 × FVec F S1x256 .f32 × FVec F S1x256 .f32 × FVec F S128x256 .f32

/-- Block `n` of the keys. -/
def kblk (x1 : Vec F S1x1x12288x128 .bf16) (n : ℕ) : Vec F S1x1x256x128 .bf16 :=
  fun j => x1 (ix4 (0 : Fin 1) (0 : Fin 1) ⟨(256 * n + (j 2).val) % 12288, Nat.mod_lt _ (by decide)⟩ (⟨(j 3).val, (j 3).isLt⟩ : Fin 128))

/-- Block `n` of the values. -/
def vblk (x2 : Vec F S1x1x128x12288 .bf16) (n : ℕ) : Vec F S1x1x128x256 .bf16 :=
  fun j => x2 (ix4 (0 : Fin 1) (0 : Fin 1) (⟨(j 2).val, (j 2).isLt⟩ : Fin 128) ⟨(256 * n + (j 3).val) % 12288, Nat.mod_lt _ (by decide)⟩)

/-- The scaled scores of a block of keys (rows) against a block of queries (columns). -/
def scoresB (cst : F .f32) (q : FVec F S128x256 .bf16) (K : Vec F S1x1x256x128 .bf16) : FVec F S256x256 .f32 :=
  mulf (matmul dot_S256x128_S128x256_S256x256_1_0_0_1_n_n none (shapeCast S256x128 K shapeCasts_S1x1x256x128_S256x128) q
    (constant S256x256 .f32 0x00000000#32)) (broadcast S256x256 cst)

/-- The greater of `r` and each column's maximum of `x`. -/
def colMax (x : FVec F S256x256 .f32) (r : FVec F S1x256 .f32) : FVec F S1x256 .f32 :=
  maximumf r (shapeCast S1x256 (multiReduction .maximumf [0] S256 x 0xFF800000#32 reduces_S256x256_S256 (.inl rfl) rfl) shapeCasts_S256_S1x256)

/-- The exponentials of the scores against the row maxima. -/
def expB (x : FVec F S256x256 .f32) (m' : FVec F S1x256 .f32) : FVec F S256x256 .f32 :=
  exp (subf x (broadcastTo S256x256 m' broadcasts_S1x256_S256x256))

/-- The factor by which the sums of the blocks before are rescaled. -/
def expA (m m' : FVec F S1x256 .f32) : FVec F S1x256 .f32 := exp (subf m m')

/-- The sums of exponentials after a block. -/
def addL (l a : FVec F S1x256 .f32) (p : FVec F S256x256 .f32) : FVec F S1x256 .f32 :=
  addf (mulf l a) (shapeCast S1x256 (multiReduction .add [0] S256 p 0x00000000#32 reduces_S256x256_S256 (.inl rfl) rfl) shapeCasts_S256_S1x256)

/-- The weighted values after a block. -/
def addO (o : FVec F S128x256 .f32) (a : FVec F S1x256 .f32) (p : FVec F S256x256 .f32) (V : Vec F S1x1x128x256 .bf16) : FVec F S128x256 .f32 :=
  addf (mulf o (broadcastTo S128x256 a broadcasts_S1x256_S128x256))
    (matmul dot_S128x256_S256x256_S128x256_1_0_0_1_n_n none (shapeCast S128x256 V shapeCasts_S1x1x128x256_S128x256)
      (truncf .bf16 p bitsLt_bf16_f32) (constant S128x256 .f32 0x00000000#32))

/-- A step over scores `x`, with `u` the absolute values to take the maximum of. -/
def stepB (x u : FVec F S256x256 .f32) (V : Vec F S1x1x128x256 .bf16) (s : St F) : St F :=
  (colMax x s.1, colMax u s.2.1, addL s.2.2.1 (expA s.1 (colMax x s.1)) (expB x (colMax x s.1)),
    addO s.2.2.2 (expA s.1 (colMax x s.1)) (expB x (colMax x s.1)) V)

/-- The step of a block before the diagonal one. -/
def stepU (cst : F .f32) (q : FVec F S128x256 .bf16) (K : Vec F S1x1x256x128 .bf16) (V : Vec F S1x1x128x256 .bf16) (s : St F) : St F :=
  stepB (scoresB cst q K) (absf (scoresB cst q K)) V s

/-- Which keys of the diagonal block a query sees. -/
def visB : IVec S256x256 1 :=
  cmpi .sle (iota .tc S256x256 32 [0] iota_S256x256_d0_w32) (iota .tc S256x256 32 [1] iota_S256x256_d1_w32)

/-- The step of the diagonal block. -/
def stepM (cst : F .f32) (q : FVec F S128x256 .bf16) (K : Vec F S1x1x256x128 .bf16) (V : Vec F S1x1x128x256 .bf16) (s : St F) : St F :=
  stepB (select visB (scoresB cst q K) (broadcast S256x256 (Scalar.ofBits .f32 0xFF800000#32)))
    (select visB (absf (scoresB cst q K)) (broadcast S256x256 (Scalar.ofBits .f32 0x00000000#32))) V s

/-- What a head carries at first. -/
def st0 : St F := (broadcast S1x256 (Scalar.ofBits .f32 0xFF800000#32), broadcast S1x256 (Scalar.ofBits .f32 0x00000000#32),
  broadcast S1x256 (Scalar.ofBits .f32 0x00000000#32), broadcast S128x256 (Scalar.ofBits .f32 0x00000000#32))

/-- What a head carries after the first `n` blocks. -/
def loopU (cst : F .f32) (q : FVec F S128x256 .bf16) (x1 : Vec F S1x1x12288x128 .bf16) (x2 : Vec F S1x1x128x12288 .bf16) : ℕ → St F
  | 0 => st0
  | n + 1 => stepU cst q (kblk x1 n) (vblk x2 n) (loopU cst q x1 x2 n)

/-- What a head holds after the diagonal block `n`. -/
def endS (cst : F .f32) (q : FVec F S128x256 .bf16) (x1 : Vec F S1x1x12288x128 .bf16) (x2 : Vec F S1x1x128x12288 .bf16) (n : ℕ) : St F :=
  stepM cst q (kblk x1 n) (vblk x2 n) (loopU cst q x1 x2 n)

/-- A head's output: the weighted values over the sums, zero past the sequence's length. -/
def outO (w : IVec S1x256 1) (s : St F) : FVec F S128x256 .f32 :=
  select (broadcastTo S128x256 (shapeCast S1x256 w shapeCasts_S1x256_S1x256) broadcasts_S1x256_S128x256)
    (divf s.2.2.2 (broadcastTo S128x256 s.2.2.1 broadcasts_S1x256_S128x256)) (broadcast S128x256 (Scalar.ofBits .f32 0x00000000#32))

/-- A head's greatest absolute scores, zero past the sequence's length. -/
def outR (w : IVec S1x256 1) (s : St F) : FVec F S1x256 .f32 :=
  select w s.2.1 (broadcast S1x256 (Scalar.ofBits .f32 0x00000000#32))

/-- The greatest absolute output of each row. -/
def outA (o : FVec F S128x256 .f32) : FVec F S1x256 .f32 :=
  shapeCast S1x256 (multiReduction .maximumf [0] S256 (absf o) 0xFF800000#32 reduces_S128x256_S256 (.inl rfl) rfl) shapeCasts_S256_S1x256

/-! ## The loads -/

/-- A load of 256 rows of keys is a block of the keys. -/
theorem load_k (arg5 : Memref sig .tc .vmem S1x1x12288x128 .bf16) (harg5 : arg5.IsWhole) (x1 : Vec F S1x1x12288x128 .bf16)
    (off : Fin 4 → ℕ) (inb : ∀ a, off a + S1x1x256x128.size a ≤ S1x1x12288x128.size a) (n : ℕ) (ho : off = ![0, 0, 256 * n, 0]) :
    View.readAt (Elt F) arg5.view (Rect.unit (s := S1x1x12288x128) off S1x1x256x128.size inb).toLoadRect (harg5.unread x1) = kblk x1 n := by
  subst ho
  rw [View.readAt_eq_ld, Memref.IsWhole.read_unread]
  funext j
  have hb := inb 2
  have h2 : (j 2).val < 256 := (j 2).isLt
  refine congrArg x1 (funext fun a => Fin.ext ?_)
  match a with
  | ⟨0, _⟩ => have : (j 0).val < 1 := (j 0).isLt; show 0 + 1 * (j 0).val = 0; omega
  | ⟨1, _⟩ => have : (j 1).val < 1 := (j 1).isLt; show 0 + 1 * (j 1).val = 0; omega
  | ⟨2, _⟩ =>
    have hb' : 256 * n + 256 ≤ 12288 := hb
    show 256 * n + 1 * (j 2).val = (256 * n + (j 2).val) % 12288
    rw [Nat.mod_eq_of_lt (by omega)]; omega
  | ⟨3, _⟩ => show 0 + 1 * (j 3).val = (j 3).val; omega

/-- A load of 256 columns of values is a block of the values. -/
theorem load_v (arg6 : Memref sig .tc .vmem S1x1x128x12288 .bf16) (harg6 : arg6.IsWhole) (x2 : Vec F S1x1x128x12288 .bf16)
    (off : Fin 4 → ℕ) (inb : ∀ a, off a + S1x1x128x256.size a ≤ S1x1x128x12288.size a) (n : ℕ) (ho : off = ![0, 0, 0, 256 * n]) :
    View.readAt (Elt F) arg6.view (Rect.unit (s := S1x1x128x12288) off S1x1x128x256.size inb).toLoadRect (harg6.unread x2) = vblk x2 n := by
  subst ho
  rw [View.readAt_eq_ld, Memref.IsWhole.read_unread]
  funext j
  have hb := inb 3
  have h3 : (j 3).val < 256 := (j 3).isLt
  refine congrArg x2 (funext fun a => Fin.ext ?_)
  match a with
  | ⟨0, _⟩ => have : (j 0).val < 1 := (j 0).isLt; show 0 + 1 * (j 0).val = 0; omega
  | ⟨1, _⟩ => have : (j 1).val < 1 := (j 1).isLt; show 0 + 1 * (j 1).val = 0; omega
  | ⟨2, _⟩ => show 0 + 1 * (j 2).val = (j 2).val; omega
  | ⟨3, _⟩ =>
    have hb' : 256 * n + 256 ≤ 12288 := hb
    show 256 * n + 1 * (j 3).val = (256 * n + (j 3).val) % 12288
    rw [Nat.mod_eq_of_lt (by omega)]; omega

/-! ## The loops -/

/-- Each head's loop makes as many trips as there are blocks before the diagonal one. -/
theorem trips1 (i : grid0.Coords) : (k0_t1_loop i).trips = (i 2).val := by
  have h : ∀ n : Fin 48, Scf.trips 0#32 (Scalar.addi 0#32 (Scalar.muli (Scalar.divsi (Scalar.subi (BitVec.ofNat 32 n.val) 0#32) 1#32) 1#32)) 1#32 = n.val := by
    decide +kernel
  exact h (i 2)

/-- Loop 1 computes `loopU`. -/
theorem st_t1 (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v3 : IVec S256x256 32) (v4 : IVec S256x256 32) (cst : F .f32) (v16 : Vec F S1x1x128x256 .bf16) (x1 : Vec F S1x1x12288x128 .bf16) (x2 : Vec F S1x1x128x12288 .bf16) :
    ∀ n ≤ (k0_t1_loop i).trips, st_k0_t1 (F := F) 𝒱 c bd i arg3 harg3 arg4 harg4 arg5 harg5 arg6 harg6 arg7 harg7 arg8 harg8 arg9 harg9 arg2 v3 v4 cst v16 (harg5.unread x1) (harg6.unread x2) st0 n = loopU cst (shapeCast S128x256 v16 shapeCasts_S1x1x128x256_S128x256) x1 x2 n := by
  intro n
  induction n with
  | zero => intro _; rfl
  | succ n ih =>
    intro hn
    rw [st_k0_t1_succ (k := ⟨n, hn⟩), ih (by omega)]
    delta tripR_k0_t1 trip_k0_t1
    dsimp only
    rw [load_k (ho := k0_off2_eq i ⟨n, hn⟩), load_v (ho := k0_off3_eq i ⟨n, hn⟩)]
    rfl

/-- Loop 3 computes `loopU`. -/
theorem st_t3 (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v3 : IVec S256x256 32) (v4 : IVec S256x256 32) (cst : F .f32) (v87 : FVec F S128x256 .bf16) (x1 : Vec F S1x1x12288x128 .bf16) (x2 : Vec F S1x1x128x12288 .bf16) :
    ∀ n ≤ (k0_t3_loop i).trips, st_k0_t3 (F := F) 𝒱 c bd i arg3 harg3 arg4 harg4 arg5 harg5 arg6 harg6 arg7 harg7 arg8 harg8 arg9 harg9 arg2 v3 v4 cst v87 (harg5.unread x1) (harg6.unread x2) st0 n = loopU cst v87 x1 x2 n := by
  intro n
  induction n with
  | zero => intro _; rfl
  | succ n ih =>
    intro hn
    rw [st_k0_t3_succ (k := ⟨n, hn⟩), ih (by omega)]
    delta tripR_k0_t3 trip_k0_t3
    dsimp only
    rw [load_k (ho := k0_off8_eq i ⟨n, hn⟩), load_v (ho := k0_off9_eq i ⟨n, hn⟩)]
    rfl

/-- Loop 5 computes `loopU`. -/
theorem st_t5 (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v3 : IVec S256x256 32) (v4 : IVec S256x256 32) (cst : F .f32) (v157 : FVec F S128x256 .bf16) (v158 : FVec F S1x256 .f32) (v159 : FVec F S1x256 .f32) (v160 : FVec F S1x256 .f32) (x1 : Vec F S1x1x12288x128 .bf16) (x2 : Vec F S1x1x128x12288 .bf16) :
    ∀ n ≤ (k0_t5_loop i).trips, st_k0_t5 (F := F) 𝒱 c bd i arg3 harg3 arg4 harg4 arg5 harg5 arg6 harg6 arg7 harg7 arg8 harg8 arg9 harg9 arg2 v3 v4 cst v157 v158 v159 v160 (harg5.unread x1) (harg6.unread x2) st0 n = loopU cst v157 x1 x2 n := by
  intro n
  induction n with
  | zero => intro _; rfl
  | succ n ih =>
    intro hn
    rw [st_k0_t5_succ (k := ⟨n, hn⟩), ih (by omega)]
    delta tripR_k0_t5 trip_k0_t5
    dsimp only
    rw [load_k (ho := k0_off12_eq i ⟨n, hn⟩), load_v (ho := k0_off13_eq i ⟨n, hn⟩)]
    rfl

/-- Loop 7 computes `loopU`. -/
theorem st_t7 (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v3 : IVec S256x256 32) (v4 : IVec S256x256 32) (cst : F .f32) (v227 : FVec F S128x256 .bf16) (v228 : FVec F S1x256 .f32) (v229 : FVec F S1x256 .f32) (v230 : FVec F S1x256 .f32) (v231 : FVec F S128x256 .f32) (c0_i32_127 : BitVec 32) (v232 : BitVec 32) (c1_i32_128 : BitVec 32) (x1 : Vec F S1x1x12288x128 .bf16) (x2 : Vec F S1x1x128x12288 .bf16) :
    ∀ n ≤ (k0_t7_loop i).trips, st_k0_t7 (F := F) 𝒱 c bd i arg3 harg3 arg4 harg4 arg5 harg5 arg6 harg6 arg7 harg7 arg8 harg8 arg9 harg9 arg2 v3 v4 cst v227 v228 v229 v230 v231 c0_i32_127 v232 c1_i32_128 (harg5.unread x1) (harg6.unread x2) st0 n = loopU cst v227 x1 x2 n := by
  intro n
  induction n with
  | zero => intro _; rfl
  | succ n ih =>
    intro hn
    rw [st_k0_t7_succ (k := ⟨n, hn⟩), ih (by omega)]
    delta tripR_k0_t7 trip_k0_t7
    dsimp only
    rw [load_k (ho := k0_off16_eq i ⟨n, hn⟩), load_v (ho := k0_off17_eq i ⟨n, hn⟩)]
    rfl

/-- Loop 9 computes `loopU`. -/
theorem st_t9 (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v9 : IVec S1x256 1) (cst : F .f32) (v253 : FVec F S1x256 .f32) (v277 : FVec F S128x256 .f32) (v296 : Vec F S1x1x128x256 .bf16) (x1 : Vec F S1x1x12288x128 .bf16) (x2 : Vec F S1x1x128x12288 .bf16) :
    ∀ n ≤ (k0_t9_loop i).trips, st_k0_t9 (F := F) 𝒱 c bd i arg3 harg3 arg4 harg4 arg5 harg5 arg6 harg6 arg7 harg7 arg8 harg8 arg9 harg9 arg2 v9 cst v253 v277 v296 (harg5.unread x1) (harg6.unread x2) st0 n = loopU cst (shapeCast S128x256 v296 shapeCasts_S1x1x128x256_S128x256) x1 x2 n := by
  intro n
  induction n with
  | zero => intro _; rfl
  | succ n ih =>
    intro hn
    rw [st_k0_t9_succ (k := ⟨n, hn⟩), ih (by omega)]
    delta tripR_k0_t9 trip_k0_t9
    dsimp only
    rw [load_k (ho := k0_off20_eq i ⟨n, hn⟩), load_v (ho := k0_off21_eq i ⟨n, hn⟩)]
    rfl

/-- Loop 11 computes `loopU`. -/
theorem st_t11 (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v9 : IVec S1x256 1) (cst : F .f32) (v323 : FVec F S1x256 .f32) (v351 : FVec F S128x256 .f32) (v366 : Vec F S1x1x128x256 .bf16) (x1 : Vec F S1x1x12288x128 .bf16) (x2 : Vec F S1x1x128x12288 .bf16) :
    ∀ n ≤ (k0_t11_loop i).trips, st_k0_t11 (F := F) 𝒱 c bd i arg3 harg3 arg4 harg4 arg5 harg5 arg6 harg6 arg7 harg7 arg8 harg8 arg9 harg9 arg2 v9 cst v323 v351 v366 (harg5.unread x1) (harg6.unread x2) st0 n = loopU cst (shapeCast S128x256 v366 shapeCasts_S1x1x128x256_S128x256) x1 x2 n := by
  intro n
  induction n with
  | zero => intro _; rfl
  | succ n ih =>
    intro hn
    rw [st_k0_t11_succ (k := ⟨n, hn⟩), ih (by omega)]
    delta tripR_k0_t11 trip_k0_t11
    dsimp only
    rw [load_k (ho := k0_off24_eq i ⟨n, hn⟩), load_v (ho := k0_off25_eq i ⟨n, hn⟩)]
    rfl

/-! ## The loops as the body has them -/

/-- Loop 1 computes `loopU`, over all the blocks before the diagonal one. -/
theorem st_t1_end (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v3 : IVec S256x256 32) (v4 : IVec S256x256 32) (cst : F .f32) (v16 : Vec F S1x1x128x256 .bf16) (x1 : Vec F S1x1x12288x128 .bf16) (x2 : Vec F S1x1x128x12288 .bf16) :
    st_k0_t1 (F := F) 𝒱 c bd i arg3 harg3 arg4 harg4 arg5 harg5 arg6 harg6 arg7 harg7 arg8 harg8 arg9 harg9 arg2 v3 v4 cst v16 (harg5.unread x1) (harg6.unread x2) (k0_pay8, k0_pay9, k0_pay10, k0_pay11) (Scf.trips (k0_t1_loop i).lb (k0_t1_loop i).ub (k0_t1_loop i).st) = loopU cst (shapeCast S128x256 v16 shapeCasts_S1x1x128x256_S128x256) x1 x2 (i 2).val :=
  (st_t1 𝒱 c bd i arg3 harg3 arg4 harg4 arg5 harg5 arg6 harg6 arg7 harg7 arg8 harg8 arg9 harg9 arg2 v3 v4 cst v16 x1 x2 (k0_t1_loop i).trips le_rfl).trans (congrArg _ (trips1 i))

/-- Loop 2, over the blocks left over, makes no trip. -/
theorem st_t2_end (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v3 : IVec S256x256 32) (v4 : IVec S256x256 32) (cst : F .f32) (v16 : Vec F S1x1x128x256 .bf16) (X5 : Vec F S1x1x12288x128 .bf16) (X6 : Vec F S1x1x128x12288 .bf16) (s : St F) :
    st_k0_t2 (F := F) 𝒱 c bd i arg3 harg3 arg4 harg4 arg5 harg5 arg6 harg6 arg7 harg7 arg8 harg8 arg9 harg9 arg2 v3 v4 cst v16 (harg5.unread X5) (harg6.unread X6) s (Scf.trips (k0_t2_loop i).lb (k0_t2_loop i).ub (k0_t2_loop i).st) = s := by
  rw [show Scf.trips (k0_t2_loop i).lb (k0_t2_loop i).ub (k0_t2_loop i).st = 0 from Nat.le_zero.1 (k0_t2_abs i).2.1]
  rfl

/-- Loop 3 computes `loopU`, over all the blocks before the diagonal one. -/
theorem st_t3_end (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v3 : IVec S256x256 32) (v4 : IVec S256x256 32) (cst : F .f32) (v87 : FVec F S128x256 .bf16) (x1 : Vec F S1x1x12288x128 .bf16) (x2 : Vec F S1x1x128x12288 .bf16) :
    st_k0_t3 (F := F) 𝒱 c bd i arg3 harg3 arg4 harg4 arg5 harg5 arg6 harg6 arg7 harg7 arg8 harg8 arg9 harg9 arg2 v3 v4 cst v87 (harg5.unread x1) (harg6.unread x2) (k0_pay39, k0_pay40, k0_pay41, k0_pay42) (Scf.trips (k0_t3_loop i).lb (k0_t3_loop i).ub (k0_t3_loop i).st) = loopU cst v87 x1 x2 (i 2).val :=
  (st_t3 𝒱 c bd i arg3 harg3 arg4 harg4 arg5 harg5 arg6 harg6 arg7 harg7 arg8 harg8 arg9 harg9 arg2 v3 v4 cst v87 x1 x2 (k0_t3_loop i).trips le_rfl).trans (congrArg _ ((show (k0_t3_loop i).trips = (k0_t1_loop i).trips from rfl).trans (trips1 i)))

/-- Loop 4, over the blocks left over, makes no trip. -/
theorem st_t4_end (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v3 : IVec S256x256 32) (v4 : IVec S256x256 32) (cst : F .f32) (v87 : FVec F S128x256 .bf16) (X5 : Vec F S1x1x12288x128 .bf16) (X6 : Vec F S1x1x128x12288 .bf16) (s : St F) :
    st_k0_t4 (F := F) 𝒱 c bd i arg3 harg3 arg4 harg4 arg5 harg5 arg6 harg6 arg7 harg7 arg8 harg8 arg9 harg9 arg2 v3 v4 cst v87 (harg5.unread X5) (harg6.unread X6) s (Scf.trips (k0_t4_loop i).lb (k0_t4_loop i).ub (k0_t4_loop i).st) = s := by
  rw [show Scf.trips (k0_t4_loop i).lb (k0_t4_loop i).ub (k0_t4_loop i).st = 0 from Nat.le_zero.1 (k0_t4_abs i).2.1]
  rfl

/-- Loop 5 computes `loopU`, over all the blocks before the diagonal one. -/
theorem st_t5_end (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v3 : IVec S256x256 32) (v4 : IVec S256x256 32) (cst : F .f32) (v157 : FVec F S128x256 .bf16) (v158 : FVec F S1x256 .f32) (v159 : FVec F S1x256 .f32) (v160 : FVec F S1x256 .f32) (x1 : Vec F S1x1x12288x128 .bf16) (x2 : Vec F S1x1x128x12288 .bf16) :
    st_k0_t5 (F := F) 𝒱 c bd i arg3 harg3 arg4 harg4 arg5 harg5 arg6 harg6 arg7 harg7 arg8 harg8 arg9 harg9 arg2 v3 v4 cst v157 v158 v159 v160 (harg5.unread x1) (harg6.unread x2) (k0_pay71, k0_pay72, k0_pay73, k0_pay74) (Scf.trips (k0_t5_loop i).lb (k0_t5_loop i).ub (k0_t5_loop i).st) = loopU cst v157 x1 x2 (i 2).val :=
  (st_t5 𝒱 c bd i arg3 harg3 arg4 harg4 arg5 harg5 arg6 harg6 arg7 harg7 arg8 harg8 arg9 harg9 arg2 v3 v4 cst v157 v158 v159 v160 x1 x2 (k0_t5_loop i).trips le_rfl).trans (congrArg _ ((show (k0_t5_loop i).trips = (k0_t1_loop i).trips from rfl).trans (trips1 i)))

/-- Loop 6, over the blocks left over, makes no trip. -/
theorem st_t6_end (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v3 : IVec S256x256 32) (v4 : IVec S256x256 32) (cst : F .f32) (v157 : FVec F S128x256 .bf16) (v158 : FVec F S1x256 .f32) (v159 : FVec F S1x256 .f32) (v160 : FVec F S1x256 .f32) (X5 : Vec F S1x1x12288x128 .bf16) (X6 : Vec F S1x1x128x12288 .bf16) (s : St F) :
    st_k0_t6 (F := F) 𝒱 c bd i arg3 harg3 arg4 harg4 arg5 harg5 arg6 harg6 arg7 harg7 arg8 harg8 arg9 harg9 arg2 v3 v4 cst v157 v158 v159 v160 (harg5.unread X5) (harg6.unread X6) s (Scf.trips (k0_t6_loop i).lb (k0_t6_loop i).ub (k0_t6_loop i).st) = s := by
  rw [show Scf.trips (k0_t6_loop i).lb (k0_t6_loop i).ub (k0_t6_loop i).st = 0 from Nat.le_zero.1 (k0_t6_abs i).2.1]
  rfl

/-- Loop 7 computes `loopU`, over all the blocks before the diagonal one. -/
theorem st_t7_end (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v3 : IVec S256x256 32) (v4 : IVec S256x256 32) (cst : F .f32) (v227 : FVec F S128x256 .bf16) (v228 : FVec F S1x256 .f32) (v229 : FVec F S1x256 .f32) (v230 : FVec F S1x256 .f32) (v231 : FVec F S128x256 .f32) (c0_i32_127 : BitVec 32) (v232 : BitVec 32) (c1_i32_128 : BitVec 32) (x1 : Vec F S1x1x12288x128 .bf16) (x2 : Vec F S1x1x128x12288 .bf16) :
    st_k0_t7 (F := F) 𝒱 c bd i arg3 harg3 arg4 harg4 arg5 harg5 arg6 harg6 arg7 harg7 arg8 harg8 arg9 harg9 arg2 v3 v4 cst v227 v228 v229 v230 v231 c0_i32_127 v232 c1_i32_128 (harg5.unread x1) (harg6.unread x2) (k0_pay104, k0_pay105, k0_pay106, k0_pay107) (Scf.trips (k0_t7_loop i).lb (k0_t7_loop i).ub (k0_t7_loop i).st) = loopU cst v227 x1 x2 (i 2).val :=
  (st_t7 𝒱 c bd i arg3 harg3 arg4 harg4 arg5 harg5 arg6 harg6 arg7 harg7 arg8 harg8 arg9 harg9 arg2 v3 v4 cst v227 v228 v229 v230 v231 c0_i32_127 v232 c1_i32_128 x1 x2 (k0_t7_loop i).trips le_rfl).trans (congrArg _ ((show (k0_t7_loop i).trips = (k0_t1_loop i).trips from rfl).trans (trips1 i)))

/-- Loop 8, over the blocks left over, makes no trip. -/
theorem st_t8_end (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v3 : IVec S256x256 32) (v4 : IVec S256x256 32) (cst : F .f32) (v227 : FVec F S128x256 .bf16) (v228 : FVec F S1x256 .f32) (v229 : FVec F S1x256 .f32) (v230 : FVec F S1x256 .f32) (v231 : FVec F S128x256 .f32) (c0_i32_127 : BitVec 32) (v232 : BitVec 32) (c1_i32_128 : BitVec 32) (X5 : Vec F S1x1x12288x128 .bf16) (X6 : Vec F S1x1x128x12288 .bf16) (s : St F) :
    st_k0_t8 (F := F) 𝒱 c bd i arg3 harg3 arg4 harg4 arg5 harg5 arg6 harg6 arg7 harg7 arg8 harg8 arg9 harg9 arg2 v3 v4 cst v227 v228 v229 v230 v231 c0_i32_127 v232 c1_i32_128 (harg5.unread X5) (harg6.unread X6) s (Scf.trips (k0_t8_loop i).lb (k0_t8_loop i).ub (k0_t8_loop i).st) = s := by
  rw [show Scf.trips (k0_t8_loop i).lb (k0_t8_loop i).ub (k0_t8_loop i).st = 0 from Nat.le_zero.1 (k0_t8_abs i).2.1]
  rfl

/-- Loop 9 computes `loopU`, over all the blocks before the diagonal one. -/
theorem st_t9_end (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v9 : IVec S1x256 1) (cst : F .f32) (v253 : FVec F S1x256 .f32) (v277 : FVec F S128x256 .f32) (v296 : Vec F S1x1x128x256 .bf16) (x1 : Vec F S1x1x12288x128 .bf16) (x2 : Vec F S1x1x128x12288 .bf16) :
    st_k0_t9 (F := F) 𝒱 c bd i arg3 harg3 arg4 harg4 arg5 harg5 arg6 harg6 arg7 harg7 arg8 harg8 arg9 harg9 arg2 v9 cst v253 v277 v296 (harg5.unread x1) (harg6.unread x2) (k0_pay131, k0_pay132, k0_pay133, k0_pay134) (Scf.trips (k0_t9_loop i).lb (k0_t9_loop i).ub (k0_t9_loop i).st) = loopU cst (shapeCast S128x256 v296 shapeCasts_S1x1x128x256_S128x256) x1 x2 (i 2).val :=
  (st_t9 𝒱 c bd i arg3 harg3 arg4 harg4 arg5 harg5 arg6 harg6 arg7 harg7 arg8 harg8 arg9 harg9 arg2 v9 cst v253 v277 v296 x1 x2 (k0_t9_loop i).trips le_rfl).trans (congrArg _ ((show (k0_t9_loop i).trips = (k0_t1_loop i).trips from rfl).trans (trips1 i)))

/-- Loop 10, over the blocks left over, makes no trip. -/
theorem st_t10_end (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v3 : IVec S256x256 32) (v4 : IVec S256x256 32) (v9 : IVec S1x256 1) (cst : F .f32) (v297 : FVec F S128x256 .bf16) (v306 : BitVec 32) (v307_0 : FVec F S1x256 .f32) (v307_1 : FVec F S1x256 .f32) (v307_2 : FVec F S1x256 .f32) (v307_3 : FVec F S128x256 .f32) (c1_i32_170 : BitVec 32) (X5 : Vec F S1x1x12288x128 .bf16) (X6 : Vec F S1x1x128x12288 .bf16) (s : St F) :
    st_k0_t10 (F := F) 𝒱 c bd i arg3 harg3 arg4 harg4 arg5 harg5 arg6 harg6 arg7 harg7 arg8 harg8 arg9 harg9 arg2 v3 v4 v9 cst v297 v306 v307_0 v307_1 v307_2 v307_3 c1_i32_170 (harg5.unread X5) (harg6.unread X6) s (Scf.trips (k0_t10_loop i).lb (k0_t10_loop i).ub (k0_t10_loop i).st) = s := by
  rw [show Scf.trips (k0_t10_loop i).lb (k0_t10_loop i).ub (k0_t10_loop i).st = 0 from Nat.le_zero.1 (k0_t10_abs i).2.1]
  rfl

/-- Loop 11 computes `loopU`, over all the blocks before the diagonal one. -/
theorem st_t11_end (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v9 : IVec S1x256 1) (cst : F .f32) (v323 : FVec F S1x256 .f32) (v351 : FVec F S128x256 .f32) (v366 : Vec F S1x1x128x256 .bf16) (x1 : Vec F S1x1x12288x128 .bf16) (x2 : Vec F S1x1x128x12288 .bf16) :
    st_k0_t11 (F := F) 𝒱 c bd i arg3 harg3 arg4 harg4 arg5 harg5 arg6 harg6 arg7 harg7 arg8 harg8 arg9 harg9 arg2 v9 cst v323 v351 v366 (harg5.unread x1) (harg6.unread x2) (k0_pay157, k0_pay158, k0_pay159, k0_pay160) (Scf.trips (k0_t11_loop i).lb (k0_t11_loop i).ub (k0_t11_loop i).st) = loopU cst (shapeCast S128x256 v366 shapeCasts_S1x1x128x256_S128x256) x1 x2 (i 2).val :=
  (st_t11 𝒱 c bd i arg3 harg3 arg4 harg4 arg5 harg5 arg6 harg6 arg7 harg7 arg8 harg8 arg9 harg9 arg2 v9 cst v323 v351 v366 x1 x2 (k0_t11_loop i).trips le_rfl).trans (congrArg _ ((show (k0_t11_loop i).trips = (k0_t1_loop i).trips from rfl).trans (trips1 i)))

/-- Loop 12, over the blocks left over, makes no trip. -/
theorem st_t12_end (𝒱 : Variants) (c : Dev nD) (bd : Option 𝒱.V) (i : grid0.Coords) (arg3 : Memref sig .tc .smem S2 .i32) (harg3 : arg3.IsWhole) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (arg2 : BitVec 32) (v9 : IVec S1x256 1) (cst : F .f32) (v323 : FVec F S1x256 .f32) (v351 : FVec F S128x256 .f32) (v366 : Vec F S1x1x128x256 .bf16) (X5 : Vec F S1x1x12288x128 .bf16) (X6 : Vec F S1x1x128x12288 .bf16) (s : St F) :
    st_k0_t12 (F := F) 𝒱 c bd i arg3 harg3 arg4 harg4 arg5 harg5 arg6 harg6 arg7 harg7 arg8 harg8 arg9 harg9 arg2 v9 cst v323 v351 v366 (harg5.unread X5) (harg6.unread X6) s (Scf.trips (k0_t12_loop i).lb (k0_t12_loop i).ub (k0_t12_loop i).st) = s := by
  rw [show Scf.trips (k0_t12_loop i).lb (k0_t12_loop i).ub (k0_t12_loop i).st = 0 from Nat.le_zero.1 (k0_t12_abs i).2.1]
  rfl

/-- Head `h` of a block of queries. -/
def qblk (x0 : Vec F S1x6x128x256 .bf16) (h : Fin 6) : Vec F S1x1x128x256 .bf16 :=
  fun j => x0 (ix4 (0 : Fin 1) h (⟨(j 2).val, (j 2).isLt⟩ : Fin 128) (⟨(j 3).val, (j 3).isLt⟩ : Fin 256))

/-- A load of one head of the queries. -/
theorem load_q (arg4 : Memref sig .tc .vmem S1x6x128x256 .bf16) (harg4 : arg4.IsWhole) (x0 : Vec F S1x6x128x256 .bf16)
    (off : Fin 4 → ℕ) (inb : ∀ a, off a + S1x1x128x256.size a ≤ S1x6x128x256.size a) (h : Fin 6) (ho : off = ![0, h.val, 0, 0]) :
    View.readAt (Elt F) arg4.view (Rect.unit (s := S1x6x128x256) off S1x1x128x256.size inb).toLoadRect (harg4.unread x0) = qblk x0 h := by
  subst ho
  rw [View.readAt_eq_ld, Memref.IsWhole.read_unread]
  funext j
  refine congrArg x0 (funext fun a => Fin.ext ?_)
  match a with
  | ⟨0, _⟩ => have : (j 0).val < 1 := (j 0).isLt; show 0 + 1 * (j 0).val = 0; omega
  | ⟨1, _⟩ => have : (j 1).val < 1 := (j 1).isLt; show h.val + 1 * (j 1).val = h.val; omega
  | ⟨2, _⟩ => show 0 + 1 * (j 2).val = (j 2).val; omega
  | ⟨3, _⟩ => show 0 + 1 * (j 3).val = (j 3).val; omega

end Cert.KernelIdeal.Gen
-- ==== Proof.Pieces.lean ====
module

public import proofs.«01_k».proof.Proof.Head

@[expose] public section

set_option synthInstance.maxSize 4096
set_option maxRecDepth 16384

noncomputable section

/-! # What the body stores

    The six pieces of each of the three outputs at a point the kernel computes, by the functions of `Head`. -/

namespace Cert.KernelIdeal.Gen

open Idealize.ShloMosaic Idealize.SL.Sem

variable {F : FTy → Type} [FloatOps F]

/-- The scale of the scores. -/
abbrev scl : F .f32 := FloatOps.ofBits .f32 0x3DB504F3#32

/-- What head `h` holds after the diagonal block of a point. -/
def endH (x0 : Vec F S1x6x128x256 .bf16) (x1 : Vec F S1x1x12288x128 .bf16) (x2 : Vec F S1x1x128x12288 .bf16) (n : ℕ) (h : Fin 6) : St F :=
  endS scl (shapeCast S128x256 (qblk x0 h) shapeCasts_S1x1x128x256_S128x256) x1 x2 n

/-- The three stores of head `h`: the output, the greatest absolute scores, the greatest absolute outputs. -/
def pieceO (w : IVec S1x256 1) (s : St F) : FVec F S1x1x128x256 .f32 :=
  shapeCast S1x1x128x256 (outO w s) shapeCasts_S128x256_S1x1x128x256

@[inherit_doc pieceO]
def pieceR (w : IVec S1x256 1) (s : St F) : FVec F S1x1x1x256 .f32 :=
  shapeCast S1x1x1x256 (outR w s) shapeCasts_S1x256_S1x1x1x256

@[inherit_doc pieceO]
def pieceA (w : IVec S1x256 1) (s : St F) : FVec F S1x1x1x256 .f32 :=
  shapeCast S1x1x1x256 (outA (outO w s)) shapeCasts_S1x256_S1x1x1x256

/-- Head 0's store of the output. -/
theorem pieceO_0 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay35 (k0_pay1 i (kernelRun0_A.sl.r c i xt0)) (kernelRun0_A.sl.r_1 c i arg4 harg4 arg5 harg5 arg6 harg6 arg7 harg7 arg8 harg8 arg9 harg9 x0 x1 x2) (kernelRun0_A.sl.r_3 c i arg4 harg4 arg5 harg5 arg6 harg6 arg7 harg7 arg8 harg8 arg9 harg9 x0 x1 x2) (kernelRun0_A.sl.r_4 c i arg4 harg4 arg5 harg5 arg6 harg6 arg7 harg7 arg8 harg8 arg9 harg9 x0 x1 x2) (kernelRun0_A.sl.r_5 c i arg4 harg4 arg5 harg5 arg6 harg6 arg7 harg7 arg8 harg8 arg9 harg9 x0 x1 x2) (vblk x2 (i 2).val) = pieceO (k0_pay1 i (kernelRun0_A.sl.r c i xt0)) (endH x0 x1 x2 (i 2).val 0) := by
  rw [kernelRun0_A.sl.r_1, kernelRun0_A.sl.r_3, kernelRun0_A.sl.r_4, kernelRun0_A.sl.r_5]
  rw [st_t1_end, st_t2_end, load_k (ho := k0_off6_eq i), load_q (off := ![0, 0, 0, 0]) (h := 0) (ho := rfl)]
  try rw [load_v (ho := k0_off7_eq i)]
  rfl

/-- Head 0's store of the greatest absolute scores. -/
theorem pieceR_0 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay36 (k0_pay1 i (kernelRun0_A.sl.r c i xt0)) (kernelRun0_A.sl.r_2 c i arg4 harg4 arg5 harg5 arg6 harg6 arg7 harg7 arg8 harg8 arg9 harg9 x0 x1 x2) = pieceR (k0_pay1 i (kernelRun0_A.sl.r c i xt0)) (endH x0 x1 x2 (i 2).val 0) := by
  rw [kernelRun0_A.sl.r_2]
  rw [st_t1_end, st_t2_end, load_k (ho := k0_off6_eq i), load_q (off := ![0, 0, 0, 0]) (h := 0) (ho := rfl)]
  try rw [load_v (ho := k0_off7_eq i)]
  rfl

/-- Head 0's store of the greatest absolute outputs. -/
theorem pieceA_0 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay37 (k0_pay1 i (kernelRun0_A.sl.r c i xt0)) (kernelRun0_A.sl.r_1 c i arg4 harg4 arg5 harg5 arg6 harg6 arg7 harg7 arg8 harg8 arg9 harg9 x0 x1 x2) (kernelRun0_A.sl.r_3 c i arg4 harg4 arg5 harg5 arg6 harg6 arg7 harg7 arg8 harg8 arg9 harg9 x0 x1 x2) (kernelRun0_A.sl.r_4 c i arg4 harg4 arg5 harg5 arg6 harg6 arg7 harg7 arg8 harg8 arg9 harg9 x0 x1 x2) (kernelRun0_A.sl.r_5 c i arg4 harg4 arg5 harg5 arg6 harg6 arg7 harg7 arg8 harg8 arg9 harg9 x0 x1 x2) (vblk x2 (i 2).val) = pieceA (k0_pay1 i (kernelRun0_A.sl.r c i xt0)) (endH x0 x1 x2 (i 2).val 0) := by
  rw [kernelRun0_A.sl.r_1, kernelRun0_A.sl.r_3, kernelRun0_A.sl.r_4, kernelRun0_A.sl.r_5]
  rw [st_t1_end, st_t2_end, load_k (ho := k0_off6_eq i), load_q (off := ![0, 0, 0, 0]) (h := 0) (ho := rfl)]
  try rw [load_v (ho := k0_off7_eq i)]
  rfl

/-- Head 1's store of the output. -/
theorem pieceO_1 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay67 (k0_pay1 i (kernelRun0_A.sl.r c i xt0)) (kernelRun0_A.sl.r_8 c i arg4 harg4 arg5 harg5 arg6 harg6 arg7 harg7 arg8 harg8 arg9 harg9 x0 x1 x2) (kernelRun0_A.sl.r_9 c i arg4 harg4 arg5 harg5 arg6 harg6 arg7 harg7 arg8 harg8 arg9 harg9 x0 x1 x2) (kernelRun0_A.sl.r_10 c i arg4 harg4 arg5 harg5 arg6 harg6 arg7 harg7 arg8 harg8 arg9 harg9 x0 x1 x2) (vblk x2 (i 2).val) = pieceO (k0_pay1 i (kernelRun0_A.sl.r c i xt0)) (endH x0 x1 x2 (i 2).val 1) := by
  rw [kernelRun0_A.sl.r_8, kernelRun0_A.sl.r_9, kernelRun0_A.sl.r_10, kernelRun0_A.sl.r_6]
  rw [st_t3_end, st_t4_end, load_k (ho := k0_off6_eq i), load_q (off := ![0, 1, 0, 0]) (h := 1) (ho := rfl)]
  try rw [load_v (ho := k0_off7_eq i)]
  rfl

/-- Head 1's store of the greatest absolute scores. -/
theorem pieceR_1 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay68 (k0_pay1 i (kernelRun0_A.sl.r c i xt0)) (kernelRun0_A.sl.r_7 c i arg4 harg4 arg5 harg5 arg6 harg6 arg7 harg7 arg8 harg8 arg9 harg9 x0 x1 x2) = pieceR (k0_pay1 i (kernelRun0_A.sl.r c i xt0)) (endH x0 x1 x2 (i 2).val 1) := by
  rw [kernelRun0_A.sl.r_7, kernelRun0_A.sl.r_6]
  rw [st_t3_end, st_t4_end, load_k (ho := k0_off6_eq i), load_q (off := ![0, 1, 0, 0]) (h := 1) (ho := rfl)]
  try rw [load_v (ho := k0_off7_eq i)]
  rfl

/-- Head 1's store of the greatest absolute outputs. -/
theorem pieceA_1 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay69 (k0_pay1 i (kernelRun0_A.sl.r c i xt0)) (kernelRun0_A.sl.r_8 c i arg4 harg4 arg5 harg5 arg6 harg6 arg7 harg7 arg8 harg8 arg9 harg9 x0 x1 x2) (kernelRun0_A.sl.r_9 c i arg4 harg4 arg5 harg5 arg6 harg6 arg7 harg7 arg8 harg8 arg9 harg9 x0 x1 x2) (kernelRun0_A.sl.r_10 c i arg4 harg4 arg5 harg5 arg6 harg6 arg7 harg7 arg8 harg8 arg9 harg9 x0 x1 x2) (vblk x2 (i 2).val) = pieceA (k0_pay1 i (kernelRun0_A.sl.r c i xt0)) (endH x0 x1 x2 (i 2).val 1) := by
  rw [kernelRun0_A.sl.r_8, kernelRun0_A.sl.r_9, kernelRun0_A.sl.r_10, kernelRun0_A.sl.r_6]
  rw [st_t3_end, st_t4_end, load_k (ho := k0_off6_eq i), load_q (off := ![0, 1, 0, 0]) (h := 1) (ho := rfl)]
  try rw [load_v (ho := k0_off7_eq i)]
  rfl

/-- Head 2's store of the output. -/
theorem pieceO_2 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay100 (k0_pay1 i (kernelRun0_A.sl.r c i xt0)) (kernelRun0_A.sl.r_13 c i arg4 harg4 arg5 harg5 arg6 harg6 arg7 harg7 arg8 harg8 arg9 harg9 x0 x1 x2) (kernelRun0_A.sl.r_14 c i arg4 harg4 arg5 harg5 arg6 harg6 arg7 harg7 arg8 harg8 arg9 harg9 x0 x1 x2) (kernelRun0_A.sl.r_15 c i arg4 harg4 arg5 harg5 arg6 harg6 arg7 harg7 arg8 harg8 arg9 harg9 x0 x1 x2) (kernelRun0_A.sl.r_16 i arg6 harg6 x2) = pieceO (k0_pay1 i (kernelRun0_A.sl.r c i xt0)) (endH x0 x1 x2 (i 2).val 2) := by
  rw [kernelRun0_A.sl.r_13, kernelRun0_A.sl.r_14, kernelRun0_A.sl.r_15, kernelRun0_A.sl.r_16, kernelRun0_A.sl.r_11]
  rw [st_t5_end, st_t6_end, load_k (ho := k0_off6_eq i), load_q (off := ![0, 2, 0, 0]) (h := 2) (ho := rfl)]
  try rw [load_v (ho := k0_off7_eq i)]
  rfl

/-- Head 2's store of the greatest absolute scores. -/
theorem pieceR_2 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay101 (k0_pay1 i (kernelRun0_A.sl.r c i xt0)) (kernelRun0_A.sl.r_12 c i arg4 harg4 arg5 harg5 arg6 harg6 arg7 harg7 arg8 harg8 arg9 harg9 x0 x1 x2) = pieceR (k0_pay1 i (kernelRun0_A.sl.r c i xt0)) (endH x0 x1 x2 (i 2).val 2) := by
  rw [kernelRun0_A.sl.r_12, kernelRun0_A.sl.r_11]
  rw [st_t5_end, st_t6_end, load_k (ho := k0_off6_eq i), load_q (off := ![0, 2, 0, 0]) (h := 2) (ho := rfl)]
  try rw [load_v (ho := k0_off7_eq i)]
  rfl

/-- Head 2's store of the greatest absolute outputs. -/
theorem pieceA_2 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay102 (k0_pay1 i (kernelRun0_A.sl.r c i xt0)) (kernelRun0_A.sl.r_13 c i arg4 harg4 arg5 harg5 arg6 harg6 arg7 harg7 arg8 harg8 arg9 harg9 x0 x1 x2) (kernelRun0_A.sl.r_14 c i arg4 harg4 arg5 harg5 arg6 harg6 arg7 harg7 arg8 harg8 arg9 harg9 x0 x1 x2) (kernelRun0_A.sl.r_15 c i arg4 harg4 arg5 harg5 arg6 harg6 arg7 harg7 arg8 harg8 arg9 harg9 x0 x1 x2) (kernelRun0_A.sl.r_16 i arg6 harg6 x2) = pieceA (k0_pay1 i (kernelRun0_A.sl.r c i xt0)) (endH x0 x1 x2 (i 2).val 2) := by
  rw [kernelRun0_A.sl.r_13, kernelRun0_A.sl.r_14, kernelRun0_A.sl.r_15, kernelRun0_A.sl.r_16, kernelRun0_A.sl.r_11]
  rw [st_t5_end, st_t6_end, load_k (ho := k0_off6_eq i), load_q (off := ![0, 2, 0, 0]) (h := 2) (ho := rfl)]
  try rw [load_v (ho := k0_off7_eq i)]
  rfl

/-- Head 3's store of the output. -/
theorem pieceO_3 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay127 (k0_pay1 i (kernelRun0_A.sl.r c i xt0)) (kernelRun0_A.sl.r_19 c i arg4 harg4 arg5 harg5 arg6 harg6 arg7 harg7 arg8 harg8 arg9 harg9 x0 x1 x2) = pieceO (k0_pay1 i (kernelRun0_A.sl.r c i xt0)) (endH x0 x1 x2 (i 2).val 3) := by
  rw [kernelRun0_A.sl.r_19, kernelRun0_A.sl.r_17]
  rw [st_t7_end, st_t8_end, load_k (ho := k0_off6_eq i), load_q (off := ![0, 3, 0, 0]) (h := 3) (ho := rfl)]
  try rw [load_v (ho := k0_off7_eq i)]
  rfl

/-- Head 3's store of the greatest absolute scores. -/
theorem pieceR_3 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay128 (k0_pay1 i (kernelRun0_A.sl.r c i xt0)) (kernelRun0_A.sl.r_18 c i arg4 harg4 arg5 harg5 arg6 harg6 arg7 harg7 arg8 harg8 arg9 harg9 x0 x1 x2) = pieceR (k0_pay1 i (kernelRun0_A.sl.r c i xt0)) (endH x0 x1 x2 (i 2).val 3) := by
  rw [kernelRun0_A.sl.r_18, kernelRun0_A.sl.r_17]
  rw [st_t7_end, st_t8_end, load_k (ho := k0_off6_eq i), load_q (off := ![0, 3, 0, 0]) (h := 3) (ho := rfl)]
  try rw [load_v (ho := k0_off7_eq i)]
  rfl

/-- Head 3's store of the greatest absolute outputs. -/
theorem pieceA_3 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay129 (k0_pay1 i (kernelRun0_A.sl.r c i xt0)) (kernelRun0_A.sl.r_19 c i arg4 harg4 arg5 harg5 arg6 harg6 arg7 harg7 arg8 harg8 arg9 harg9 x0 x1 x2) = pieceA (k0_pay1 i (kernelRun0_A.sl.r c i xt0)) (endH x0 x1 x2 (i 2).val 3) := by
  rw [kernelRun0_A.sl.r_19, kernelRun0_A.sl.r_17]
  rw [st_t7_end, st_t8_end, load_k (ho := k0_off6_eq i), load_q (off := ![0, 3, 0, 0]) (h := 3) (ho := rfl)]
  try rw [load_v (ho := k0_off7_eq i)]
  rfl

/-- Head 4's store of the output. -/
theorem pieceO_4 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay153 (kernelRun0_A.sl.r_26 c i arg4 harg4 arg5 harg5 arg6 harg6 arg7 harg7 arg8 harg8 arg9 harg9 x0 x1 x2 xt0) = pieceO (k0_pay1 i (kernelRun0_A.sl.r c i xt0)) (endH x0 x1 x2 (i 2).val 4) := by
  rw [kernelRun0_A.sl.r_26, kernelRun0_A.sl.r_21, kernelRun0_A.sl.r_22, kernelRun0_A.sl.r_23, kernelRun0_A.sl.r_24, kernelRun0_A.sl.r_20]
  rw [st_t9_end, st_t10_end, load_k (ho := k0_off6_eq i), load_q (off := ![0, 4, 0, 0]) (h := 4) (ho := rfl)]
  try rw [load_v (ho := k0_off7_eq i)]
  rfl

/-- Head 4's store of the greatest absolute scores. -/
theorem pieceR_4 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay154 (k0_pay1 i (kernelRun0_A.sl.r c i xt0)) (kernelRun0_A.sl.r_25 c i arg4 harg4 arg5 harg5 arg6 harg6 arg7 harg7 arg8 harg8 arg9 harg9 x0 x1 x2 xt0) = pieceR (k0_pay1 i (kernelRun0_A.sl.r c i xt0)) (endH x0 x1 x2 (i 2).val 4) := by
  rw [kernelRun0_A.sl.r_25, kernelRun0_A.sl.r_21, kernelRun0_A.sl.r_22, kernelRun0_A.sl.r_23, kernelRun0_A.sl.r_24, kernelRun0_A.sl.r_20]
  rw [st_t9_end, st_t10_end, load_k (ho := k0_off6_eq i), load_q (off := ![0, 4, 0, 0]) (h := 4) (ho := rfl)]
  try rw [load_v (ho := k0_off7_eq i)]
  rfl

/-- Head 4's store of the greatest absolute outputs. -/
theorem pieceA_4 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay155 (kernelRun0_A.sl.r_26 c i arg4 harg4 arg5 harg5 arg6 harg6 arg7 harg7 arg8 harg8 arg9 harg9 x0 x1 x2 xt0) = pieceA (k0_pay1 i (kernelRun0_A.sl.r c i xt0)) (endH x0 x1 x2 (i 2).val 4) := by
  rw [kernelRun0_A.sl.r_26, kernelRun0_A.sl.r_21, kernelRun0_A.sl.r_22, kernelRun0_A.sl.r_23, kernelRun0_A.sl.r_24, kernelRun0_A.sl.r_20]
  rw [st_t9_end, st_t10_end, load_k (ho := k0_off6_eq i), load_q (off := ![0, 4, 0, 0]) (h := 4) (ho := rfl)]
  try rw [load_v (ho := k0_off7_eq i)]
  rfl

/-- Head 5's store of the output. -/
theorem pieceO_5 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    kernelRun0_A.sl.r_34 c i arg4 harg4 arg5 harg5 arg6 harg6 arg7 harg7 arg8 harg8 arg9 harg9 x0 x1 x2 xt0 = pieceO (k0_pay1 i (kernelRun0_A.sl.r c i xt0)) (endH x0 x1 x2 (i 2).val 5) := by
  rw [kernelRun0_A.sl.r_34]
  try rw [kernelRun0_A.sl.r_28]
  try rw [kernelRun0_A.sl.r_29]
  try rw [kernelRun0_A.sl.r_30]
  try rw [kernelRun0_A.sl.r_31]
  try rw [kernelRun0_A.sl.r_27]
  rw [st_t11_end, st_t12_end, load_k (ho := k0_off6_eq i), load_q (off := ![0, 5, 0, 0]) (h := 5) (ho := rfl)]
  try rw [load_v (ho := k0_off7_eq i)]
  rfl

/-- Head 5's store of the greatest absolute scores. -/
theorem pieceR_5 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay2 i (kernelRun0_A.sl.r c i xt0) (kernelRun0_A.sl.r_32 c i arg4 harg4 arg5 harg5 arg6 harg6 arg7 harg7 arg8 harg8 arg9 harg9 x0 x1 x2 xt0) = pieceR (k0_pay1 i (kernelRun0_A.sl.r c i xt0)) (endH x0 x1 x2 (i 2).val 5) := by
  rw [kernelRun0_A.sl.r_32]
  try rw [kernelRun0_A.sl.r_28]
  try rw [kernelRun0_A.sl.r_29]
  try rw [kernelRun0_A.sl.r_30]
  try rw [kernelRun0_A.sl.r_31]
  try rw [kernelRun0_A.sl.r_27]
  rw [st_t11_end, st_t12_end, load_k (ho := k0_off6_eq i), load_q (off := ![0, 5, 0, 0]) (h := 5) (ho := rfl)]
  try rw [load_v (ho := k0_off7_eq i)]
  rfl

/-- Head 5's store of the greatest absolute outputs. -/
theorem pieceA_5 (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) :
    k0_pay3 (kernelRun0_A.sl.r_33 c i arg4 harg4 arg5 harg5 arg6 harg6 arg7 harg7 arg8 harg8 arg9 harg9 x0 x1 x2 xt0) = pieceA (k0_pay1 i (kernelRun0_A.sl.r c i xt0)) (endH x0 x1 x2 (i 2).val 5) := by
  rw [kernelRun0_A.sl.r_33]
  try rw [kernelRun0_A.sl.r_28]
  try rw [kernelRun0_A.sl.r_29]
  try rw [kernelRun0_A.sl.r_30]
  try rw [kernelRun0_A.sl.r_31]
  try rw [kernelRun0_A.sl.r_27]
  rw [st_t11_end, st_t12_end, load_k (ho := k0_off6_eq i), load_q (off := ![0, 5, 0, 0]) (h := 5) (ho := rfl)]
  try rw [load_v (ho := k0_off7_eq i)]
  rfl

end Cert.KernelIdeal.Gen
-- ==== Proof.Blocks.lean ====
module

public import proofs.«01_k».proof.Proof.Pieces
public import Idealize.ShloMosaic.Lib.Pipeline.ReadBack
public import Idealize.ShloMosaic.Lib.Pipeline.Value

@[expose] public section

set_option synthInstance.maxSize 4096
set_option maxRecDepth 16384

noncomputable section

/-! # What a point leaves in its blocks of the outputs -/

namespace Cert.KernelIdeal.Gen

open Idealize.ShloMosaic Idealize.SL.Sem

variable {F : FTy → Type} [FloatOps F]

/-- A block of the output: head `h` at row `h`. -/
def blkO (w : IVec S1x256 1) (st : Fin 6 → St F) : Vec F S1x6x128x256 .f32 :=
  fun y => outO w (st ⟨(y 1).val, (y 1).isLt⟩) (ix2 (⟨(y 2).val, (y 2).isLt⟩ : Fin 128) (⟨(y 3).val, (y 3).isLt⟩ : Fin 256))

/-- A block of the greatest absolute scores. -/
def blkR (w : IVec S1x256 1) (st : Fin 6 → St F) : Vec F S1x1x6x256 .f32 :=
  fun y => outR w (st ⟨(y 2).val, (y 2).isLt⟩) (ix2 (0 : Fin 1) (⟨(y 3).val, (y 3).isLt⟩ : Fin 256))

/-- A block of the greatest absolute outputs. -/
def blkA (w : IVec S1x256 1) (st : Fin 6 → St F) : Vec F S1x1x6x256 .f32 :=
  fun y => outA (outO w (st ⟨(y 2).val, (y 2).isLt⟩)) (ix2 (0 : Fin 1) (⟨(y 3).val, (y 3).isLt⟩ : Fin 256))

/-- A head's store of the output is that head's part of the block. -/
theorem pieceO_emb (w : IVec S1x256 1) (st : Fin 6 → St F) (h : Fin 6) (off : Fin 4 → ℕ) (inb : ∀ a, off a + S1x1x128x256.size a ≤ S1x6x128x256.size a)
    (ho : off = ![0, h.val, 0, 0]) (x : (Rect.unit (s := S1x6x128x256) off S1x1x128x256.size inb).shape.Idx) :
    pieceO w (st h) x = blkO w st ((Rect.unit (s := S1x6x128x256) off S1x1x128x256.size inb).emb x) := by
  subst ho
  have h0 : (x 0).val < 1 := (x 0).isLt
  have h1 : (x 1).val < 1 := (x 1).isLt
  refine (shapeCast_apply _ _ _ (ix2 (⟨(x 2).val, (x 2).isLt⟩ : Fin 128) (⟨(x 3).val, (x 3).isLt⟩ : Fin 256)) ?_).trans ?_
  · rw [Shape.rowMajor_val_two, Shape.rowMajor_val_four]
    show (x 2).val * 256 + (x 3).val = (((x 0).val * 1 + (x 1).val) * 128 + (x 2).val) * 256 + (x 3).val
    omega
  · unfold blkO
    congr 1
    · congr 1; congr 1; ext; show h.val = h.val + 1 * (x 1).val; omega
    · congr 1
      · ext; show (x 2).val = 0 + 1 * (x 2).val; omega
      · ext; show (x 3).val = 0 + 1 * (x 3).val; omega

/-- A head's store of the greatest absolute scores is that head's part of the block. -/
theorem pieceR_emb (w : IVec S1x256 1) (st : Fin 6 → St F) (h : Fin 6) (off : Fin 4 → ℕ) (inb : ∀ a, off a + S1x1x1x256.size a ≤ S1x1x6x256.size a)
    (ho : off = ![0, 0, h.val, 0]) (x : (Rect.unit (s := S1x1x6x256) off S1x1x1x256.size inb).shape.Idx) :
    pieceR w (st h) x = blkR w st ((Rect.unit (s := S1x1x6x256) off S1x1x1x256.size inb).emb x) := by
  subst ho
  have h0 : (x 0).val < 1 := (x 0).isLt
  have h1 : (x 1).val < 1 := (x 1).isLt
  have h2 : (x 2).val < 1 := (x 2).isLt
  refine (shapeCast_apply _ _ _ (ix2 (0 : Fin 1) (⟨(x 3).val, (x 3).isLt⟩ : Fin 256)) ?_).trans ?_
  · rw [Shape.rowMajor_val_two, Shape.rowMajor_val_four]
    show 0 * 256 + (x 3).val = (((x 0).val * 1 + (x 1).val) * 1 + (x 2).val) * 256 + (x 3).val
    omega
  · unfold blkR
    congr 1
    · congr 1; congr 1; ext; show h.val = h.val + 1 * (x 2).val; omega
    · congr 1
      · ext; show (x 3).val = 0 + 1 * (x 3).val; omega

/-- A head's store of the greatest absolute outputs is that head's part of the block. -/
theorem pieceA_emb (w : IVec S1x256 1) (st : Fin 6 → St F) (h : Fin 6) (off : Fin 4 → ℕ) (inb : ∀ a, off a + S1x1x1x256.size a ≤ S1x1x6x256.size a)
    (ho : off = ![0, 0, h.val, 0]) (x : (Rect.unit (s := S1x1x6x256) off S1x1x1x256.size inb).shape.Idx) :
    pieceA w (st h) x = blkA w st ((Rect.unit (s := S1x1x6x256) off S1x1x1x256.size inb).emb x) := by
  subst ho
  have h0 : (x 0).val < 1 := (x 0).isLt
  have h1 : (x 1).val < 1 := (x 1).isLt
  have h2 : (x 2).val < 1 := (x 2).isLt
  refine (shapeCast_apply _ _ _ (ix2 (0 : Fin 1) (⟨(x 3).val, (x 3).isLt⟩ : Fin 256)) ?_).trans ?_
  · rw [Shape.rowMajor_val_two, Shape.rowMajor_val_four]
    show 0 * 256 + (x 3).val = (((x 0).val * 1 + (x 1).val) * 1 + (x 2).val) * 256 + (x 3).val
    omega
  · unfold blkA
    congr 1
    · congr 1; congr 1; congr 1; ext; show h.val = h.val + 1 * (x 2).val; omega
    · congr 1
      · ext; show (x 3).val = 0 + 1 * (x 3).val; omega

/-- What a point the kernel computes leaves in its block of the output. -/
theorem out0_A_3_eq (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) (hc1 : k0_cond1 i (tbW0 c xt0 i) = 1#1) (hc2 : ¬ k0_cond2 i (tbW0 c xt0 i) = 1#1) :
    out0_A_3 c i arg4 harg4 arg5 harg5 arg6 harg6 arg7 harg7 arg8 harg8 arg9 harg9 x0 x1 x2 xt0 hc1 hc2 = blkO (k0_pay1 i (kernelRun0_A.sl.r c i xt0)) (endH x0 x1 x2 (i 2).val) := by
  have hp : View.PiecesOf (blkO (k0_pay1 i (kernelRun0_A.sl.r c i xt0)) (endH x0 x1 x2 (i 2).val)) (kernelRun0_A c i arg4 harg4 arg5 harg5 arg6 harg6 arg7 harg7 arg8 harg8 arg9 harg9 x0 x1 x2 xt0 hc1 hc2).1 := by
    delta kernelRun0_A
    dsimp only
    rw [load_v (ho := k0_off7_eq i)]
    rw [pieceO_0, pieceO_1, pieceO_2, pieceO_3, pieceO_4, pieceO_5]
    exact ⟨pieceO_emb _ _ 5 _ inb_S1x6x128x256_S1x1x128x256_0_5_0_0 rfl, pieceO_emb _ _ 4 _ inb_S1x6x128x256_S1x1x128x256_0_4_0_0 rfl, pieceO_emb _ _ 3 _ inb_S1x6x128x256_S1x1x128x256_0_3_0_0 rfl, pieceO_emb _ _ 2 _ inb_S1x6x128x256_S1x1x128x256_0_2_0_0 rfl, pieceO_emb _ _ 1 _ inb_S1x6x128x256_S1x1x128x256_0_1_0_0 rfl, pieceO_emb _ _ 0 _ inb_S1x6x128x256_S1x1x128x256_0_0_0_0 rfl, trivial⟩
  unfold out0_A_3
  rw [View.read_writes_junk_eq_canon]
  exact funext fun y => View.canon_apply_of_pieces _ _ (fun p h => View.PiecesOf.mem hp p h) y (cover0_A_3 c i arg4 harg4 arg5 harg5 arg6 harg6 arg7 harg7 arg8 harg8 arg9 harg9 x0 x1 x2 xt0 hc1 hc2 y)

/-- What a point past the sequence's length leaves in its block of the output: zeros. -/
theorem out0_B_3_eq (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) (hc1 : ¬ k0_cond1 i (tbW0 c xt0 i) = 1#1) (hc2 : k0_cond2 i (tbW0 c xt0 i) = 1#1) :
    out0_B_3 c i arg4 harg4 arg5 harg5 arg6 harg6 arg7 harg7 arg8 harg8 arg9 harg9 x0 x1 x2 xt0 hc1 hc2 = fun _ => Scalar.ofBits .f32 0x00000000#32 := by
  have hp : View.PiecesOf (fun _ => Scalar.ofBits .f32 0x00000000#32) (kernelRun0_B c i arg4 harg4 arg5 harg5 arg6 harg6 arg7 harg7 arg8 harg8 arg9 harg9 x0 x1 x2 xt0 hc1 hc2).1 := by
    delta kernelRun0_B
    dsimp only
    exact ⟨fun _ => rfl, trivial⟩
  unfold out0_B_3
  rw [View.read_writes_junk_eq_canon]
  exact funext fun y => View.canon_apply_of_pieces (fun _ => Scalar.ofBits .f32 0x00000000#32) _ (fun p h => View.PiecesOf.mem hp p h) y (cover0_B_3 c i arg4 harg4 arg5 harg5 arg6 harg6 arg7 harg7 arg8 harg8 arg9 harg9 x0 x1 x2 xt0 hc1 hc2 y)

/-- What a point the kernel computes leaves in its block of the greatest absolute scores. -/
theorem out0_A_4_eq (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) (hc1 : k0_cond1 i (tbW0 c xt0 i) = 1#1) (hc2 : ¬ k0_cond2 i (tbW0 c xt0 i) = 1#1) :
    out0_A_4 c i arg4 harg4 arg5 harg5 arg6 harg6 arg7 harg7 arg8 harg8 arg9 harg9 x0 x1 x2 xt0 hc1 hc2 = blkR (k0_pay1 i (kernelRun0_A.sl.r c i xt0)) (endH x0 x1 x2 (i 2).val) := by
  have hp : View.PiecesOf (blkR (k0_pay1 i (kernelRun0_A.sl.r c i xt0)) (endH x0 x1 x2 (i 2).val)) (kernelRun0_A c i arg4 harg4 arg5 harg5 arg6 harg6 arg7 harg7 arg8 harg8 arg9 harg9 x0 x1 x2 xt0 hc1 hc2).2.1 := by
    delta kernelRun0_A
    dsimp only
    skip
    rw [pieceR_0, pieceR_1, pieceR_2, pieceR_3, pieceR_4, pieceR_5]
    exact ⟨pieceR_emb _ _ 5 _ inb_S1x1x6x256_S1x1x1x256_0_0_5_0 rfl, pieceR_emb _ _ 4 _ inb_S1x1x6x256_S1x1x1x256_0_0_4_0 rfl, pieceR_emb _ _ 3 _ inb_S1x1x6x256_S1x1x1x256_0_0_3_0 rfl, pieceR_emb _ _ 2 _ inb_S1x1x6x256_S1x1x1x256_0_0_2_0 rfl, pieceR_emb _ _ 1 _ inb_S1x1x6x256_S1x1x1x256_0_0_1_0 rfl, pieceR_emb _ _ 0 _ inb_S1x1x6x256_S1x1x1x256_0_0_0_0 rfl, trivial⟩
  unfold out0_A_4
  rw [View.read_writes_junk_eq_canon]
  exact funext fun y => View.canon_apply_of_pieces _ _ (fun p h => View.PiecesOf.mem hp p h) y (cover0_A_4 c i arg4 harg4 arg5 harg5 arg6 harg6 arg7 harg7 arg8 harg8 arg9 harg9 x0 x1 x2 xt0 hc1 hc2 y)

/-- What a point past the sequence's length leaves in its block of the greatest absolute scores: zeros. -/
theorem out0_B_4_eq (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) (hc1 : ¬ k0_cond1 i (tbW0 c xt0 i) = 1#1) (hc2 : k0_cond2 i (tbW0 c xt0 i) = 1#1) :
    out0_B_4 c i arg4 harg4 arg5 harg5 arg6 harg6 arg7 harg7 arg8 harg8 arg9 harg9 x0 x1 x2 xt0 hc1 hc2 = fun _ => Scalar.ofBits .f32 0x00000000#32 := by
  have hp : View.PiecesOf (fun _ => Scalar.ofBits .f32 0x00000000#32) (kernelRun0_B c i arg4 harg4 arg5 harg5 arg6 harg6 arg7 harg7 arg8 harg8 arg9 harg9 x0 x1 x2 xt0 hc1 hc2).2.1 := by
    delta kernelRun0_B
    dsimp only
    exact ⟨fun _ => rfl, trivial⟩
  unfold out0_B_4
  rw [View.read_writes_junk_eq_canon]
  exact funext fun y => View.canon_apply_of_pieces (fun _ => Scalar.ofBits .f32 0x00000000#32) _ (fun p h => View.PiecesOf.mem hp p h) y (cover0_B_4 c i arg4 harg4 arg5 harg5 arg6 harg6 arg7 harg7 arg8 harg8 arg9 harg9 x0 x1 x2 xt0 hc1 hc2 y)

/-- What a point the kernel computes leaves in its block of the greatest absolute outputs. -/
theorem out0_A_5_eq (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) (hc1 : k0_cond1 i (tbW0 c xt0 i) = 1#1) (hc2 : ¬ k0_cond2 i (tbW0 c xt0 i) = 1#1) :
    out0_A_5 c i arg4 harg4 arg5 harg5 arg6 harg6 arg7 harg7 arg8 harg8 arg9 harg9 x0 x1 x2 xt0 hc1 hc2 = blkA (k0_pay1 i (kernelRun0_A.sl.r c i xt0)) (endH x0 x1 x2 (i 2).val) := by
  have hp : View.PiecesOf (blkA (k0_pay1 i (kernelRun0_A.sl.r c i xt0)) (endH x0 x1 x2 (i 2).val)) (kernelRun0_A c i arg4 harg4 arg5 harg5 arg6 harg6 arg7 harg7 arg8 harg8 arg9 harg9 x0 x1 x2 xt0 hc1 hc2).2.2.1 := by
    delta kernelRun0_A
    dsimp only
    rw [load_v (ho := k0_off7_eq i)]
    rw [pieceA_0, pieceA_1, pieceA_2, pieceA_3, pieceA_4, pieceA_5]
    generalize endH x0 x1 x2 (i 2).val = st
    generalize k0_pay1 i (kernelRun0_A.sl.r c i xt0) = w
    unfold View.PiecesOf; unfold View.PiecesOf; unfold View.PiecesOf; unfold View.PiecesOf; unfold View.PiecesOf; unfold View.PiecesOf; unfold View.PiecesOf
    dsimp only
    exact ⟨pieceA_emb w st 5 _ inb_S1x1x6x256_S1x1x1x256_0_0_5_0 rfl, pieceA_emb w st 4 _ inb_S1x1x6x256_S1x1x1x256_0_0_4_0 rfl, pieceA_emb w st 3 _ inb_S1x1x6x256_S1x1x1x256_0_0_3_0 rfl, pieceA_emb w st 2 _ inb_S1x1x6x256_S1x1x1x256_0_0_2_0 rfl, pieceA_emb w st 1 _ inb_S1x1x6x256_S1x1x1x256_0_0_1_0 rfl, pieceA_emb w st 0 _ inb_S1x1x6x256_S1x1x1x256_0_0_0_0 rfl, trivial⟩
  unfold out0_A_5
  rw [View.read_writes_junk_eq_canon]
  exact funext fun y => View.canon_apply_of_pieces _ _ (fun p h => View.PiecesOf.mem hp p h) y (cover0_A_5 c i arg4 harg4 arg5 harg5 arg6 harg6 arg7 harg7 arg8 harg8 arg9 harg9 x0 x1 x2 xt0 hc1 hc2 y)

/-- What a point past the sequence's length leaves in its block of the greatest absolute outputs: zeros. -/
theorem out0_B_5_eq (c : Dev nD) (i : grid0.Coords) (arg4 : Memref sig .tc .vmem S1x6x128x256 .bf16) (harg4 : arg4.IsWhole) (arg5 : Memref sig .tc .vmem S1x1x12288x128 .bf16) (harg5 : arg5.IsWhole) (arg6 : Memref sig .tc .vmem S1x1x128x12288 .bf16) (harg6 : arg6.IsWhole) (arg7 : Memref sig .tc .vmem S1x6x128x256 .f32) (harg7 : arg7.IsWhole) (arg8 : Memref sig .tc .vmem S1x1x6x256 .f32) (harg8 : arg8.IsWhole) (arg9 : Memref sig .tc .vmem S1x1x6x256 .f32) (harg9 : arg9.IsWhole) (x0 : Vec F S1x6x128x256 .bf16) (x1 : Vec F S1x1x12288x128 .bf16) (x2 : Vec F S1x1x128x12288 .bf16) (xt0 : TbBuf0 (F := F) c tbM0_0) (hc1 : ¬ k0_cond1 i (tbW0 c xt0 i) = 1#1) (hc2 : k0_cond2 i (tbW0 c xt0 i) = 1#1) :
    out0_B_5 c i arg4 harg4 arg5 harg5 arg6 harg6 arg7 harg7 arg8 harg8 arg9 harg9 x0 x1 x2 xt0 hc1 hc2 = fun _ => Scalar.ofBits .f32 0x00000000#32 := by
  have hp : View.PiecesOf (fun _ => Scalar.ofBits .f32 0x00000000#32) (kernelRun0_B c i arg4 harg4 arg5 harg5 arg6 harg6 arg7 harg7 arg8 harg8 arg9 harg9 x0 x1 x2 xt0 hc1 hc2).2.2.1 := by
    delta kernelRun0_B
    dsimp only
    exact ⟨fun _ => rfl, trivial⟩
  unfold out0_B_5
  rw [View.read_writes_junk_eq_canon]
  exact funext fun y => View.canon_apply_of_pieces (fun _ => Scalar.ofBits .f32 0x00000000#32) _ (fun p h => View.PiecesOf.mem hp p h) y (cover0_B_5 c i arg4 harg4 arg5 harg5 arg6 harg6 arg7 harg7 arg8 harg8 arg9 harg9 x0 x1 x2 xt0 hc1 hc2 y)

end Cert.KernelIdeal.Gen
-- ==== Proof.Online.lean ====
module

public import Idealize.ShloMosaic.PureOps.Ideal.Laws
public import Mathlib.Data.EReal.Inv

@[expose] public section

noncomputable section

/-! # The softmax of a row, computed block by block

    A row of scores `t 0, t 1, …` is read in blocks. After `N` scores one keeps their maximum `top t N`, the sum
    `den t N` of `exp (t k - top t N)`, and for each sequence of values `v` the sum `num t v N` of
    `v k * exp (t k - top t N)`. The lemmas say how these three change when a block is added, and that the quotient
    `num / den` is the sum of the values weighted by the normalised exponentials. A masked score is `⊥`. -/

namespace Online

open Idealize.ShloMosaic

/-- An exponential is not negative. -/
theorem exp_nonneg (x : EReal) : 0 ≤ Ideal.exp x := by
  induction x using EReal.rec with
  | bot => exact le_refl _
  | top => exact le_top
  | coe r => exact EReal.coe_nonneg.2 (Real.exp_pos r).le

/-- The exponential of anything but `⊤` is not `⊤`. -/
theorem exp_ne_top {x : EReal} (h : x ≠ ⊤) : Ideal.exp x ≠ ⊤ := by
  induction x using EReal.rec with
  | bot => exact EReal.zero_ne_top
  | top => exact absurd rfl h
  | coe r => exact EReal.coe_ne_top _

/-- The exponential of `⊥` is zero. -/
theorem exp_bot : Ideal.exp ⊥ = 0 := rfl

/-- `⊥` less anything is `⊥`. -/
theorem bot_sub' (x : EReal) : (⊥ : EReal) - x = ⊥ := by
  rw [sub_eq_add_neg, EReal.bot_add]

/-- The exponential of `⊥ - x` is zero. -/
theorem exp_bot_sub (x : EReal) : Ideal.exp (⊥ - x) = 0 := by
  rw [bot_sub', exp_bot]

/-- A difference of ordered numbers below `⊤` is not `⊤`. -/
theorem sub_ne_top {a b : EReal} (h : a ≤ b) (hb : b ≠ ⊤) : a - b ≠ ⊤ := by
  induction b using EReal.rec with
  | top => exact absurd rfl hb
  | bot =>
    rw [le_bot_iff.1 h, bot_sub']; exact bot_ne_top
  | coe b =>
    induction a using EReal.rec with
    | top => exact absurd (top_le_iff.1 h) hb
    | bot => rw [bot_sub']; exact bot_ne_top
    | coe a => rw [← EReal.coe_sub]; exact EReal.coe_ne_top _

/-- An exponential taken against a smaller maximum, rescaled, is the one taken against the larger maximum. -/
theorem exp_rescale {t a b : EReal} (h1 : t ≤ a) (h2 : a ≤ b) (hb : b ≠ ⊤) :
    Ideal.exp (t - a) * Ideal.exp (a - b) = Ideal.exp (t - b) := by
  have ha : a ≠ ⊤ := fun e => hb (top_le_iff.1 (e ▸ h2))
  have ht : t ≠ ⊤ := fun e => ha (top_le_iff.1 (e ▸ h1))
  induction t using EReal.rec with
  | top => exact absurd rfl ht
  | bot => rw [exp_bot_sub, exp_bot_sub, zero_mul]
  | coe t =>
    induction a using EReal.rec with
    | top => exact absurd rfl ha
    | bot => exact absurd (le_bot_iff.1 h1) (EReal.coe_ne_bot _)
    | coe a =>
      induction b using EReal.rec with
      | top => exact absurd rfl hb
      | bot => exact absurd (le_bot_iff.1 h2) (EReal.coe_ne_bot _)
      | coe b =>
        rw [← EReal.coe_sub, ← EReal.coe_sub, ← EReal.coe_sub]
        show ((Real.exp (t - a) : ℝ) : EReal) * ((Real.exp (a - b) : ℝ) : EReal) = ((Real.exp (t - b) : ℝ) : EReal)
        rw [← EReal.coe_mul, ← Real.exp_add]
        congr 2; ring

/-- A nonnegative factor below `⊤` distributes over a finite sum. -/
theorem sum_mul_right {ι : Type} (s : Finset ι) (f : ι → EReal) {x : EReal} (h0 : 0 ≤ x) (hx : x ≠ ⊤) :
    (∑ k ∈ s, f k) * x = ∑ k ∈ s, f k * x := by
  classical
  induction s using Finset.induction_on with
  | empty => simp
  | insert a s ha ih =>
    rw [Finset.sum_insert ha, Finset.sum_insert ha, EReal.right_distrib_of_nonneg_of_ne_top h0 hx, ih]

/-- The maximum of the first `N` scores. -/
def top (t : ℕ → EReal) (N : ℕ) : EReal := (Finset.range N).sup t

/-- The sum of the exponentials of the first `N` scores, taken against their maximum. -/
def den (t : ℕ → EReal) (N : ℕ) : EReal := ∑ k ∈ Finset.range N, Ideal.exp (t k - top t N)

/-- The sum of the first `N` values, each times its score's exponential. -/
def num (t v : ℕ → EReal) (N : ℕ) : EReal := ∑ k ∈ Finset.range N, v k * Ideal.exp (t k - top t N)

/-- A maximum folded over `Fin B` from `⊥` is the supremum over the first `B` numbers. -/
theorem fold_max_eq (B : ℕ) (f : ℕ → EReal) :
    (Finset.univ : Finset (Fin B)).fold max ⊥ (fun k => f k.val) = (Finset.range B).sup f := by
  apply le_antisymm
  · rw [Finset.fold_max_le]
    exact ⟨bot_le, fun k _ => Finset.le_sup (f := f) (Finset.mem_range.2 k.isLt)⟩
  · refine Finset.sup_le fun k hk => ?_
    rw [Finset.le_fold_max]
    exact Or.inr ⟨⟨k, Finset.mem_range.1 hk⟩, Finset.mem_univ _, le_refl _⟩

/-- The supremum over `N + B` numbers, split after the first `N`. -/
theorem sup_range_add (t : ℕ → EReal) (N B : ℕ) :
    (Finset.range (N + B)).sup t = max ((Finset.range N).sup t) ((Finset.range B).sup fun j => t (N + j)) := by
  apply le_antisymm
  · refine Finset.sup_le fun k hk => ?_
    by_cases h : k < N
    · exact le_max_of_le_left (Finset.le_sup (f := t) (Finset.mem_range.2 h))
    · have hk' := Finset.mem_range.1 hk
      have : t k = (fun j => t (N + j)) (k - N) := by show t k = t (N + (k - N)); congr 1; omega
      rw [this]
      exact le_max_of_le_right (Finset.le_sup (f := fun j => t (N + j)) (Finset.mem_range.2 (by omega)))
  · refine max_le (Finset.sup_le fun k hk => ?_) (Finset.sup_le fun j hj => ?_)
    · exact Finset.le_sup (f := t) (Finset.mem_range.2 (by have := Finset.mem_range.1 hk; omega))
    · exact Finset.le_sup (f := t) (Finset.mem_range.2 (by have := Finset.mem_range.1 hj; omega))

/-- The maximum after a further block. -/
theorem top_add (t : ℕ → EReal) (N B : ℕ) :
    top t (N + B) = max (top t N) ((Finset.range B).sup fun j => t (N + j)) := sup_range_add t N B

/-- A term below `N` is at most the top of the first `N`. -/
theorem le_top' (t : ℕ → EReal) {k N : ℕ} (h : k < N) : t k ≤ top t N :=
  Finset.le_sup (f := t) (Finset.mem_range.2 h)

/-- A maximum of scores below `⊤` is below `⊤`. -/
theorem top_ne_top {t : ℕ → EReal} (ht : ∀ k, t k ≠ ⊤) (N : ℕ) : top t N ≠ ⊤ := by
  rw [← lt_top_iff_ne_top]
  exact (Finset.sup_lt_iff bot_lt_top).2 fun k _ => lt_top_iff_ne_top.2 (ht k)

/-- The top over more terms is no smaller. -/
theorem top_mono (t : ℕ → EReal) (N B : ℕ) : top t N ≤ top t (N + B) := by
  rw [top_add]; exact le_max_left _ _

/-- The weighted sum after a further block. -/
theorem num_add {t : ℕ → EReal} (ht : ∀ k, t k ≠ ⊤) (v : ℕ → EReal) (N B : ℕ) :
    num t v (N + B) = num t v N * Ideal.exp (top t N - top t (N + B))
      + ∑ j ∈ Finset.range B, v (N + j) * Ideal.exp (t (N + j) - top t (N + B)) := by
  unfold num
  have hb := top_ne_top ht (N + B)
  rw [sum_mul_right _ _ (exp_nonneg _) (exp_ne_top (sub_ne_top (top_mono t N B) hb)), Finset.sum_range_add]
  congr 1
  refine Finset.sum_congr rfl fun k hk => ?_
  rw [mul_assoc, exp_rescale (le_top' t (Finset.mem_range.1 hk)) (top_mono t N B) hb]

/-- The sum of exponentials after a further block. -/
theorem den_add {t : ℕ → EReal} (ht : ∀ k, t k ≠ ⊤) (N B : ℕ) :
    den t (N + B) = den t N * Ideal.exp (top t N - top t (N + B))
      + ∑ j ∈ Finset.range B, Ideal.exp (t (N + j) - top t (N + B)) := by
  unfold den
  have hb := top_ne_top ht (N + B)
  rw [sum_mul_right _ _ (exp_nonneg _) (exp_ne_top (sub_ne_top (top_mono t N B) hb)), Finset.sum_range_add]
  congr 1
  refine Finset.sum_congr rfl fun k hk => ?_
  rw [exp_rescale (le_top' t (Finset.mem_range.1 hk)) (top_mono t N B) hb]

/-- The sum of exponentials is not zero once a score that is a number was read. -/
theorem den_ne_zero {t : ℕ → EReal} (ht : ∀ k, t k ≠ ⊤) {N q : ℕ} (hq : q < N) (hb : t q ≠ ⊥) : den t N ≠ 0 := by
  have h1 : 0 < Ideal.exp (t q - top t N) := by
    have h2 := top_ne_top ht N
    have h3 := le_top' t hq
    have h4 := ht q
    generalize t q = a at *
    generalize top t N = b at *
    induction a using EReal.rec with
    | top => exact absurd rfl h4
    | bot => exact absurd rfl hb
    | coe a =>
      induction b using EReal.rec with
      | top => exact absurd rfl h2
      | bot => exact absurd (le_bot_iff.1 h3) (EReal.coe_ne_bot _)
      | coe b =>
        rw [← EReal.coe_sub]
        exact EReal.coe_pos.2 (Real.exp_pos _)
  have h5 : Ideal.exp (t q - top t N) ≤ den t N :=
    Finset.single_le_sum (f := fun k => Ideal.exp (t k - top t N)) (fun k _ => exp_nonneg _) (Finset.mem_range.2 hq)
  exact (lt_of_lt_of_le h1 h5).ne'

/-- Masked scores past `N` change neither maximum nor sums. -/
theorem top_extend {t : ℕ → EReal} {N K : ℕ} (h : N ≤ K) (hm : ∀ k, N ≤ k → t k = ⊥) : top t K = top t N := by
  obtain ⟨B, rfl⟩ := Nat.exists_eq_add_of_le h
  rw [top_add, max_eq_left]
  refine Finset.sup_le fun j _ => ?_
  rw [hm _ (Nat.le_add_right _ _)]; exact bot_le

/-- Terms of minus infinity past `N` leave the numerator as it is. -/
theorem num_extend {t : ℕ → EReal} (v : ℕ → EReal) {N K : ℕ} (h : N ≤ K) (hm : ∀ k, N ≤ k → t k = ⊥) :
    num t v K = num t v N := by
  unfold num
  rw [top_extend h hm]
  obtain ⟨B, rfl⟩ := Nat.exists_eq_add_of_le h
  rw [Finset.sum_range_add]
  refine (congrArg _ (Finset.sum_eq_zero fun j _ => ?_)).trans (add_zero _)
  rw [hm _ (Nat.le_add_right _ _), exp_bot_sub, mul_zero]

/-- Terms of minus infinity past `N` leave the denominator as it is. -/
theorem den_extend {t : ℕ → EReal} {N K : ℕ} (h : N ≤ K) (hm : ∀ k, N ≤ k → t k = ⊥) : den t K = den t N := by
  unfold den
  rw [top_extend h hm]
  obtain ⟨B, rfl⟩ := Nat.exists_eq_add_of_le h
  rw [Finset.sum_range_add]
  refine (congrArg _ (Finset.sum_eq_zero fun j _ => ?_)).trans (add_zero _)
  rw [hm _ (Nat.le_add_right _ _), exp_bot_sub]

/-- The quotient of the two sums is the sum of the values weighted by the normalised exponentials. -/
theorem num_div_den {t : ℕ → EReal} (v : ℕ → EReal) (N : ℕ) (h : den t N ≠ 0) :
    Ideal.div (num t v N) (den t N) = ∑ k ∈ Finset.range N, v k * Ideal.div (Ideal.exp (t k - top t N)) (den t N) := by
  have h0 : 0 ≤ den t N := Finset.sum_nonneg fun k _ => exp_nonneg _
  have hd : ∀ x, Ideal.div x (den t N) = x * (den t N)⁻¹ := fun x => if_neg h
  rw [hd]
  unfold num
  rw [sum_mul_right _ _ (EReal.inv_nonneg_of_nonneg h0) (EReal.inv_lt_top _).ne]
  refine Finset.sum_congr rfl fun k _ => ?_
  rw [hd, mul_assoc]

/-! ## A query at position `p`, over all 12288 keys -/

/-- The scores, negative infinity at the keys past the query. -/
def tm (s : ℕ → EReal) (p k : ℕ) : EReal := if k ≤ p then s k else ⊥

/-- The absolute scores, zero at the keys past the query. -/
def um (s : ℕ → EReal) (p k : ℕ) : EReal := if k ≤ p then max (s k) (-(s k)) else 0

/-- The attention output: the values weighted by the normalised exponentials. -/
def attnO (s v : ℕ → EReal) (p : ℕ) : EReal :=
  ∑ k ∈ Finset.range 12288, v k * Ideal.div (Ideal.exp (tm s p k - top (tm s p) 12288)) (den (tm s p) 12288)

/-- The greatest absolute score. -/
def attnR (s : ℕ → EReal) (p : ℕ) : EReal := (Finset.range 12288).sup (um s p)

/-- A masked score is not plus infinity when no score is. -/
theorem tm_ne_top {s : ℕ → EReal} (hs : ∀ k, s k ≠ ⊤) (p k : ℕ) : tm s p k ≠ ⊤ := by
  unfold tm
  by_cases h : k ≤ p
  · rw [if_pos h]; exact hs k
  · rw [if_neg h]; exact bot_ne_top

/-- The weighted sum over the sum, taken over the keys up to the query's block, is the attention output. -/
theorem attnO_eq {s : ℕ → EReal} (v : ℕ → EReal) {p N : ℕ} (hs : ∀ k, s k ≠ ⊤) (hb : s p ≠ ⊥) (hp : p < N) (hN : N ≤ 12288) :
    Ideal.div (num (tm s p) v N) (den (tm s p) N) = attnO s v p := by
  have hm : ∀ k, N ≤ k → tm s p k = ⊥ := fun k hk => if_neg (by omega)
  have e : tm s p p = s p := if_pos le_rfl
  rw [← num_extend v hN hm, ← den_extend hN hm]
  exact num_div_den v 12288 (den_ne_zero (tm_ne_top hs p) (q := p) (by omega) (by rw [e]; exact hb))

/-- The maximum from zero over the keys up to the query's block is the greatest absolute score. -/
theorem attnR_eq (s : ℕ → EReal) {p N : ℕ} (hN : N ≤ 12288) (hp : p < N) :
    max 0 ((Finset.range N).sup (um s p)) = attnR s p := by
  have h0 : ∀ k, 0 ≤ um s p k := fun k => by
    unfold um
    by_cases h : k ≤ p
    · rw [if_pos h]
      rcases le_total 0 (s k) with h' | h'
      · exact le_max_of_le_left h'
      · exact le_max_of_le_right (EReal.neg_nonneg.2 h')
    · rw [if_neg h]
  unfold attnR
  obtain ⟨B, e⟩ := Nat.exists_eq_add_of_le hN
  rw [e, sup_range_add]
  have h1 : 0 ≤ (Finset.range N).sup (um s p) := (h0 0).trans (Finset.le_sup (f := um s p) (Finset.mem_range.2 (by omega)))
  rw [max_eq_right h1, max_eq_left]
  refine Finset.sup_le fun j _ => ?_
  have : um s p (N + j) = 0 := if_neg (by omega)
  rw [this]; exact h1

/-! ## The results

    `Q b h d p` is component `d` of the query of head `h` at position `p` of sequence `b`, `K b g k d` and `V b g d k` of the
    key and value of group `g`, `L b` the sequence's length. Head `h` belongs to group `h / 6`. -/

/-- The group of a head. -/
def grp (h : Fin 48) : Fin 8 := ⟨h.val / 6, by have := h.isLt; omega⟩

/-- Head `h` of group `g`. -/
def hd (g : Fin 8) (h : Fin 6) : Fin 48 := ⟨6 * g.val + h.val, by have := g.isLt; have := h.isLt; omega⟩

/-- The group of a group's head is that group. -/
theorem grp_hd (g : Fin 8) (h : Fin 6) : grp (hd g h) = g :=
  Fin.ext (show (6 * g.val + h.val) / 6 = g.val by have := h.isLt; omega)

/-- Key number `k`, of 12288. -/
def ky (k : ℕ) : Fin 12288 := ⟨k % 12288, Nat.mod_lt _ (by decide)⟩

section

variable (cst : EReal) (Q : Fin 2 → Fin 48 → Fin 128 → Fin 12288 → EReal) (K : Fin 2 → Fin 8 → Fin 12288 → Fin 128 → EReal)
  (V : Fin 2 → Fin 8 → Fin 128 → Fin 12288 → EReal) (L : Fin 2 → BitVec 32)

/-- The score of key `k` for the query at `p`. -/
def score (b : Fin 2) (h : Fin 48) (p : Fin 12288) (k : ℕ) : EReal := (∑ d : Fin 128, K b (grp h) (ky k) d * Q b h d p) * cst

/-- Whether position `p` lies within the sequence. -/
def live (b : Fin 2) (p : Fin 12288) : Prop := (p.val : ℤ) < (L b).toInt

/-- Whether a token is live is decidable. -/
instance (b : Fin 2) (p : Fin 12288) : Decidable (live L b p) := inferInstanceAs (Decidable (_ < _))

/-- The attention output, zero past the sequence's length. -/
def resO (b : Fin 2) (h : Fin 48) (d : Fin 128) (p : Fin 12288) : EReal :=
  if live L b p then attnO (score cst Q K b h p) (fun k => V b (grp h) d (ky k)) p.val else 0

/-- The greatest absolute score of a row, zero past the sequence's length. -/
def resR (b : Fin 2) (g : Fin 8) (h : Fin 6) (p : Fin 12288) : EReal :=
  if live L b p then attnR (score cst Q K b (hd g h) p) p.val else 0

/-- The greatest absolute output of a row. -/
def resA (b : Fin 2) (g : Fin 8) (h : Fin 6) (p : Fin 12288) : EReal :=
  Finset.univ.fold max ⊥ fun d : Fin 128 => max (resO cst Q K V L b (hd g h) d p) (-(resO cst Q K V L b (hd g h) d p))

/-- The output past a sequence's length is zero. -/
theorem resO_dead {b : Fin 2} {p : Fin 12288} (hp : ¬ live L b p) (h : Fin 48) (d : Fin 128) : resO cst Q K V L b h d p = 0 := if_neg hp

/-- The score maximum past a sequence's length is zero. -/
theorem resR_dead {b : Fin 2} {p : Fin 12288} (hp : ¬ live L b p) (g : Fin 8) (h : Fin 6) : resR cst Q K L b g h p = 0 := if_neg hp

/-- The output maximum past a sequence's length is zero. -/
theorem resA_dead {b : Fin 2} {p : Fin 12288} (hp : ¬ live L b p) (g : Fin 8) (h : Fin 6) : resA cst Q K V L b g h p = 0 := by
  unfold resA
  simp only [resO_dead cst Q K V L hp]
  rw [show max (0 : EReal) (-0) = 0 by simp, fold_max_eq 128 (fun _ => (0 : EReal))]
  exact Finset.sup_const ⟨0, by decide⟩ _

end

end Online
-- ==== Proof.Steps.lean ====
module

public import proofs.«01_k».proof.Proof.Blocks
public import proofs.«01_k».proof.Proof.Online

@[expose] public section

set_option synthInstance.maxSize 4096
set_option maxRecDepth 16384

noncomputable section

/-! # The steps of a head, read at an index over the extended reals -/

namespace Cert.KernelIdeal.Gen

open Idealize.ShloMosaic Idealize.SL.Sem

/-- The pattern of negative infinity. -/
theorem bits_neg_inf : Ideal.ofBits .f32 0xFF800000#32 = ⊥ := by simp [Ideal.ofBits, Ideal.ieee]

/-- One score of a block: a product over the 128 dimensions, scaled. -/
theorem scoresB_apply (cst : Ideal .f32) (q : FVec Ideal S128x256 .bf16) (K : Vec Ideal S1x1x256x128 .bf16) (r c : Fin 256) :
    scoresB cst q K (ix2 r c) = (∑ d : Fin 128, K (ix4 0 0 r d) * q (ix2 d c)) * cst := by
  pointwise [scoresB]

/-- The larger of a column's carried maximum and its block maximum. -/
theorem colMax_apply (x : FVec Ideal S256x256 .f32) (r : FVec Ideal S1x256 .f32) (c : Fin 256) :
    colMax x r (ix2 0 c) = max (r (ix2 0 c)) (Finset.univ.fold max ⊥ fun k : Fin 256 => x (ix2 k c)) := by
  pointwise [colMax]
  rw [bits_neg_inf]

/-- One weight of a block. -/
theorem expB_apply (x : FVec Ideal S256x256 .f32) (m : FVec Ideal S1x256 .f32) (r c : Fin 256) :
    expB x m (ix2 r c) = Ideal.exp (x (ix2 r c) - m (ix2 0 c)) := by
  pointwise [expB]

/-- One rescaling factor. -/
theorem expA_apply (m m' : FVec Ideal S1x256 .f32) (c : Fin 256) :
    expA m m' (ix2 0 c) = Ideal.exp (m (ix2 0 c) - m' (ix2 0 c)) := by
  pointwise [expA]

/-- One denominator after a block. -/
theorem addL_apply (l a : FVec Ideal S1x256 .f32) (p : FVec Ideal S256x256 .f32) (c : Fin 256) :
    addL l a p (ix2 0 c) = l (ix2 0 c) * a (ix2 0 c) + ∑ k : Fin 256, p (ix2 k c) := by
  pointwise [addL]

/-- One element of the running output after a block. -/
theorem addO_apply (o : FVec Ideal S128x256 .f32) (a : FVec Ideal S1x256 .f32) (p : FVec Ideal S256x256 .f32)
    (V : Vec Ideal S1x1x128x256 .bf16) (d : Fin 128) (c : Fin 256) :
    addO o a p V (ix2 d c) = o (ix2 d c) * a (ix2 0 c) + ∑ k : Fin 256, V (ix4 0 0 d k) * p (ix2 k c) := by
  pointwise [addO]

/-- One element of the stored output. -/
theorem outO_apply (w : IVec S1x256 1) (s : St Ideal) (d : Fin 128) (c : Fin 256) :
    outO w s (ix2 d c) = if w (ix2 0 c) = 1#1 then Ideal.div (s.2.2.2 (ix2 d c)) (s.2.2.1 (ix2 0 c)) else 0 := by
  pointwise [outO]
  rfl

/-- One stored score maximum. -/
theorem outR_apply (w : IVec S1x256 1) (s : St Ideal) (c : Fin 256) :
    outR w s (ix2 0 c) = if w (ix2 0 c) = 1#1 then s.2.1 (ix2 0 c) else 0 := by
  pointwise [outR]
  rfl

/-- One stored output maximum. -/
theorem outA_apply (o : FVec Ideal S128x256 .f32) (c : Fin 256) :
    outA o (ix2 0 c) = Finset.univ.fold max ⊥ fun d : Fin 128 => max (o (ix2 d c)) (-(o (ix2 d c))) := by
  pointwise [outA]
  rw [bits_neg_inf]
  rfl

/-- The causal mask of the diagonal block. -/
theorem visB_apply (r c : Fin 256) : visB (ix2 r c) = 1#1 ↔ r.val ≤ c.val := by
  pointwise [visB]
  have hr := r.isLt
  have hc := c.isLt
  exact WordCmp.cmpi_sle_ofNat_eq_one_iff (by omega) (by omega)

/-! ## A step, at one column

    `t` are a column's scores as numbered over all the keys, `w` what the maximum of absolute values is taken of, `v d` the
    values of component `d`. -/

/-- What a head carries at column `c` after the first `N` keys. -/
structure At (t w : ℕ → EReal) (v : Fin 128 → ℕ → EReal) (c : Fin 256) (N : ℕ) (s : St Ideal) : Prop where
  max : s.1 (ix2 0 c) = Online.top t N
  abs : s.2.1 (ix2 0 c) = Max.max 0 ((Finset.range N).sup w)
  sum : s.2.2.1 (ix2 0 c) = Online.den t N
  out : ∀ d, s.2.2.2 (ix2 d c) = Online.num t (v d) N

/-- A step carries the four on by a block. -/
theorem step_at {t w : ℕ → EReal} (v : Fin 128 → ℕ → EReal) (c : Fin 256) (N : ℕ) (s : St Ideal) (ht : ∀ k, t k ≠ ⊤)
    (x u : FVec Ideal S256x256 .f32) (V : Vec Ideal S1x1x128x256 .bf16) (hx : ∀ r : Fin 256, x (ix2 r c) = t (N + r.val))
    (hu : ∀ r : Fin 256, u (ix2 r c) = w (N + r.val)) (hV : ∀ (d : Fin 128) (k : Fin 256), V (ix4 0 0 d k) = v d (N + k.val))
    (h : At t w v c N s) : At t w v c (N + 256) (stepB x u V s) := by
  have e1 : colMax x s.1 (ix2 0 c) = Online.top t (N + 256) := by
    rw [colMax_apply, h.max, Online.top_add]
    refine congrArg _ ?_
    rw [← Online.fold_max_eq]
    exact congrArg (fun f => Finset.fold max ⊥ f Finset.univ) (funext hx)
  refine ⟨e1, ?_, ?_, fun d => ?_⟩
  · show colMax u s.2.1 (ix2 0 c) = _
    rw [colMax_apply, h.abs, Online.sup_range_add, ← max_assoc]
    refine congrArg _ ?_
    rw [← Online.fold_max_eq]
    exact congrArg (fun f => Finset.fold max ⊥ f Finset.univ) (funext hu)
  · show addL _ _ _ (ix2 0 c) = _
    rw [addL_apply, expA_apply, e1, h.max, h.sum, Online.den_add ht,
      ← Fin.sum_univ_eq_sum_range (fun j => Ideal.exp (t (N + j) - Online.top t (N + 256)))]
    refine congrArg _ (Finset.sum_congr rfl fun k _ => ?_)
    rw [expB_apply, e1, hx]
  · show addO _ _ _ _ (ix2 d c) = _
    rw [addO_apply, expA_apply, e1, h.max, h.out, Online.num_add ht,
      ← Fin.sum_univ_eq_sum_range (fun j => v d (N + j) * Ideal.exp (t (N + j) - Online.top t (N + 256)))]
    refine congrArg _ (Finset.sum_congr rfl fun k _ => ?_)
    rw [expB_apply, e1, hx, hV]

/-- Two families of scores that agree on the first `N` keys carry the same. -/
theorem At.congr {t w t' w' : ℕ → EReal} {v : Fin 128 → ℕ → EReal} {c : Fin 256} {N : ℕ} {s : St Ideal} (h : At t w v c N s)
    (ht : ∀ k < N, t' k = t k) (hw : ∀ k < N, w' k = w k) : At t' w' v c N s := by
  have e : Online.top t' N = Online.top t N := Finset.sup_congr rfl fun k hk => ht k (Finset.mem_range.1 hk)
  refine ⟨h.max.trans e.symm, h.abs.trans (congrArg _ ?_), h.sum.trans ?_, fun d => (h.out d).trans ?_⟩
  · exact Finset.sup_congr rfl fun k hk => (hw k (Finset.mem_range.1 hk)).symm
  · exact Finset.sum_congr rfl fun k hk => by rw [e, ht k (Finset.mem_range.1 hk)]
  · exact Finset.sum_congr rfl fun k hk => by rw [e, ht k (Finset.mem_range.1 hk)]

/-- The score of key `k` for the query of column `c`. -/
def sc (cst : Ideal .f32) (q : FVec Ideal S128x256 .bf16) (x1 : Vec Ideal S1x1x12288x128 .bf16) (c : Fin 256) (k : ℕ) : EReal :=
  (∑ d : Fin 128, x1 (ix4 0 0 (Online.ky k) d) * q (ix2 d c)) * cst

/-- Component `d` of the value of key `k`. -/
def vl (x2 : Vec Ideal S1x1x128x12288 .bf16) (d : Fin 128) (k : ℕ) : EReal :=
  x2 (ix4 0 0 d (Online.ky k))

section

variable (cst : Ideal .f32) (q : FVec Ideal S128x256 .bf16) (x1 : Vec Ideal S1x1x12288x128 .bf16) (x2 : Vec Ideal S1x1x128x12288 .bf16)
  (c : Fin 256)

/-- A block's score is the score of its key. -/
theorem scores_blk (n : ℕ) (r : Fin 256) : scoresB cst q (kblk x1 n) (ix2 r c) = sc cst q x1 c (256 * n + r.val) :=
  scoresB_apply _ _ _ _ _

/-- The loop over the first `n` blocks. -/
theorem loop_at (hs : ∀ k, sc cst q x1 c k ≠ ⊤) (n : ℕ) :
    At (sc cst q x1 c) (fun k => Max.max (sc cst q x1 c k) (-(sc cst q x1 c k))) (vl x2) c (256 * n) (loopU cst q x1 x2 n) := by
  induction n with
  | zero =>
    refine ⟨?_, ?_, ?_, fun d => ?_⟩
    · exact bits_neg_inf
    · show Ideal.ofBits .f32 0x00000000#32 = _
      rw [Ideal.ofBits_zero_f32]; simp
    · exact Ideal.ofBits_zero_f32
    · exact Ideal.ofBits_zero_f32
  | succ n ih =>
    refine step_at (vl x2) c (256 * n) _ hs _ _ _ (scores_blk cst q x1 c n) (fun r => ?_) (fun d k => rfl) ih
    show Max.max (scoresB cst q (kblk x1 n) (ix2 r c)) (-(scoresB cst q (kblk x1 n) (ix2 r c))) = _
    rw [scores_blk]

/-- The whole of a head. -/
theorem end_at (hs : ∀ k, sc cst q x1 c k ≠ ⊤) (n : ℕ) :
    At (Online.tm (sc cst q x1 c) (256 * n + c.val)) (Online.um (sc cst q x1 c) (256 * n + c.val)) (vl x2) c (256 * n + 256) (endS cst q x1 x2 n) := by
  refine step_at (vl x2) c (256 * n) _ (Online.tm_ne_top hs _) _ _ _ (fun r => ?_) (fun r => ?_) (fun d k => rfl)
    ((loop_at cst q x1 x2 c hs n).congr (fun k hk => if_pos (by omega)) (fun k hk => if_pos (by omega)))
  · show (if visB (ix2 r c) = 1#1 then scoresB cst q (kblk x1 n) (ix2 r c) else Ideal.ofBits .f32 0xFF800000#32) = _
    rw [scores_blk, bits_neg_inf]
    unfold Online.tm
    exact if_congr ((visB_apply r c).trans (by omega)) rfl rfl
  · show (if visB (ix2 r c) = 1#1 then Max.max (scoresB cst q (kblk x1 n) (ix2 r c)) (-(scoresB cst q (kblk x1 n) (ix2 r c))) else Ideal.ofBits .f32 0x00000000#32) = _
    rw [scores_blk, Ideal.ofBits_zero_f32]
    unfold Online.um
    exact if_congr ((visB_apply r c).trans (by omega)) rfl rfl

/-- A head's output at component `d` of column `c`. -/
theorem head_out (hs : ∀ k, sc cst q x1 c k ≠ ⊤) (hb : ∀ k, sc cst q x1 c k ≠ ⊥) (n : ℕ) (hn : n < 48) (w : IVec S1x256 1) (d : Fin 128) :
    outO w (endS cst q x1 x2 n) (ix2 d c)
      = if w (ix2 0 c) = 1#1 then Online.attnO (sc cst q x1 c) (vl x2 d) (256 * n + c.val) else 0 := by
  have h := end_at cst q x1 x2 c hs n
  have hc := c.isLt
  rw [outO_apply, h.out, h.sum, Online.attnO_eq (vl x2 d) hs (hb _) (by omega) (by omega)]

/-- A head's greatest absolute score at column `c`. -/
theorem head_abs (hs : ∀ k, sc cst q x1 c k ≠ ⊤) (n : ℕ) (hn : n < 48) (w : IVec S1x256 1) :
    outR w (endS cst q x1 x2 n) (ix2 0 c)
      = if w (ix2 0 c) = 1#1 then Online.attnR (sc cst q x1 c) (256 * n + c.val) else 0 := by
  have h := end_at cst q x1 x2 c hs n
  have hc := c.isLt
  rw [outR_apply, h.abs, Online.attnR_eq _ (by omega) (by omega)]

end

end Cert.KernelIdeal.Gen
-- ==== Proof.Point.lean ====
module

public import proofs.«01_k».proof.Proof.Steps
public import Idealize.ShloMosaic.Lib.Pipeline.ValueKit

@[expose] public section

set_option synthInstance.maxSize 4096
set_option maxRecDepth 16384

noncomputable section

/-! # What the body leaves at a grid point, as the results of the claim -/

namespace Cert.KernelIdeal.Gen

open Idealize.ShloMosaic Idealize.ShloMosaic.TcCoe Idealize.SL.Sem

variable (m : (ℓ : Loc nD τ sig) → Buf (Elt Ideal) ℓ)

/-! ## The arguments, by coordinates -/

/-- The rotated queries, by batch, head, dimension and token. -/
def argQ (c : Dev nD) (b : Fin 2) (h : Fin 48) (d : Fin 128) (p : Fin 12288) : EReal := V m c main_arg0 (ix4 b h d p)
/-- The rotated keys, by batch, key/value head, token and dimension. -/
def argK (c : Dev nD) (b : Fin 2) (g : Fin 8) (k : Fin 12288) (d : Fin 128) : EReal := V m c main_arg1 (ix4 b g k d)
/-- The values, by batch, key/value head, dimension and token. -/
def argV (c : Dev nD) (b : Fin 2) (g : Fin 8) (d : Fin 128) (k : Fin 12288) : EReal := V m c main_arg2 (ix4 b g d k)
/-- The length of a sequence, a 32-bit word. -/
def argL (c : Dev nD) (b : Fin 2) : BitVec 32 := V m c main_arg3 (ix1 b)

/-! ## The coordinates of a point -/

/-- A grid point's batch. -/
def pb (i : grid0.Coords) : Fin 2 := ⟨(i 0).val, (i 0).isLt⟩
/-- A grid point's key/value head. -/
def pg (i : grid0.Coords) : Fin 8 := ⟨(i 1).val, (i 1).isLt⟩
/-- The token of column `c` of a grid point's tile. -/
def pp (i : grid0.Coords) (c : Fin 256) : Fin 12288 :=
  ⟨256 * (i 2).val + c.val, by have : (i 2).val < 48 := (i 2).isLt; have := c.isLt; omega⟩

/-- A grid point's batch, as a number. -/
@[simp] theorem pb_val (i : grid0.Coords) : (pb i).val = (i 0).val := rfl
/-- A grid point's key/value head, as a number. -/
@[simp] theorem pg_val (i : grid0.Coords) : (pg i).val = (i 1).val := rfl
/-- Column `c` of tile `n` is token `256 n + c`. -/
@[simp] theorem pp_val (i : grid0.Coords) (c : Fin 256) : (pp i c).val = 256 * (i 2).val + c.val := rfl
/-- Head `h` of group `g` is head `6 g + h`. -/
@[simp] theorem hd_val (g : Fin 8) (h : Fin 6) : (Online.hd g h).val = 6 * g.val + h.val := rfl

/-- The block of columns of a point, in a window whose index map takes the three coordinates. -/
theorem idx_col (t : Fin grid0.N) : ![(BitVec.ofNat 32 (grid0.coords t 0).val).toNat, (BitVec.ofNat 32 (grid0.coords t 1).val).toNat, (0#32 : BitVec 32).toNat, (BitVec.ofNat 32 (grid0.coords t 2).val).toNat]
    = ![(grid0.coords t 0).val, (grid0.coords t 1).val, 0, (grid0.coords t 2).val] := by
  have h0 : (grid0.coords t 0).val < 2 := (grid0.coords t 0).isLt
  have h1 : (grid0.coords t 1).val < 8 := (grid0.coords t 1).isLt
  have h2 : (grid0.coords t 2).val < 48 := (grid0.coords t 2).isLt
  simp only [BitVec.toNat_ofNat]
  rw [Nat.mod_eq_of_lt (show (grid0.coords t 0).val < 2 ^ 32 by omega), Nat.mod_eq_of_lt (show (grid0.coords t 1).val < 2 ^ 32 by omega),
    Nat.mod_eq_of_lt (show (grid0.coords t 2).val < 2 ^ 32 by omega)]

/-- The block of a point, in a window whose index map takes the first two coordinates. -/
theorem idx_row (t : Fin grid0.N) : ![(BitVec.ofNat 32 (grid0.coords t 0).val).toNat, (BitVec.ofNat 32 (grid0.coords t 1).val).toNat, (0#32 : BitVec 32).toNat, (0#32 : BitVec 32).toNat]
    = ![(grid0.coords t 0).val, (grid0.coords t 1).val, 0, 0] := by
  have h0 : (grid0.coords t 0).val < 2 := (grid0.coords t 0).isLt
  have h1 : (grid0.coords t 1).val < 8 := (grid0.coords t 1).isLt
  simp only [BitVec.toNat_ofNat]
  rw [Nat.mod_eq_of_lt (show (grid0.coords t 0).val < 2 ^ 32 by omega), Nat.mod_eq_of_lt (show (grid0.coords t 1).val < 2 ^ 32 by omega)]

/-- The queries' block at a step. -/
theorem at0 (t : Fin grid0.N) : cc0_transform_0 (grid0.coords t) = ![(grid0.coords t 0).val, (grid0.coords t 1).val, 0, (grid0.coords t 2).val] := idx_col t
/-- The keys' block at a step: its group's. -/
theorem at1 (t : Fin grid0.N) : cc0_transform_1 (grid0.coords t) = ![(grid0.coords t 0).val, (grid0.coords t 1).val, 0, 0] := idx_row t
/-- The values' block at a step: its group's. -/
theorem at2 (t : Fin grid0.N) : cc0_transform_2 (grid0.coords t) = ![(grid0.coords t 0).val, (grid0.coords t 1).val, 0, 0] := idx_row t
/-- The output's block at a step. -/
theorem at3 (t : Fin grid0.N) : cc0_transform_3 (grid0.coords t) = ![(grid0.coords t 0).val, (grid0.coords t 1).val, 0, (grid0.coords t 2).val] := idx_col t
/-- The score maxima's block at a step. -/
theorem at4 (t : Fin grid0.N) : cc0_transform_4 (grid0.coords t) = ![(grid0.coords t 0).val, (grid0.coords t 1).val, 0, (grid0.coords t 2).val] := idx_col t
/-- The output maxima's block at a step. -/
theorem at5 (t : Fin grid0.N) : cc0_transform_5 (grid0.coords t) = ![(grid0.coords t 0).val, (grid0.coords t 1).val, 0, (grid0.coords t 2).val] := idx_col t

/-! ## The blocks a point reads -/

/-- An element of a step's block of queries. -/
theorem iblk0 (hO : Ok m) (c : Dev nD) (t : Fin (cfgM m hO).N) (h : Fin 6) (d : Fin 128) (k : Fin 256) :
    iblk m hO c 0 t (ix4 0 h d k) = argQ m c (pb (grid0.coords t)) (Online.hd (pg (grid0.coords t)) h) d (pp (grid0.coords t) k) := by
  have e := at0 t
  have h2 : (grid0.coords t 2).val < 48 := (grid0.coords t 2).isLt
  unfold argQ
  blk_ext [iblk, V]
  · show cc0_transform_0 (grid0.coords t) 0 + 0 = (pb (grid0.coords t)).val
    rw [e]; simp <;> omega
  · show cc0_transform_0 (grid0.coords t) 1 * 6 + h.val = (Online.hd (pg (grid0.coords t)) h).val
    rw [e]; simp <;> omega
  · show cc0_transform_0 (grid0.coords t) 2 * 128 + d.val = d.val
    rw [e]; simp <;> omega
  · show cc0_transform_0 (grid0.coords t) 3 * 256 + k.val = (pp (grid0.coords t) k).val
    rw [e]; simp <;> omega

/-- An element of a step's block of keys. -/
theorem iblk1 (hO : Ok m) (c : Dev nD) (t : Fin (cfgM m hO).N) (k : Fin 12288) (d : Fin 128) :
    iblk m hO c 1 t (ix4 0 0 k d) = argK m c (pb (grid0.coords t)) (pg (grid0.coords t)) k d := by
  have e := at1 t
  have h2 : (grid0.coords t 2).val < 48 := (grid0.coords t 2).isLt
  unfold argK
  blk_ext [iblk, V]
  · show cc0_transform_1 (grid0.coords t) 0 + 0 = (pb (grid0.coords t)).val
    rw [e]; simp <;> omega
  · show cc0_transform_1 (grid0.coords t) 1 + 0 = (pg (grid0.coords t)).val
    rw [e]; simp <;> omega
  · show cc0_transform_1 (grid0.coords t) 2 * 12288 + k.val = k.val
    rw [e]; simp <;> omega
  · show cc0_transform_1 (grid0.coords t) 3 * 128 + d.val = d.val
    rw [e]; simp <;> omega

/-- An element of a step's block of values. -/
theorem iblk2 (hO : Ok m) (c : Dev nD) (t : Fin (cfgM m hO).N) (d : Fin 128) (k : Fin 12288) :
    iblk m hO c 2 t (ix4 0 0 d k) = argV m c (pb (grid0.coords t)) (pg (grid0.coords t)) d k := by
  have e := at2 t
  have h2 : (grid0.coords t 2).val < 48 := (grid0.coords t 2).isLt
  unfold argV
  blk_ext [iblk, V]
  · show cc0_transform_2 (grid0.coords t) 0 + 0 = (pb (grid0.coords t)).val
    rw [e]; simp <;> omega
  · show cc0_transform_2 (grid0.coords t) 1 + 0 = (pg (grid0.coords t)).val
    rw [e]; simp <;> omega
  · show cc0_transform_2 (grid0.coords t) 2 * 128 + d.val = d.val
    rw [e]; simp <;> omega
  · show cc0_transform_2 (grid0.coords t) 3 * 12288 + k.val = k.val
    rw [e]; simp <;> omega

/-- The length word the body reads is the sequence's length. -/
theorem len_read (c : Dev nD) (x : TbBuf0 (F := Ideal) c tbM0_0) (i : grid0.Coords) :
    tbW0 (F := Ideal) c x i = (show S2.Idx → BitVec 32 from x) (ix1 (pb i)) := by
  unfold tbW0
  rw [View.readAt_eq_ld]
  refine congrArg (show S2.Idx → BitVec 32 from x) (funext fun a => Fin.ext ?_)
  match a with
  | ⟨0, _⟩ =>
    have h0 : (i 0).val < 2 := (i 0).isLt
    show (BitVec.ofNat 32 (i 0).val).toNat + 1 * 0 = (i 0).val
    rw [BitVec.toNat_ofNat, Nat.mod_eq_of_lt (by omega)]; omega

/-- The length word a step reads is its batch's length. -/
theorem len_word (c : Dev nD) (i : grid0.Coords) : tbW0 (F := Ideal) c (tbl m 0) i = argL m c (pb i) := by
  have hc : c = 0 := Subsingleton.elim _ _
  subst hc
  exact len_read 0 (tbl m 0) i

/-! ## The sequence's length against the positions of a point -/

/-- The first token of tile `n`, as a word, is `256 n`. -/
theorem muli_toInt (n : ℕ) (hn : n < 48) : (Scalar.muli (BitVec.ofNat 32 n) 256#32 : BitVec 32) = BitVec.ofNat 32 (256 * n) := by
  show (BitVec.ofNat 32 n) * 256#32 = _
  apply BitVec.eq_of_toNat_eq
  simp only [BitVec.toNat_mul, BitVec.toNat_ofNat]
  omega

/-- A point is computed when its first position lies within the sequence. -/
theorem cond1_iff (i : grid0.Coords) (w : BitVec 32) : k0_cond1 i w = 1#1 ↔ ((256 * (i 2).val : ℕ) : ℤ) < w.toInt := by
  have h2 : (i 2).val < 48 := (i 2).isLt
  have e : IntOp.cmpi .slt (BitVec.ofNat 32 (256 * (i 2).val)) w = 1#1 ↔ ((256 * (i 2).val : ℕ) : ℤ) < w.toInt := by
    rw [IntOp.cmpi_slt, WordCmp.toInt_ofNat_of_lt (by omega)]
  refine Iff.trans ?_ e
  unfold k0_cond1
  simp only [muli_toInt _ h2]
  show IntOp.cmpi .ne ((IntOp.cmpi .slt (BitVec.ofNat 32 (256 * (i 2).val)) w).setWidth 32) 0#32 = 1#1 ↔ _
  generalize IntOp.cmpi .slt (BitVec.ofNat 32 (256 * (i 2).val)) w = b
  revert b; decide

/-- The kernel's mask of a point's columns. -/
theorem mask_iff (i : grid0.Coords) (w : BitVec 32) (k : Fin 256) :
    k0_pay1 (F := Ideal) i w (ix2 0 k) = 1#1 ↔ ((pp i k).val : ℤ) < w.toInt := by
  have h2 : (i 2).val < 48 := (i 2).isLt
  have hk := k.isLt
  have e : k0_pay1 (F := Ideal) i w (ix2 0 k) = IntOp.cmpi .slt (Scalar.muli (BitVec.ofNat 32 (i 2).val) 256#32 + BitVec.ofNat 32 k.val) w := by
    pointwise [k0_pay1]
    try rfl
  rw [e, muli_toInt _ h2, IntOp.cmpi_slt, ← BitVec.ofNat_add, WordCmp.toInt_ofNat_of_lt (by omega)]
  rfl

/-! ## What a point leaves -/

/-- One head's queries out of a step's block. -/
theorem qblk_apply (x0 : Vec Ideal S1x6x128x256 .bf16) (h : Fin 6) (d : Fin 128) (k : Fin 256) :
    shapeCast S128x256 (qblk x0 h) shapeCasts_S1x1x128x256_S128x256 (ix2 d k) = x0 (ix4 0 h d k) := by
  pointwise [qblk]
  try rfl

section

variable (hO : Ok m) (c : Dev nD) (t : Fin (cfgM m hO).N)

/-- The scores of a column of a point. -/
theorem sc_eq (h : Fin 6) (k : Fin 256) :
    sc (scl (F := Ideal)) (shapeCast S128x256 (qblk (iblk m hO c 0 t) h) shapeCasts_S1x1x128x256_S128x256) (iblk m hO c 1 t) k
      = Online.score (scl (F := Ideal)) (argQ m c) (argK m c) (pb (grid0.coords t)) (Online.hd (pg (grid0.coords t)) h) (pp (grid0.coords t) k) := by
  funext j
  unfold sc Online.score
  rw [Online.grp_hd]
  refine congrArg (· * scl (F := Ideal)) (Finset.sum_congr rfl fun d _ => ?_)
  exact congrArg₂ (· * ·) (iblk1 m hO c t (Online.ky j) d) ((qblk_apply _ h d k).trans (iblk0 m hO c t h d k))

/-- The values of a component. -/
theorem vl_eq (h : Fin 6) (d : Fin 128) :
    vl (iblk m hO c 2 t) d = fun j => argV m c (pb (grid0.coords t)) (Online.grp (Online.hd (pg (grid0.coords t)) h)) d (Online.ky j) := by
  funext j
  rw [Online.grp_hd]
  exact iblk2 m hO c t d (Online.ky j)

end

end Cert.KernelIdeal.Gen
-- ==== Proof.Result.lean ====
module

public import proofs.«01_k».proof.Proof.Point

@[expose] public section

set_option synthInstance.maxSize 4096
set_option maxRecDepth 16384

noncomputable section

/-! # The kernel's arrays after the run -/

namespace Cert.KernelIdeal.Gen

open Idealize.ShloMosaic Idealize.ShloMosaic.TcCoe Idealize.SL.Sem

variable (m : (ℓ : Loc nD τ sig) → Buf (Elt Ideal) ℓ)

/-- The length word of the body's run. -/
theorem sl_r_eq (c : Dev nD) (i : grid0.Coords) (x : TbBuf0 (F := Ideal) c tbM0_0) : kernelRun0_A.sl.r c i x = tbW0 c x i := by
  unfold kernelRun0_A.sl.r
  rfl

/-- What a computed point leaves. -/
theorem outsAt0_A (hO : Ok m) (c : Dev nD) (t : Fin (cfgM m hO).N) (h : k0_cond1 (grid0.coords t) (tbW0 c (tbl m 0) (grid0.coords t)) = 1#1) :
    outsAt0 m hO c t = (blkO (k0_pay1 (F := Ideal) (grid0.coords t) (kernelRun0_A.sl.r c (grid0.coords t) (tbl m 0))) (endH (iblk m hO c 0 t) (iblk m hO c 1 t) (iblk m hO c 2 t) (grid0.coords t 2).val),
      blkR (k0_pay1 (F := Ideal) (grid0.coords t) (kernelRun0_A.sl.r c (grid0.coords t) (tbl m 0))) (endH (iblk m hO c 0 t) (iblk m hO c 1 t) (iblk m hO c 2 t) (grid0.coords t 2).val),
      blkA (k0_pay1 (F := Ideal) (grid0.coords t) (kernelRun0_A.sl.r c (grid0.coords t) (tbl m 0))) (endH (iblk m hO c 0 t) (iblk m hO c 1 t) (iblk m hO c 2 t) (grid0.coords t 2).val)) := by
  unfold outsAt0
  refine (dif_pos h).trans ?_
  exact congrArg₂ Prod.mk (out0_A_3_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h (fun e => (cond2_iff _ _).1 e h))
    (congrArg₂ Prod.mk (out0_A_4_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h (fun e => (cond2_iff _ _).1 e h)) (out0_A_5_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h (fun e => (cond2_iff _ _).1 e h)))

/-- What a point past the sequence's length leaves. -/
theorem outsAt0_B (hO : Ok m) (c : Dev nD) (t : Fin (cfgM m hO).N) (h : ¬ k0_cond1 (grid0.coords t) (tbW0 c (tbl m 0) (grid0.coords t)) = 1#1) :
    outsAt0 m hO c t = ((fun _ => Scalar.ofBits (F := Ideal) .f32 0x00000000#32), (fun _ => Scalar.ofBits (F := Ideal) .f32 0x00000000#32), (fun _ => Scalar.ofBits (F := Ideal) .f32 0x00000000#32)) := by
  unfold outsAt0
  refine (dif_neg h).trans ?_
  exact congrArg₂ Prod.mk (out0_B_3_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h ((cond2_iff _ _).2 h))
    (congrArg₂ Prod.mk (out0_B_4_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h ((cond2_iff _ _).2 h)) (out0_B_5_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (tbl m 0) h ((cond2_iff _ _).2 h)))

/-- A block of the greatest absolute outputs at an index. -/
theorem blkA_apply (w : IVec S1x256 1) (st : Fin 6 → St Ideal) (h : Fin 6) (k : Fin 256) :
    blkA w st (ix4 0 0 h k) = outA (outO w (st h)) (ix2 0 k) := rfl

/-- Every score is a real number. -/
def RealScores (c : Dev nD) : Prop :=
  ∀ b h p k, Online.score (scl (F := Ideal)) (argQ m c) (argK m c) b h p k ≠ ⊤ ∧ Online.score (scl (F := Ideal)) (argQ m c) (argK m c) b h p k ≠ ⊥

/-- The three results, at an index. -/
def gO (c : Dev nD) (i : S2x48x128x12288.Idx) : EReal :=
  Online.resO (scl (F := Ideal)) (argQ m c) (argK m c) (argV m c) (argL m c) ⟨(i 0).val, (i 0).isLt⟩ ⟨(i 1).val, (i 1).isLt⟩ ⟨(i 2).val, (i 2).isLt⟩ ⟨(i 3).val, (i 3).isLt⟩
/-- What the array of score maxima holds. -/
def gR (c : Dev nD) (i : S2x8x6x12288.Idx) : EReal :=
  Online.resR (scl (F := Ideal)) (argQ m c) (argK m c) (argL m c) ⟨(i 0).val, (i 0).isLt⟩ ⟨(i 1).val, (i 1).isLt⟩ ⟨(i 2).val, (i 2).isLt⟩ ⟨(i 3).val, (i 3).isLt⟩
/-- What the array of output maxima holds. -/
def gA (c : Dev nD) (i : S2x8x6x12288.Idx) : EReal :=
  Online.resA (scl (F := Ideal)) (argQ m c) (argK m c) (argV m c) (argL m c) ⟨(i 0).val, (i 0).isLt⟩ ⟨(i 1).val, (i 1).isLt⟩ ⟨(i 2).val, (i 2).isLt⟩ ⟨(i 3).val, (i 3).isLt⟩

section

variable (hO : Ok m) (c : Dev nD) (t : Fin (cfgM m hO).N) (hs : RealScores m c)

include hs

/-- One head's output at a point that is computed. -/
theorem point_out (h : Fin 6) (d : Fin 128) (k : Fin 256) :
    outO (k0_pay1 (F := Ideal) (grid0.coords t) (argL m c (pb (grid0.coords t)))) (endH (iblk m hO c 0 t) (iblk m hO c 1 t) (iblk m hO c 2 t) (grid0.coords t 2).val h) (ix2 d k)
      = Online.resO (scl (F := Ideal)) (argQ m c) (argK m c) (argV m c) (argL m c) (pb (grid0.coords t)) (Online.hd (pg (grid0.coords t)) h) d (pp (grid0.coords t) k) := by
  have e := sc_eq m hO c t h k
  unfold endH
  rw [head_out scl _ (iblk m hO c 1 t) (iblk m hO c 2 t) k (fun j => by rw [e]; exact (hs _ _ _ j).1) (fun j => by rw [e]; exact (hs _ _ _ j).2)
    (grid0.coords t 2).val (grid0.coords t 2).isLt _ d, e, vl_eq m hO c t h d]
  exact if_congr (mask_iff _ _ k) rfl rfl

/-- One head's greatest absolute score at a point that is computed. -/
theorem point_abs (h : Fin 6) (k : Fin 256) :
    outR (k0_pay1 (F := Ideal) (grid0.coords t) (argL m c (pb (grid0.coords t)))) (endH (iblk m hO c 0 t) (iblk m hO c 1 t) (iblk m hO c 2 t) (grid0.coords t 2).val h) (ix2 0 k)
      = Online.resR (scl (F := Ideal)) (argQ m c) (argK m c) (argL m c) (pb (grid0.coords t)) (pg (grid0.coords t)) h (pp (grid0.coords t) k) := by
  have e := sc_eq m hO c t h k
  unfold endH
  rw [head_abs scl _ (iblk m hO c 1 t) (iblk m hO c 2 t) k (fun j => by rw [e]; exact (hs _ _ _ j).1)
    (grid0.coords t 2).val (grid0.coords t 2).isLt _, e]
  exact if_congr (mask_iff _ _ k) rfl rfl

/-- One head's greatest absolute output at a point that is computed. -/
theorem point_max (h : Fin 6) (k : Fin 256) :
    outA (outO (k0_pay1 (F := Ideal) (grid0.coords t) (argL m c (pb (grid0.coords t)))) (endH (iblk m hO c 0 t) (iblk m hO c 1 t) (iblk m hO c 2 t) (grid0.coords t 2).val h)) (ix2 0 k)
      = Online.resA (scl (F := Ideal)) (argQ m c) (argK m c) (argV m c) (argL m c) (pb (grid0.coords t)) (pg (grid0.coords t)) h (pp (grid0.coords t) k) := by
  rw [outA_apply]
  unfold Online.resA
  have e : (fun d : Fin 128 => max (outO (k0_pay1 (F := Ideal) (grid0.coords t) (argL m c (pb (grid0.coords t)))) (endH (iblk m hO c 0 t) (iblk m hO c 1 t) (iblk m hO c 2 t) (grid0.coords t 2).val h) (ix2 d k)) (-(outO (k0_pay1 (F := Ideal) (grid0.coords t) (argL m c (pb (grid0.coords t)))) (endH (iblk m hO c 0 t) (iblk m hO c 1 t) (iblk m hO c 2 t) (grid0.coords t 2).val h) (ix2 d k))))
      = fun d : Fin 128 => max (Online.resO (scl (F := Ideal)) (argQ m c) (argK m c) (argV m c) (argL m c) (pb (grid0.coords t)) (Online.hd (pg (grid0.coords t)) h) d (pp (grid0.coords t) k)) (-(Online.resO (scl (F := Ideal)) (argQ m c) (argK m c) (argV m c) (argL m c) (pb (grid0.coords t)) (Online.hd (pg (grid0.coords t)) h) d (pp (grid0.coords t) k))) :=
    funext fun d => congrArg (fun x : EReal => max x (-x)) (point_out m hO c t hs h d k)
  exact congrArg (fun f => Finset.fold max (⊥ : EReal) f Finset.univ) e

omit hs in
/-- A point that is not computed lies past the sequence's length. -/
theorem dead (h : ¬ k0_cond1 (grid0.coords t) (argL m c (pb (grid0.coords t))) = 1#1) (k : Fin 256) :
    ¬ Online.live (argL m c) (pb (grid0.coords t)) (pp (grid0.coords t) k) := by
  rw [cond1_iff] at h
  unfold Online.live
  rw [pp_val]
  have := Int.not_lt.1 h
  push_cast at this ⊢
  omega

/-- An element of a step's output block. -/
theorem outs_O (h : Fin 6) (d : Fin 128) (k : Fin 256) :
    (outsAt0 m hO c t).1 (ix4 0 h d k)
      = Online.resO (scl (F := Ideal)) (argQ m c) (argK m c) (argV m c) (argL m c) (pb (grid0.coords t)) (Online.hd (pg (grid0.coords t)) h) d (pp (grid0.coords t) k) := by
  have el := len_word m c (grid0.coords t)
  by_cases hc : k0_cond1 (grid0.coords t) (tbW0 c (tbl m 0) (grid0.coords t)) = 1#1
  · rw [outsAt0_A m hO c t hc]
    have el' : kernelRun0_A.sl.r c (grid0.coords t) (tbl m 0) = argL m c (pb (grid0.coords t)) := (sl_r_eq c _ _).trans el
    rw [el']
    exact point_out m hO c t hs h d k
  · rw [outsAt0_B m hO c t hc]
    rw [Online.resO_dead _ _ _ _ _ (dead m hO c t (by rw [← el]; exact hc) k)]
    exact Ideal.ofBits_zero_f32

/-- An element of a step's block of score maxima. -/
theorem outs_R (h : Fin 6) (k : Fin 256) :
    (outsAt0 m hO c t).2.1 (ix4 0 0 h k)
      = Online.resR (scl (F := Ideal)) (argQ m c) (argK m c) (argL m c) (pb (grid0.coords t)) (pg (grid0.coords t)) h (pp (grid0.coords t) k) := by
  have el := len_word m c (grid0.coords t)
  by_cases hc : k0_cond1 (grid0.coords t) (tbW0 c (tbl m 0) (grid0.coords t)) = 1#1
  · rw [outsAt0_A m hO c t hc]
    have el' : kernelRun0_A.sl.r c (grid0.coords t) (tbl m 0) = argL m c (pb (grid0.coords t)) := (sl_r_eq c _ _).trans el
    rw [el']
    exact point_abs m hO c t hs h k
  · rw [outsAt0_B m hO c t hc]
    rw [Online.resR_dead _ _ _ _ (dead m hO c t (by rw [← el]; exact hc) k)]
    exact Ideal.ofBits_zero_f32

/-- An element of a step's block of output maxima. -/
theorem outs_A (h : Fin 6) (k : Fin 256) :
    (outsAt0 m hO c t).2.2 (ix4 0 0 h k)
      = Online.resA (scl (F := Ideal)) (argQ m c) (argK m c) (argV m c) (argL m c) (pb (grid0.coords t)) (pg (grid0.coords t)) h (pp (grid0.coords t) k) := by
  have el := len_word m c (grid0.coords t)
  by_cases hc : k0_cond1 (grid0.coords t) (tbW0 c (tbl m 0) (grid0.coords t)) = 1#1
  · have el' : kernelRun0_A.sl.r c (grid0.coords t) (tbl m 0) = argL m c (pb (grid0.coords t)) := (sl_r_eq c _ _).trans el
    have e1 := congrArg (fun p => p.2.2) (outsAt0_A m hO c t hc)
    rw [el'] at e1
    have e2 := congrFun e1 (ix4 0 0 h k)
    dsimp only at e2
    have e3 := blkA_apply (k0_pay1 (F := Ideal) (grid0.coords t) (argL m c (pb (grid0.coords t)))) (endH (iblk m hO c 0 t) (iblk m hO c 1 t) (iblk m hO c 2 t) (grid0.coords t 2).val) h k
    have e4 := point_max m hO c t hs h k
    have e5 := e2.trans e3
    exact e5.trans e4
  · rw [outsAt0_B m hO c t hc]
    rw [Online.resA_dead _ _ _ _ _ (dead m hO c t (by rw [← el]; exact hc) k)]
    exact Ideal.ofBits_zero_f32

end

/-! ## The arrays -/

/-- A table of zero lengths. -/
def a0 : (pcfg0 (F := Ideal)).Adm := ⟨fun | ⟨0, _⟩ => fun _ => (0#32 : BitVec 32), trivial⟩

/-- At zero lengths, the output blocks cover their array. -/
theorem covers3_0 : ((cfg0 a0).win 3).Covers := by decide +kernel
/-- At any lengths, the output blocks cover their array. -/
theorem covers3 (a : (pcfg0 (F := Ideal)).Adm) : ((cfg0 a).win 3).Covers := covers3_0

/-- gO at an index given by its coordinates' values. -/
theorem gO_at (c : Dev nD) (i : S2x48x128x12288.Idx) (b : Fin 2) (x1 : Fin 48) (x2 : Fin 128) (p : Fin 12288) (e0 : (i 0).val = b.val) (e1 : (i 1).val = x1.val) (e2 : (i 2).val = x2.val) (e3 : (i 3).val = p.val) :
    gO m c i = Online.resO (scl (F := Ideal)) (argQ m c) (argK m c) (argV m c) (argL m c) b x1 x2 p := by
  have f0 : (⟨(i 0).val, (i 0).isLt⟩ : Fin 2) = b := Fin.ext e0
  have f1 : (⟨(i 1).val, (i 1).isLt⟩ : Fin 48) = x1 := Fin.ext e1
  have f2 : (⟨(i 2).val, (i 2).isLt⟩ : Fin 128) = x2 := Fin.ext e2
  have f3 : (⟨(i 3).val, (i 3).isLt⟩ : Fin 12288) = p := Fin.ext e3
  subst f0 f1 f2 f3
  rfl

/-- gR at an index given by its coordinates' values. -/
theorem gR_at (c : Dev nD) (i : S2x8x6x12288.Idx) (b : Fin 2) (x1 : Fin 8) (x2 : Fin 6) (p : Fin 12288) (e0 : (i 0).val = b.val) (e1 : (i 1).val = x1.val) (e2 : (i 2).val = x2.val) (e3 : (i 3).val = p.val) :
    gR m c i = Online.resR (scl (F := Ideal)) (argQ m c) (argK m c) (argL m c) b x1 x2 p := by
  have f0 : (⟨(i 0).val, (i 0).isLt⟩ : Fin 2) = b := Fin.ext e0
  have f1 : (⟨(i 1).val, (i 1).isLt⟩ : Fin 8) = x1 := Fin.ext e1
  have f2 : (⟨(i 2).val, (i 2).isLt⟩ : Fin 6) = x2 := Fin.ext e2
  have f3 : (⟨(i 3).val, (i 3).isLt⟩ : Fin 12288) = p := Fin.ext e3
  subst f0 f1 f2 f3
  rfl

/-- gA at an index given by its coordinates' values. -/
theorem gA_at (c : Dev nD) (i : S2x8x6x12288.Idx) (b : Fin 2) (x1 : Fin 8) (x2 : Fin 6) (p : Fin 12288) (e0 : (i 0).val = b.val) (e1 : (i 1).val = x1.val) (e2 : (i 2).val = x2.val) (e3 : (i 3).val = p.val) :
    gA m c i = Online.resA (scl (F := Ideal)) (argQ m c) (argK m c) (argV m c) (argL m c) b x1 x2 p := by
  have f0 : (⟨(i 0).val, (i 0).isLt⟩ : Fin 2) = b := Fin.ext e0
  have f1 : (⟨(i 1).val, (i 1).isLt⟩ : Fin 8) = x1 := Fin.ext e1
  have f2 : (⟨(i 2).val, (i 2).isLt⟩ : Fin 6) = x2 := Fin.ext e2
  have f3 : (⟨(i 3).val, (i 3).isLt⟩ : Fin 12288) = p := Fin.ext e3
  subst f0 f1 f2 f3
  rfl

/-- What a point leaves, at any index of its block. -/
theorem outs_O' (hO : Ok m) (c : Dev nD) (t : Fin (cfgM m hO).N) (hs : RealScores m c) (y : S1x6x128x256.Idx) :
    (outsAt0 m hO c t).1 y = Online.resO (scl (F := Ideal)) (argQ m c) (argK m c) (argV m c) (argL m c) (pb (grid0.coords t)) (Online.hd (pg (grid0.coords t)) (⟨(y 1).val, (y 1).isLt⟩ : Fin 6)) (⟨(y 2).val, (y 2).isLt⟩ : Fin 128) (pp (grid0.coords t) (⟨(y 3).val, (y 3).isLt⟩ : Fin 256)) := by
  have h0 : (y 0).val = 0 := Nat.lt_one_iff.1 (y 0).isLt
  have ey : y = ix4 (0 : Fin 1) (⟨(y 1).val, (y 1).isLt⟩ : Fin 6) (⟨(y 2).val, (y 2).isLt⟩ : Fin 128) (⟨(y 3).val, (y 3).isLt⟩ : Fin 256) := by
    funext a
    match a with
    | ⟨0, _⟩ => exact Fin.ext h0
    | ⟨1, _⟩ => rfl
    | ⟨2, _⟩ => rfl
    | ⟨3, _⟩ => rfl
  exact (congrArg (outsAt0 m hO c t).1 ey).trans (outs_O m hO c t hs (⟨(y 1).val, (y 1).isLt⟩ : Fin 6) (⟨(y 2).val, (y 2).isLt⟩ : Fin 128) (⟨(y 3).val, (y 3).isLt⟩ : Fin 256))

/-- What a point leaves, at any index of its block. -/
theorem outs_R' (hO : Ok m) (c : Dev nD) (t : Fin (cfgM m hO).N) (hs : RealScores m c) (y : S1x1x6x256.Idx) :
    (outsAt0 m hO c t).2.1 y = Online.resR (scl (F := Ideal)) (argQ m c) (argK m c) (argL m c) (pb (grid0.coords t)) (pg (grid0.coords t)) (⟨(y 2).val, (y 2).isLt⟩ : Fin 6) (pp (grid0.coords t) (⟨(y 3).val, (y 3).isLt⟩ : Fin 256)) := by
  have h0 : (y 0).val = 0 := Nat.lt_one_iff.1 (y 0).isLt
  have h1 : (y 1).val = 0 := Nat.lt_one_iff.1 (y 1).isLt
  have ey : y = ix4 (0 : Fin 1) (0 : Fin 1) (⟨(y 2).val, (y 2).isLt⟩ : Fin 6) (⟨(y 3).val, (y 3).isLt⟩ : Fin 256) := by
    funext a
    match a with
    | ⟨0, _⟩ => exact Fin.ext h0
    | ⟨1, _⟩ => exact Fin.ext h1
    | ⟨2, _⟩ => rfl
    | ⟨3, _⟩ => rfl
  exact (congrArg (outsAt0 m hO c t).2.1 ey).trans (outs_R m hO c t hs (⟨(y 2).val, (y 2).isLt⟩ : Fin 6) (⟨(y 3).val, (y 3).isLt⟩ : Fin 256))

/-- What a point leaves, at any index of its block. -/
theorem outs_A' (hO : Ok m) (c : Dev nD) (t : Fin (cfgM m hO).N) (hs : RealScores m c) (y : S1x1x6x256.Idx) :
    (outsAt0 m hO c t).2.2 y = Online.resA (scl (F := Ideal)) (argQ m c) (argK m c) (argV m c) (argL m c) (pb (grid0.coords t)) (pg (grid0.coords t)) (⟨(y 2).val, (y 2).isLt⟩ : Fin 6) (pp (grid0.coords t) (⟨(y 3).val, (y 3).isLt⟩ : Fin 256)) := by
  have h0 : (y 0).val = 0 := Nat.lt_one_iff.1 (y 0).isLt
  have h1 : (y 1).val = 0 := Nat.lt_one_iff.1 (y 1).isLt
  have ey : y = ix4 (0 : Fin 1) (0 : Fin 1) (⟨(y 2).val, (y 2).isLt⟩ : Fin 6) (⟨(y 3).val, (y 3).isLt⟩ : Fin 256) := by
    funext a
    match a with
    | ⟨0, _⟩ => exact Fin.ext h0
    | ⟨1, _⟩ => exact Fin.ext h1
    | ⟨2, _⟩ => rfl
    | ⟨3, _⟩ => rfl
  exact (congrArg (outsAt0 m hO c t).2.2 ey).trans (outs_A m hO c t hs (⟨(y 2).val, (y 2).isLt⟩ : Fin 6) (⟨(y 3).val, (y 3).isLt⟩ : Fin 256))

/-- At zero lengths, the blocks of score maxima cover their array. -/
theorem covers4_0 : ((cfg0 a0).win 4).Covers := by decide +kernel
/-- At any lengths, the blocks of score maxima cover their array. -/
theorem covers4 (a : (pcfg0 (F := Ideal)).Adm) : ((cfg0 a).win 4).Covers := covers4_0
/-- At zero lengths, the blocks of output maxima cover their array. -/
theorem covers5_0 : ((cfg0 a0).win 5).Covers := by decide +kernel
/-- At any lengths, the blocks of output maxima cover their array. -/
theorem covers5 (a : (pcfg0 (F := Ideal)).Adm) : ((cfg0 a).win 5).Covers := covers5_0

/-- The output after the run. -/
theorem fin_O (hO : Ok m) (c : Dev nD) (hs : RealScores m c) : (dats m hO 0 c).arrAt 3 (cfgM m hO).N = gO m c := by
  refine (dats m hO 0 c).arrAt_eq_of_covers 3 _ (covers3 _) fun t hf y => ?_
  blk_simp
  rw [after0_3]
  have e := at3 t
  refine (outs_O' m hO c t hs y).trans (gO_at m c _ _ _ _ _ ?_ ?_ ?_ ?_).symm
  · blk_simp
    show cc0_transform_3 (grid0.coords t) 0 = _
    rw [e]
    rfl
  · blk_simp
    show cc0_transform_3 (grid0.coords t) 1 * 6 + _ = _
    rw [e]
    exact congrArg (· + _) (Nat.mul_comm _ _)
  · blk_simp
    show cc0_transform_3 (grid0.coords t) 2 * 128 + _ = _
    rw [e]
    exact (congrArg (· + _) (Nat.zero_mul _)).trans (Nat.zero_add _)
  · blk_simp
    show cc0_transform_3 (grid0.coords t) 3 * 256 + _ = _
    rw [e]
    exact congrArg (· + _) (Nat.mul_comm _ _)

/-- The greatest absolute scores after the run. -/
theorem fin_R (hO : Ok m) (c : Dev nD) (hs : RealScores m c) : (dats m hO 0 c).arrAt 4 (cfgM m hO).N = gR m c := by
  refine (dats m hO 0 c).arrAt_eq_of_covers 4 _ (covers4 _) fun t hf y => ?_
  blk_simp
  rw [after0_4]
  have e := at4 t
  refine (outs_R' m hO c t hs y).trans (gR_at m c _ _ _ _ _ ?_ ?_ ?_ ?_).symm
  · blk_simp
    show cc0_transform_4 (grid0.coords t) 0 = _
    rw [e]
    rfl
  · blk_simp
    show cc0_transform_4 (grid0.coords t) 1 = _
    rw [e]
    rfl
  · blk_simp
    show cc0_transform_4 (grid0.coords t) 2 * 6 + _ = _
    rw [e]
    exact (congrArg (· + _) (Nat.zero_mul _)).trans (Nat.zero_add _)
  · blk_simp
    show cc0_transform_4 (grid0.coords t) 3 * 256 + _ = _
    rw [e]
    exact congrArg (· + _) (Nat.mul_comm _ _)

/-- The greatest absolute outputs after the run. -/
theorem fin_A (hO : Ok m) (c : Dev nD) (hs : RealScores m c) : (dats m hO 0 c).arrAt 5 (cfgM m hO).N = gA m c := by
  refine (dats m hO 0 c).arrAt_eq_of_covers 5 _ (covers5 _) fun t hf y => ?_
  blk_simp
  rw [after0_5]
  have e := at5 t
  refine (outs_A' m hO c t hs y).trans (gA_at m c _ _ _ _ _ ?_ ?_ ?_ ?_).symm
  · blk_simp
    show cc0_transform_5 (grid0.coords t) 0 = _
    rw [e]
    rfl
  · blk_simp
    show cc0_transform_5 (grid0.coords t) 1 = _
    rw [e]
    rfl
  · blk_simp
    show cc0_transform_5 (grid0.coords t) 2 * 6 + _ = _
    rw [e]
    exact (congrArg (· + _) (Nat.zero_mul _)).trans (Nat.zero_add _)
  · blk_simp
    show cc0_transform_5 (grid0.coords t) 3 * 256 + _ = _
    rw [e]
    exact congrArg (· + _) (Nat.mul_comm _ _)

end Cert.KernelIdeal.Gen
-- ==== Proof.Finite.lean ====
module

public import proofs.«01_k».proof.Proof.Result
public import proofs.«01_k».proof.Defs
public import proofs.«01_k».proof.Proof.Gen.Pre_finite

@[expose] public section

set_option maxRecDepth 16384

noncomputable section

/-! # Finite queries and keys have real scores -/

namespace Cert.KernelIdeal.Gen

open Idealize.ShloMosaic Idealize.ShloMosaic.TcCoe

/-- A product of reals is real. -/
theorem real_mul {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

/-- A sum of reals is real. -/
theorem real_sum {ι : Type} (s : Finset ι) (f : ι → EReal) (hf : ∀ i, f i ≠ ⊤ ∧ f i ≠ ⊥) : ∑ i ∈ s, f i ≠ ⊤ ∧ ∑ i ∈ s, f i ≠ ⊥ := by
  classical
  induction s using Finset.induction_on with
  | empty => exact ⟨EReal.zero_ne_top, EReal.zero_ne_bot⟩
  | insert i s hi ih =>
    rw [Finset.sum_insert hi]
    exact ⟨EReal.add_ne_top (hf i).1 ih.1, EReal.add_ne_bot_iff.2 ⟨(hf i).2, ih.2⟩⟩

/-- The scale of the scores is real. -/
theorem scl_real : scl (F := Ideal) ≠ (⊤ : EReal) ∧ scl (F := Ideal) ≠ (⊥ : EReal) := by
  have e : ∃ r : ℝ, scl (F := Ideal) = (r : EReal) := by
    unfold scl
    simp [Scalar.ofBits, FloatOps.ofBits, Ideal.ofBits, Ideal.ieee]
    exact ⟨_, (EReal.coe_mul _ _).symm⟩
  obtain ⟨r, e⟩ := e
  rw [e]
  exact ⟨EReal.coe_ne_top _, EReal.coe_ne_bot _⟩

/-- An absolute value below the word of plus infinity is a real's. -/
theorem real_of_lt (a : EReal) (h : FloatOps.cmpf (F := Ideal) (φ := .bf16) .olt (max a (-a)) (FloatOps.ofBits (F := Ideal) .bf16 0x7F80#16) = 1#1) : a ≠ ⊤ ∧ a ≠ ⊥ := by
  have e : FloatOps.ofBits (F := Ideal) .bf16 0x7F80#16 = (⊤ : EReal) := by
    simp [FloatOps.ofBits, Ideal.ofBits, Ideal.ieee]
  rw [e] at h
  have h1 : max a (-a) < ⊤ := by
    by_contra hn
    have : FloatOps.cmpf (F := Ideal) (φ := .bf16) .olt (max a (-a)) (⊤ : EReal) = 0#1 := by
      simp [FloatOps.cmpf, Ideal.cmp, hn]
    rw [this] at h
    exact absurd h (by decide)
  constructor
  · rintro rfl; simp at h1
  · rintro rfl; simp at h1

variable (m : (ℓ : Loc nD τ sig) → Buf (Elt Ideal) ℓ)

/-- Under the precondition every score is real. -/
theorem realScores (hPre : Cert.Pre_KernelIdeal_finite (hPre_finite := Cert.Pre_finite.Gen.facts) m) (c : Dev nD) : RealScores m c := by
  intro b h p k
  have hq : ∀ d, argQ m c b h d p ≠ ⊤ ∧ argQ m c b h d p ≠ ⊥ := fun d =>
    real_of_lt _ (congrFun (hPre c).1 (ix4 b h d p))
  have hk : ∀ d, argK m c b (Online.grp h) (Online.ky k) d ≠ ⊤ ∧ argK m c b (Online.grp h) (Online.ky k) d ≠ ⊥ := fun d =>
    real_of_lt _ (congrFun (hPre c).2 (ix4 b (Online.grp h) (Online.ky k) d))
  exact real_mul (real_sum _ _ fun d => real_mul (hk d) (hq d)) scl_real

end Cert.KernelIdeal.Gen
-- ==== Proof.RefRead.lean ====
module

public import proofs.«01_k».proof.Proof.Online
public import proofs.«01_k».proof.Proof.Gen.ReferenceIdeal.Read
public import Idealize.ShloMosaic.Lib.Pointwise
public import Idealize.ShloMosaic.Lib.StableHlo.Predicate

@[expose] public section

set_option maxRecDepth 16384

noncomputable section

/-! # The reference's results, read at an index -/

namespace Cert.ReferenceIdeal.Read

open Cert.ReferenceIdeal Cert.ReferenceIdeal.Gen Idealize.ShloMosaic

/-- The index of key `k` and query `p` in the scores. -/
def e5 (b : Fin 2) (g : Fin 8) (h : Fin 6) (k p : Fin 12288) : S2x8x6x12288x12288.Idx := fun a => match a with
  | ⟨0, _⟩ => b
  | ⟨1, _⟩ => g
  | ⟨2, _⟩ => h
  | ⟨3, _⟩ => k
  | ⟨4, _⟩ => p

/-- The index of coordinate `d` and query `p` in the grouped output. -/
def o5 (b : Fin 2) (g : Fin 8) (h : Fin 6) (d : Fin 128) (p : Fin 12288) : S2x8x6x128x12288.Idx := fun a => match a with
  | ⟨0, _⟩ => b
  | ⟨1, _⟩ => g
  | ⟨2, _⟩ => h
  | ⟨3, _⟩ => d
  | ⟨4, _⟩ => p

/-- The index of query `p` in a row result. -/
def r4 (b : Fin 2) (g : Fin 8) (h : Fin 6) (p : Fin 12288) : S2x8x6x12288.Idx := fun a => match a with
  | ⟨0, _⟩ => b
  | ⟨1, _⟩ => g
  | ⟨2, _⟩ => h
  | ⟨3, _⟩ => p

/-- The word of minus infinity. -/
theorem bits_bot : FloatOps.ofBits (F := Ideal) .f32 0xFF800000#32 = (⊥ : EReal) := by simp [Ideal.ofBits, Ideal.ieee]

section

variable (x0 : (⟨S2x48x128x12288, .bf16⟩ : BufTy).Contents (Elt Ideal)) (x1 : (⟨S2x8x12288x128, .bf16⟩ : BufTy).Contents (Elt Ideal))
  (x2 : (⟨S2x8x128x12288, .bf16⟩ : BufTy).Contents (Elt Ideal)) (x3 : (⟨S2, .i32⟩ : BufTy).Contents (Elt Ideal))

/-- The scale of the scores. -/
def rcst : EReal := FloatOps.ofBits (F := Ideal) .f32 0x3DB504F3#32

/-- The arguments by their coordinates. -/
def xQ (b : Fin 2) (h : Fin 48) (d : Fin 128) (p : Fin 12288) : EReal := x0 (ix4 b h d p)
@[inherit_doc xQ]
def xK (b : Fin 2) (g : Fin 8) (k : Fin 12288) (d : Fin 128) : EReal := x1 (ix4 b g k d)
@[inherit_doc xQ]
def xV (b : Fin 2) (g : Fin 8) (d : Fin 128) (k : Fin 12288) : EReal := x2 (ix4 b g d k)
@[inherit_doc xQ]
def xL (b : Fin 2) : BitVec 32 := x3 (ix1 b)

variable (b : Fin 2) (g : Fin 8) (h : Fin 6) (k p : Fin 12288) (d : Fin 128)

/-- A key number below 12288 stands for that key. -/
theorem ky_val (k : Fin 12288) : Online.ky k.val = k := Fin.ext (Nat.mod_eq_of_lt k.isLt)

/-- The scores. -/
theorem v10_at : val_main_v10 (F := Ideal) x0 x1 (e5 b g h k p) = Online.score rcst (xQ x0) (xK x1) b (Online.hd g h) p k.val := by
  rw [val_main_v10_apply, val_main_v8_apply, val_main_v9_apply, val_main_cst_apply, val_main_v7_apply]
  unfold Online.score
  rw [Online.grp_hd, ky_val]
  refine congrArg (· * rcst) (Finset.sum_congr rfl fun d _ => ?_)
  rw [val_main_v0_apply, mul_comm]
  refine congrArg₂ (· * ·) (congrArg x1 (funext fun a => ?_)) (congrArg x0 (funext fun a => Fin.ext ?_))
  · match a with
    | ⟨0, _⟩ => rfl
    | ⟨1, _⟩ => rfl
    | ⟨2, _⟩ => rfl
    | ⟨3, _⟩ => rfl
  · have hb := b.isLt
    have hg := g.isLt
    have hh := h.isLt
    have hd := d.isLt
    have hp := p.isLt
    match a with
    | ⟨0, _⟩ => show ((((b.val * 8 + g.val) * 6 + h.val) * 128 + d.val) * 12288 + p.val) / 75497472 = b.val; omega
    | ⟨1, _⟩ => show ((((b.val * 8 + g.val) * 6 + h.val) * 128 + d.val) * 12288 + p.val) / 1572864 % 48 = 6 * g.val + h.val; omega
    | ⟨2, _⟩ => show ((((b.val * 8 + g.val) * 6 + h.val) * 128 + d.val) * 12288 + p.val) / 12288 % 128 = d.val; omega
    | ⟨3, _⟩ => show ((((b.val * 8 + g.val) * 6 + h.val) * 128 + d.val) * 12288 + p.val) % 12288 = p.val; omega

/-- A position counted by `v1` compared with a sequence's length. -/
theorem lt_len (n : ℕ) (hn : n < 12288) (w : BitVec 32) : IntOp.cmpi .slt (BitVec.ofNat 32 n) w = 1#1 ↔ (n : ℤ) < w.toInt := by
  rw [IntOp.cmpi_slt, StableHlo.Predicate.toInt_ofNat_small n (by omega)]

/-- Both conditions hold. -/
theorem andi_one (c d : BitVec 1) : IntOp.andi c d = 1#1 ↔ c = 1#1 ∧ d = 1#1 := by revert c d; decide

/-- The validity of a position. -/
theorem v6_at (i : S2x12288.Idx) (h0 : (i 0).val = b.val) (h1 : (i 1).val = p.val) :
    val_main_v6 (F := Ideal) x3 i = 1#1 ↔ Online.live (xL x3) b p := by
  rw [val_main_v6_apply, val_main_v4_apply, val_main_v2_apply, val_main_v1_apply, val_main_v5_apply, val_main_v3_apply]
  have e : idx_main_v3 (idx_main_v5 i) = ix1 b := funext fun a => match a with
    | ⟨0, _⟩ => Fin.ext h0
  rw [e]
  have e1 : (idx_main_v2 (idx_main_v4 i) 0).val = p.val := h1
  rw [e1]
  exact lt_len p.val p.isLt _

/-- The visibility of key `k` to query `p`. -/
theorem v21_at (i : S2x1x1x12288x12288.Idx) (h0 : (i 0).val = b.val) (h3 : (i 3).val = k.val) (h4 : (i 4).val = p.val) :
    val_main_v21 (F := Ideal) x3 i = 1#1 ↔ k.val ≤ p.val ∧ Online.live (xL x3) b k := by
  rw [val_main_v21_apply, val_main_v20_apply, val_main_v18_apply, val_main_v16_apply, val_main_v15_apply, val_main_v13_apply, val_main_v11_apply,
    val_main_v14_apply, val_main_v12_apply, val_main_v1_apply, val_main_v1_apply, val_main_v19_apply, val_main_v17_apply]
  rw [andi_one, v6_at x3 b k _ h0 h3]
  refine and_congr_left fun _ => ?_
  have hk := k.isLt
  have hp := p.isLt
  have e1 : (idx_main_v11 (idx_main_v13 (idx_main_v16 (idx_main_v18 (idx_main_v21 i)))) 0).val = k.val := h3
  have e2 : (idx_main_v12 (idx_main_v14 (idx_main_v16 (idx_main_v18 (idx_main_v21 i)))) 0).val = p.val := h4
  rw [e1, e2, IntOp.cmpi_sle, StableHlo.Predicate.toInt_ofNat_small _ (by omega), StableHlo.Predicate.toInt_ofNat_small _ (by omega)]
  exact Int.ofNat_le

/-- A select reads its condition. -/
theorem select_if (c : BitVec 1) (a b : EReal) : Scalar.select c a b = if c = 1#1 then a else b := rfl

/-- At a live query the keys seen are the keys up to it. -/
theorem seen (hp : Online.live (xL x3) b p) : (k.val ≤ p.val ∧ Online.live (xL x3) b k) ↔ k.val ≤ p.val := by
  unfold Online.live at *
  constructor
  · exact fun h => h.1
  · intro h
    exact ⟨h, by omega⟩

/-- The absolute scores a live query sees. -/
theorem v23_at (hp : Online.live (xL x3) b p) : val_main_v23 (F := Ideal) x0 x1 x3 (e5 b g h k p)
    = Online.um (Online.score rcst (xQ x0) (xK x1) b (Online.hd g h) p) p.val k.val := by
  rw [val_main_v23_apply, select_if, val_main_call0_v1_apply, val_main_v22_apply, v10_at, val_main_call0_v2_apply, val_main_call0_v0_apply, val_main_cst_0_apply]
  unfold Online.um
  exact if_congr ((v21_at x3 b k p _ rfl rfl rfl).trans (seen x3 b k p hp)) rfl Ideal.ofBits_zero_f32

/-- The scores a live query sees. -/
theorem v25_at (hp : Online.live (xL x3) b p) : val_main_v25 (F := Ideal) x0 x1 x3 (e5 b g h k p)
    = Online.tm (Online.score rcst (xQ x0) (xK x1) b (Online.hd g h) p) p.val k.val := by
  rw [val_main_v25_apply, select_if, val_main_call1_v1_apply, v10_at, val_main_call1_v2_apply, val_main_call1_v0_apply, val_main_cst_2_apply]
  unfold Online.tm
  exact if_congr ((v21_at x3 b k p _ rfl rfl rfl).trans (seen x3 b k p hp)) rfl bits_bot

/-- A greatest value over the keys. -/
theorem reduce_keys (y : S2x8x6x12288x12288.Idx → Ideal .f32) (z : S_.Idx → Ideal .f32) (hz : ∀ i, z i = (⊥ : EReal)) (f : ℕ → EReal) (hf : ∀ k : Fin 12288, y (e5 b g h k p) = f k.val) :
    Host.reduce (FloatOps.maximumf (F := Ideal) (φ := .f32)) y z reducesTo_S2x8x6x12288x12288_S2x8x6x12288_d3 h_S_ (r4 b g h p) = (Finset.range 12288).sup f := by
  refine (Host.reduce_eq_fold_single (FloatOps.maximumf (F := Ideal) (φ := .f32)) y z reducesTo_S2x8x6x12288x12288_S2x8x6x12288_d3 (by decide) h_S_ (r4 b g h p)).trans ?_
  rw [hz, ← Online.fold_max_eq]
  refine congrArg (fun f => Finset.fold max (⊥ : EReal) f Finset.univ) (funext fun k => ?_)
  refine Eq.trans ?_ (hf _)
  exact congrArg y (funext fun a => Fin.ext (by match a with | ⟨0, _⟩ => rfl | ⟨1, _⟩ => rfl | ⟨2, _⟩ => rfl | ⟨3, _⟩ => rfl | ⟨4, _⟩ => rfl))

/-- A greatest value over the coordinates of an output. -/
theorem reduce_dims (y : S2x8x6x128x12288.Idx → Ideal .f32) (z : S_.Idx → Ideal .f32) (hz : ∀ i, z i = (⊥ : EReal)) (f : Fin 128 → EReal) (hf : ∀ d : Fin 128, y (o5 b g h d p) = f d) :
    Host.reduce (FloatOps.maximumf (F := Ideal) (φ := .f32)) y z reducesTo_S2x8x6x128x12288_S2x8x6x12288_d3 h_S_ (r4 b g h p) = Finset.univ.fold max ⊥ f := by
  refine (Host.reduce_eq_fold_single (FloatOps.maximumf (F := Ideal) (φ := .f32)) y z reducesTo_S2x8x6x128x12288_S2x8x6x12288_d3 (by decide) h_S_ (r4 b g h p)).trans ?_
  rw [hz]
  refine congrArg (fun f => Finset.fold max (⊥ : EReal) f Finset.univ) (funext fun d => ?_)
  refine Eq.trans ?_ (hf _)
  exact congrArg y (funext fun a => Fin.ext (by match a with | ⟨0, _⟩ => rfl | ⟨1, _⟩ => rfl | ⟨2, _⟩ => rfl | ⟨3, _⟩ => rfl | ⟨4, _⟩ => rfl))

/-- The greatest absolute score of a live query. -/
theorem v24_at (hp : Online.live (xL x3) b p) : val_main_v24 (F := Ideal) x0 x1 x3 (r4 b g h p)
    = Online.attnR (Online.score rcst (xQ x0) (xK x1) b (Online.hd g h) p) p.val :=
  reduce_keys b g h p _ _ (fun _ => bits_bot) _ fun k => v23_at x0 x1 x3 b g h k p hp

/-- The greatest score of a live query. -/
theorem v26_at (hp : Online.live (xL x3) b p) : val_main_v26 (F := Ideal) x0 x1 x3 (r4 b g h p)
    = Online.top (Online.tm (Online.score rcst (xQ x0) (xK x1) b (Online.hd g h) p) p.val) 12288 :=
  reduce_keys b g h p _ _ (fun _ => bits_bot) _ fun k => v25_at x0 x1 x3 b g h k p hp

/-- The exponentials of a live query. -/
theorem v31_at (hp : Online.live (xL x3) b p) : val_main_v31 (F := Ideal) x0 x1 x3 (e5 b g h k p)
    = Ideal.exp (Online.tm (Online.score rcst (xQ x0) (xK x1) b (Online.hd g h) p) p.val k.val
        - Online.top (Online.tm (Online.score rcst (xQ x0) (xK x1) b (Online.hd g h) p) p.val) 12288) := by
  have e : idx_main_v27 (idx_main_v28 (e5 b g h k p)) = r4 b g h p := funext fun a => match a with
    | ⟨0, _⟩ => rfl
    | ⟨1, _⟩ => rfl
    | ⟨2, _⟩ => rfl
    | ⟨3, _⟩ => rfl
  rw [val_main_v31_apply, select_if, val_main_call2_v1_apply, val_main_v30_apply, val_main_v29_apply, val_main_v28_apply, val_main_v27_apply, e,
    v26_at x0 x1 x3 b g h p hp, v10_at, val_main_call2_v2_apply, val_main_call2_v0_apply, val_main_cst_4_apply]
  refine (if_congr ((v21_at x3 b k p _ rfl rfl rfl).trans (seen x3 b k p hp)) rfl Ideal.ofBits_zero_f32).trans ?_
  by_cases hk : k.val ≤ p.val
  · rw [if_pos hk]
    have e1 : Online.tm (Online.score rcst (xQ x0) (xK x1) b (Online.hd g h) p) p.val k.val = Online.score rcst (xQ x0) (xK x1) b (Online.hd g h) p k.val := if_pos hk
    exact congrArg (fun s => Ideal.exp (s - Online.top (Online.tm (Online.score rcst (xQ x0) (xK x1) b (Online.hd g h) p) p.val) 12288)) e1.symm
  · rw [if_neg hk]
    have e1 : Online.tm (Online.score rcst (xQ x0) (xK x1) b (Online.hd g h) p) p.val k.val = ⊥ := if_neg hk
    rw [e1, Online.exp_bot_sub]

/-- The sum of a live query's exponentials. -/
theorem v32_at (hp : Online.live (xL x3) b p) : val_main_v32 (F := Ideal) x0 x1 x3 (r4 b g h p)
    = Online.den (Online.tm (Online.score rcst (xQ x0) (xK x1) b (Online.hd g h) p) p.val) 12288 := by
  rw [val_main_v32_apply, val_main_cst_5_apply]
  unfold Online.den
  rw [← Fin.sum_univ_eq_sum_range (fun k => Ideal.exp (Online.tm (Online.score rcst (xQ x0) (xK x1) b (Online.hd g h) p) p.val k
        - Online.top (Online.tm (Online.score rcst (xQ x0) (xK x1) b (Online.hd g h) p) p.val) 12288))]
  refine (congrArg₂ (· + ·) Ideal.ofBits_zero_f32 (Finset.sum_congr rfl fun k _ => ?_)).trans (zero_add _)
  rw [← v31_at x0 x1 x3 b g h k p hp]
  exact congrArg (val_main_v31 (F := Ideal) x0 x1 x3) (funext fun a => match a with
    | ⟨0, _⟩ => rfl
    | ⟨1, _⟩ => rfl
    | ⟨2, _⟩ => rfl
    | ⟨3, _⟩ => rfl
    | ⟨4, _⟩ => rfl)

/-- The weights of a live query. -/
theorem v36_at (hp : Online.live (xL x3) b p) : val_main_v36 (F := Ideal) x0 x1 x3 (e5 b g h k p)
    = Ideal.div (Ideal.exp (Online.tm (Online.score rcst (xQ x0) (xK x1) b (Online.hd g h) p) p.val k.val
        - Online.top (Online.tm (Online.score rcst (xQ x0) (xK x1) b (Online.hd g h) p) p.val) 12288))
        (Online.den (Online.tm (Online.score rcst (xQ x0) (xK x1) b (Online.hd g h) p) p.val) 12288) := by
  have e : idx_main_v33 (idx_main_v34 (e5 b g h k p)) = r4 b g h p := funext fun a => match a with
    | ⟨0, _⟩ => rfl
    | ⟨1, _⟩ => rfl
    | ⟨2, _⟩ => rfl
    | ⟨3, _⟩ => rfl
  rw [val_main_v36_apply, val_main_v35_apply, val_main_v34_apply, val_main_v33_apply, e, v32_at x0 x1 x3 b g h p hp, v31_at x0 x1 x3 b g h k p hp]
  rfl

/-- The output of a live query. -/
theorem v38_at (hp : Online.live (xL x3) b p) : val_main_v38 (F := Ideal) x0 x1 x2 x3 (o5 b g h d p)
    = Online.attnO (Online.score rcst (xQ x0) (xK x1) b (Online.hd g h) p) (fun k => xV x2 b (Online.grp (Online.hd g h)) d (Online.ky k)) p.val := by
  rw [val_main_v38_apply, val_main_v37_apply]
  unfold Online.attnO
  rw [← Fin.sum_univ_eq_sum_range (fun k => xV x2 b (Online.grp (Online.hd g h)) d (Online.ky k) * Ideal.div (Ideal.exp (Online.tm (Online.score rcst (xQ x0) (xK x1) b (Online.hd g h) p) p.val k
        - Online.top (Online.tm (Online.score rcst (xQ x0) (xK x1) b (Online.hd g h) p) p.val) 12288))
        (Online.den (Online.tm (Online.score rcst (xQ x0) (xK x1) b (Online.hd g h) p) p.val) 12288))]
  refine Finset.sum_congr rfl fun k _ => ?_
  rw [← v36_at x0 x1 x3 b g h k p hp, mul_comm, Online.grp_hd, ky_val]
  refine congrArg₂ (· * ·) (congrArg x2 (funext fun a => ?_)) (congrArg (val_main_v36 (F := Ideal) x0 x1 x3) (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl
    | ⟨4, _⟩ => rfl

/-- The grouped output. -/
theorem v40_at : val_main_v40 (F := Ideal) x0 x1 x2 x3 (o5 b g h d p)
    = Online.resO rcst (xQ x0) (xK x1) (xV x2) (xL x3) b (Online.hd g h) d p := by
  rw [val_main_v40_apply, select_if, val_main_call3_v1_apply, val_main_v39_apply, val_main_call3_v2_apply, val_main_call3_v0_apply, val_main_cst_6_apply]
  have e := v6_at x3 b p (idx_main_v39 (idx_main_call3_v1 (o5 b g h d p))) rfl rfl
  by_cases hp : Online.live (xL x3) b p
  · rw [if_pos (e.2 hp), v38_at x0 x1 x2 x3 b g h p d hp]
    exact (if_pos hp).symm
  · rw [if_neg fun he => hp (e.1 he), Online.resO_dead _ _ _ _ _ hp]
    exact Ideal.ofBits_zero_f32

/-- The output. -/
theorem v61_at (H : Fin 48) : val_main_v61 (F := Ideal) x0 x1 x2 x3 (ix4 b H d p)
    = Online.resO rcst (xQ x0) (xK x1) (xV x2) (xL x3) b H d p := by
  have hb := b.isLt
  have hH := H.isLt
  have hd := d.isLt
  have hp := p.isLt
  have e : idx_main_v61 (ix4 b H d p) = o5 b ⟨H.val / 6, by omega⟩ ⟨H.val % 6, by omega⟩ d p := funext fun a => Fin.ext (by
    match a with
    | ⟨0, _⟩ => show (((b.val * 48 + H.val) * 128 + d.val) * 12288 + p.val) / 75497472 = b.val; omega
    | ⟨1, _⟩ => show (((b.val * 48 + H.val) * 128 + d.val) * 12288 + p.val) / 9437184 % 8 = H.val / 6; omega
    | ⟨2, _⟩ => show (((b.val * 48 + H.val) * 128 + d.val) * 12288 + p.val) / 1572864 % 6 = H.val % 6; omega
    | ⟨3, _⟩ => show (((b.val * 48 + H.val) * 128 + d.val) * 12288 + p.val) / 12288 % 128 = d.val; omega
    | ⟨4, _⟩ => show (((b.val * 48 + H.val) * 128 + d.val) * 12288 + p.val) % 12288 = p.val; omega)
  have eH : Online.hd ⟨H.val / 6, by omega⟩ ⟨H.val % 6, by omega⟩ = H := Fin.ext (show 6 * (H.val / 6) + H.val % 6 = H.val by omega)
  rw [val_main_v61_apply, e, v40_at, eH]

/-- The greatest absolute scores. -/
theorem v42_at : val_main_v42 (F := Ideal) x0 x1 x3 (r4 b g h p)
    = Online.resR rcst (xQ x0) (xK x1) (xL x3) b g h p := by
  rw [val_main_v42_apply, select_if, val_main_call4_v1_apply, val_main_v41_apply, val_main_call4_v2_apply, val_main_call4_v0_apply, val_main_cst_7_apply]
  have e := v6_at x3 b p (idx_main_v41 (idx_main_call4_v1 (r4 b g h p))) rfl rfl
  by_cases hp : Online.live (xL x3) b p
  · rw [if_pos (e.2 hp), v24_at x0 x1 x3 b g h p hp]
    exact (if_pos hp).symm
  · rw [if_neg fun he => hp (e.1 he), Online.resR_dead _ _ _ _ hp]
    exact Ideal.ofBits_zero_f32

/-- The greatest absolute outputs. -/
theorem v44_at : val_main_v44 (F := Ideal) x0 x1 x2 x3 (r4 b g h p)
    = Online.resA rcst (xQ x0) (xK x1) (xV x2) (xL x3) b g h p :=
  reduce_dims b g h p _ _ (fun _ => bits_bot) _ fun d => by
    rw [val_main_v43_apply, v40_at]
    rfl

/-- The three results at any index. -/
theorem v61_idx (i : S2x48x128x12288.Idx) : val_main_v61 (F := Ideal) x0 x1 x2 x3 i
    = Online.resO rcst (xQ x0) (xK x1) (xV x2) (xL x3) ⟨(i 0).val, (i 0).isLt⟩ ⟨(i 1).val, (i 1).isLt⟩ ⟨(i 2).val, (i 2).isLt⟩ ⟨(i 3).val, (i 3).isLt⟩ := by
  have e : i = ix4 (⟨(i 0).val, (i 0).isLt⟩ : Fin 2) (⟨(i 1).val, (i 1).isLt⟩ : Fin 48) (⟨(i 2).val, (i 2).isLt⟩ : Fin 128) (⟨(i 3).val, (i 3).isLt⟩ : Fin 12288) :=
    funext fun a => match a with
    | ⟨0, _⟩ => rfl
    | ⟨1, _⟩ => rfl
    | ⟨2, _⟩ => rfl
    | ⟨3, _⟩ => rfl
  exact (congrArg (val_main_v61 (F := Ideal) x0 x1 x2 x3) e).trans (v61_at x0 x1 x2 x3 _ _ _ _)

/-- An index of a row result by its coordinates. -/
theorem r4_self (i : S2x8x6x12288.Idx) : i = r4 ⟨(i 0).val, (i 0).isLt⟩ ⟨(i 1).val, (i 1).isLt⟩ ⟨(i 2).val, (i 2).isLt⟩ ⟨(i 3).val, (i 3).isLt⟩ :=
  funext fun a => match a with
    | ⟨0, _⟩ => rfl
    | ⟨1, _⟩ => rfl
    | ⟨2, _⟩ => rfl
    | ⟨3, _⟩ => rfl

@[inherit_doc v61_idx]
theorem v42_idx (i : S2x8x6x12288.Idx) : val_main_v42 (F := Ideal) x0 x1 x3 i
    = Online.resR rcst (xQ x0) (xK x1) (xL x3) ⟨(i 0).val, (i 0).isLt⟩ ⟨(i 1).val, (i 1).isLt⟩ ⟨(i 2).val, (i 2).isLt⟩ ⟨(i 3).val, (i 3).isLt⟩ :=
  (congrArg (val_main_v42 (F := Ideal) x0 x1 x3) (r4_self i)).trans (v42_at x0 x1 x3 _ _ _ _)

@[inherit_doc v61_idx]
theorem v44_idx (i : S2x8x6x12288.Idx) : val_main_v44 (F := Ideal) x0 x1 x2 x3 i
    = Online.resA rcst (xQ x0) (xK x1) (xV x2) (xL x3) ⟨(i 0).val, (i 0).isLt⟩ ⟨(i 1).val, (i 1).isLt⟩ ⟨(i 2).val, (i 2).isLt⟩ ⟨(i 3).val, (i 3).isLt⟩ :=
  (congrArg (val_main_v44 (F := Ideal) x0 x1 x2 x3) (r4_self i)).trans (v44_at x0 x1 x2 x3 _ _ _ _)

end

end Cert.ReferenceIdeal.Read
-- ==== Proof.Heads.lean ====
module

public import proofs.«01_k».proof.Proof.Gen.KernelIdeal
public import proofs.«01_k».proof.Proof.RefRead

@[expose] public section

set_option maxRecDepth 16384

noncomputable section

/-! # The maxima and scales of the heads -/

namespace Cert.ReferenceIdeal.Read

open Cert.ReferenceIdeal Cert.ReferenceIdeal.Gen Idealize.ShloMosaic

/-- The greatest value of every head: over the array with its heads flattened, it is the one over the grouped array, flattened
    after. -/
theorem heads_max (y : S2x8x6x12288.Idx → Ideal .f32) (z : S_.Idx → Ideal .f32) (hK : S2x48x12288.ReducesTo [0, 2] S48) :
    Host.reduce (FloatOps.maximumf (F := Ideal) (φ := .f32)) (shapeCast S2x48x12288 y shapeCasts_S2x8x6x12288_S2x48x12288) z hK h_S_
      = shapeCast S48 (Host.reduce (FloatOps.maximumf (F := Ideal) (φ := .f32)) y z reducesTo_S2x8x6x12288_S8x6_d0_3 h_S_) shapeCasts_S8x6_S48 := by
  classical
  funext j
  have hj : (j 0).val < 48 := (j 0).isLt
  have hy : ∀ i, shapeCast S2x48x12288 y shapeCasts_S2x8x6x12288_S2x48x12288 i = y (idx_main_v59 i) := fun i =>
    shapeCast_apply y shapeCasts_S2x8x6x12288_S2x48x12288 i (idx_main_v59 i)
      (by
        rewrite [Shape.rowMajor_val_four, Shape.rowMajor_val_three]
        have h0 : (i 0).val < 2 := (i 0).isLt
        have h1 : (i 1).val < 48 := (i 1).isLt
        have h2 : (i 2).val < 12288 := (i 2).isLt
        show (((((i 0).val * 48 + (i 1).val) * 12288 + (i 2).val) / 589824 * 8 + (((i 0).val * 48 + (i 1).val) * 12288 + (i 2).val) / 73728 % 8) * 6 + (((i 0).val * 48 + (i 1).val) * 12288 + (i 2).val) / 12288 % 6) * 12288 + (((i 0).val * 48 + (i 1).val) * 12288 + (i 2).val) % 12288 = ((i 0).val * 48 + (i 1).val) * 12288 + (i 2).val
        omega)
  refine Eq.trans ?_ (shapeCast_apply (Host.reduce (FloatOps.maximumf (F := Ideal) (φ := .f32)) y z reducesTo_S2x8x6x12288_S8x6_d0_3 h_S_) shapeCasts_S8x6_S48 j (idx_main_v46 j)
    (by rewrite [Shape.rowMajor_val_two, Shape.rowMajor_val_one]; show (j 0).val / 6 * 6 + (j 0).val % 6 = (j 0).val; omega)).symm
  refine (Host.reduce_eq_fold (FloatOps.maximumf (F := Ideal) (φ := .f32)) _ z hK h_S_ j).trans
    (Eq.trans ?_ (Host.reduce_eq_fold (FloatOps.maximumf (F := Ideal) (φ := .f32)) y z reducesTo_S2x8x6x12288_S8x6_d0_3 h_S_ (idx_main_v46 j)).symm)
  rw [funext hy]
  have hinj : ∀ x ∈ Finset.univ.filter (fun i => hK.drop i = j), ∀ x' ∈ Finset.univ.filter (fun i => hK.drop i = j), idx_main_v59 x = idx_main_v59 x' → x = x' := by
    intro x _ x' _ e
    have h0 : (x 0).val < 2 := (x 0).isLt
    have h1 : (x 1).val < 48 := (x 1).isLt
    have h2 : (x 2).val < 12288 := (x 2).isLt
    have h0' : (x' 0).val < 2 := (x' 0).isLt
    have h1' : (x' 1).val < 48 := (x' 1).isLt
    have h2' : (x' 2).val < 12288 := (x' 2).isLt
    have e0 : (((x 0).val * 48 + (x 1).val) * 12288 + (x 2).val) / 589824 = (((x' 0).val * 48 + (x' 1).val) * 12288 + (x' 2).val) / 589824 := congrArg (fun i : S2x8x6x12288.Idx => (i 0).val) e
    have e1 : (((x 0).val * 48 + (x 1).val) * 12288 + (x 2).val) / 73728 % 8 = (((x' 0).val * 48 + (x' 1).val) * 12288 + (x' 2).val) / 73728 % 8 := congrArg (fun i : S2x8x6x12288.Idx => (i 1).val) e
    have e2 : (((x 0).val * 48 + (x 1).val) * 12288 + (x 2).val) / 12288 % 6 = (((x' 0).val * 48 + (x' 1).val) * 12288 + (x' 2).val) / 12288 % 6 := congrArg (fun i : S2x8x6x12288.Idx => (i 2).val) e
    have e3 : (((x 0).val * 48 + (x 1).val) * 12288 + (x 2).val) % 12288 = (((x' 0).val * 48 + (x' 1).val) * 12288 + (x' 2).val) % 12288 := congrArg (fun i : S2x8x6x12288.Idx => (i 3).val) e
    exact funext fun a => Fin.ext (by
      match a with
      | ⟨0, _⟩ => show (x 0).val = (x' 0).val; omega
      | ⟨1, _⟩ => show (x 1).val = (x' 1).val; omega
      | ⟨2, _⟩ => show (x 2).val = (x' 2).val; omega)
  refine Eq.trans ?_ ((congrArg (fun s => Finset.fold (FloatOps.maximumf (F := Ideal) (φ := .f32)) (z (Shape.Idx.first h_S_)) y s) ?_).trans
    (Finset.fold_image (op := FloatOps.maximumf (F := Ideal) (φ := .f32)) (b := z (Shape.Idx.first h_S_)) (f := y) hinj)).symm
  · rfl
  · ext i
    simp only [Finset.mem_filter, Finset.mem_univ, true_and, Finset.mem_image]
    have k0 : (i 0).val < 2 := (i 0).isLt
    have k1 : (i 1).val < 8 := (i 1).isLt
    have k2 : (i 2).val < 6 := (i 2).isLt
    have k3 : (i 3).val < 12288 := (i 3).isLt
    constructor
    · intro e
      have e0 : (i 1).val = (j 0).val / 6 := congrArg (fun i : S8x6.Idx => (i 0).val) e
      have e1 : (i 2).val = (j 0).val % 6 := congrArg (fun i : S8x6.Idx => (i 1).val) e
      refine ⟨fun a => match a with
        | ⟨0, _⟩ => ⟨(i 0).val, (i 0).isLt⟩
        | ⟨1, _⟩ => ⟨(j 0).val, (j 0).isLt⟩
        | ⟨2, _⟩ => ⟨(i 3).val, (i 3).isLt⟩, ?_, ?_⟩
      · exact funext fun a => Fin.ext (by match a with | ⟨0, _⟩ => rfl)
      · exact funext fun a => Fin.ext (by
          match a with
          | ⟨0, _⟩ => show (((i 0).val * 48 + (j 0).val) * 12288 + (i 3).val) / 589824 = (i 0).val; omega
          | ⟨1, _⟩ => show (((i 0).val * 48 + (j 0).val) * 12288 + (i 3).val) / 73728 % 8 = (i 1).val; omega
          | ⟨2, _⟩ => show (((i 0).val * 48 + (j 0).val) * 12288 + (i 3).val) / 12288 % 6 = (i 2).val; omega
          | ⟨3, _⟩ => show (((i 0).val * 48 + (j 0).val) * 12288 + (i 3).val) % 12288 = (i 3).val; omega)
    · rintro ⟨x, hx, rfl⟩
      have h0 : (x 0).val < 2 := (x 0).isLt
      have h1 : (x 1).val < 48 := (x 1).isLt
      have h2 : (x 2).val < 12288 := (x 2).isLt
      have e : (x 1).val = (j 0).val := congrArg (fun i : S48.Idx => (i 0).val) hx
      exact funext fun a => Fin.ext (by
        match a with
        | ⟨0, _⟩ => show (((x 0).val * 48 + (x 1).val) * 12288 + (x 2).val) / 73728 % 8 = (j 0).val / 6; omega
        | ⟨1, _⟩ => show (((x 0).val * 48 + (x 1).val) * 12288 + (x 2).val) / 12288 % 6 = (j 0).val % 6; omega)

end Cert.ReferenceIdeal.Read

end
-- ==== Proof.Tail.lean ====
module

public import proofs.«01_k».proof.Proof.KernelIdealFrame

@[expose] public section

set_option maxRecDepth 16384

noncomputable section

/-! # The host lines after the call, as functions of the call's arrays -/

namespace Cert.KernelIdeal.Gen

open Idealize.ShloMosaic Idealize.ShloMosaic.TcCoe Idealize.SL.Sem

variable {F : FTy → Type} [FloatOps F]

/-- A row result with its heads in one axis. -/
def flat (y : FVec F S2x8x6x12288 .f32) : FVec F S2x48x12288 .f32 := shapeCast S2x48x12288 y shapeCasts_S2x8x6x12288_S2x48x12288

/-- The greatest value of every head. -/
def headMax (y : FVec F S2x8x6x12288 .f32) : FVec F S48 .f32 :=
  Host.reduce FloatOps.maximumf (flat y) (constant S_ .f32 0xFF800000#32) reducesTo_S2x48x12288_S48_d0_2 h_S_

/-- The scale of every head: one where its greatest value is zero, else that value over the greatest fp8 number. -/
def scaleOf (a : FVec F S48 .f32) : FVec F S48 .f32 :=
  select (cmpf .oeq a (broadcastInDim S48 ![] bcast_S_S48 (constant S_ .f32 0x00000000#32)))
    (broadcastInDim S48 ![] bcast_S_S48 (id (constant S_ .f32 0x3F800000#32)))
    (mulf a (broadcastInDim S48 ![] bcast_S_S48 (constant S_ .f32 0x3B124925#32)))

section

variable (W : Valuation τ sig (Elt F))

set_option maxHeartbeats 1600000 in
/-- The first reshape's result. -/
theorem tail_v1 : StableHlo.after (tail (F := F)).flatten W (Proc.devRef .tc main_v1) = flat (W (Proc.devRef .tc main_v0_1)) := by
  simp only [tail, hostOps1, hostOps1_1, hostOps1_2, hostOps1_3, List.flatten_cons, List.flatten_nil, List.append_nil, List.cons_append, List.nil_append,
    StableHlo.TRef.ternary, StableHlo.TRef.unary, StableHlo.TRef.toBuf, StableHlo.TRef.ofBuf, cast_eq]
  after_results_simp <;> rfl

set_option maxHeartbeats 1600000 in
/-- The second reshape's result. -/
theorem tail_v2 : StableHlo.after (tail (F := F)).flatten W (Proc.devRef .tc main_v2) = flat (W (Proc.devRef .tc main_v0_2)) := by
  simp only [tail, hostOps1, hostOps1_1, hostOps1_2, hostOps1_3, List.flatten_cons, List.flatten_nil, List.append_nil, List.cons_append, List.nil_append,
    StableHlo.TRef.ternary, StableHlo.TRef.unary, StableHlo.TRef.toBuf, StableHlo.TRef.ofBuf, cast_eq]
  after_results_simp <;> rfl

set_option maxHeartbeats 1600000 in
/-- The maxima of the scores by head. -/
theorem tail_v3 : StableHlo.after (tail (F := F)).flatten W (Proc.devRef .tc main_v3) = headMax (W (Proc.devRef .tc main_v0_1)) := by
  simp only [tail, hostOps1, hostOps1_1, hostOps1_2, hostOps1_3, List.flatten_cons, List.flatten_nil, List.append_nil, List.cons_append, List.nil_append,
    StableHlo.TRef.ternary, StableHlo.TRef.unary, StableHlo.TRef.toBuf, StableHlo.TRef.ofBuf, cast_eq]
  after_results_simp <;> rfl

set_option maxHeartbeats 1600000 in
/-- The maxima of the outputs by head. -/
theorem tail_v4 : StableHlo.after (tail (F := F)).flatten W (Proc.devRef .tc main_v4) = headMax (W (Proc.devRef .tc main_v0_2)) := by
  simp only [tail, hostOps1, hostOps1_1, hostOps1_2, hostOps1_3, List.flatten_cons, List.flatten_nil, List.append_nil, List.cons_append, List.nil_append,
    StableHlo.TRef.ternary, StableHlo.TRef.unary, StableHlo.TRef.toBuf, StableHlo.TRef.ofBuf, cast_eq]
  after_results_simp <;> rfl

set_option maxHeartbeats 1600000 in
/-- The scales of the outputs by head. -/
theorem tail_v9 : StableHlo.after (tail (F := F)).flatten W (Proc.devRef .tc main_v9) = scaleOf (headMax (W (Proc.devRef .tc main_v0_2))) := by
  simp only [tail, hostOps1, hostOps1_1, hostOps1_2, hostOps1_3, List.flatten_cons, List.flatten_nil, List.append_nil, List.cons_append, List.nil_append,
    StableHlo.TRef.ternary, StableHlo.TRef.unary, StableHlo.TRef.toBuf, StableHlo.TRef.ofBuf, cast_eq]
  after_results_simp <;> rfl

set_option maxHeartbeats 1600000 in
/-- The scales of the scores by head. -/
theorem tail_v14 : StableHlo.after (tail (F := F)).flatten W (Proc.devRef .tc main_v14) = scaleOf (headMax (W (Proc.devRef .tc main_v0_1))) := by
  simp only [tail, hostOps1, hostOps1_1, hostOps1_2, hostOps1_3, List.flatten_cons, List.flatten_nil, List.append_nil, List.cons_append, List.nil_append,
    StableHlo.TRef.ternary, StableHlo.TRef.unary, StableHlo.TRef.toBuf, StableHlo.TRef.ofBuf, cast_eq]
  after_results_simp <;> rfl

end

end Cert.KernelIdeal.Gen

end
-- ==== Proof.Values.lean ====
module

public import proofs.«01_k».proof.Proof.Finite
public import proofs.«01_k».proof.Proof.RefRead
public import proofs.«01_k».proof.Proof.Heads
public import proofs.«01_k».proof.Proof.Tail
public import proofs.«01_k».proof.Proof.Gen.Pre_finite

@[expose] public section

set_option maxRecDepth 16384

noncomputable section

/-! # The kernel's results are the reference's -/

namespace Cert.KernelIdeal.Gen

open Idealize.ShloMosaic Idealize.ShloMosaic.TcCoe Idealize.SL.Sem

/-- The array of score maxima as the host lines find it. -/
theorem left_R (m : (ℓ : Loc nD τ sig) → Buf (Elt Ideal) ℓ) (c : Dev nD) (hs : RealScores m c) :
    Pipeline.withArrays (Pipeline.pin pcfgs (fun _ => adm m trivial) 0).spec c (V0 m c) (fun w => (dats m trivial 0 c).arrAt w (Pipeline.pin pcfgs (fun _ => adm m trivial) 0).N) (Proc.devRef .tc main_v0_1) = gR m c :=
  (Pipeline.withArrays_arr (Pipeline.pin pcfgs (fun _ => adm m trivial) 0).spec winFacts0.arr_inj c (V0 m c) _ 4).trans (fin_R m trivial c hs)

/-- The array of output maxima as the host lines find it. -/
theorem left_A (m : (ℓ : Loc nD τ sig) → Buf (Elt Ideal) ℓ) (c : Dev nD) (hs : RealScores m c) :
    Pipeline.withArrays (Pipeline.pin pcfgs (fun _ => adm m trivial) 0).spec c (V0 m c) (fun w => (dats m trivial 0 c).arrAt w (Pipeline.pin pcfgs (fun _ => adm m trivial) 0).N) (Proc.devRef .tc main_v0_2) = gA m c :=
  (Pipeline.withArrays_arr (Pipeline.pin pcfgs (fun _ => adm m trivial) 0).spec winFacts0.arr_inj c (V0 m c) _ 5).trans (fin_A m trivial c hs)

/-- The kernel's run, with its results. -/
theorem run_values (m : (ℓ : Loc nD τ sig) → Buf (Elt Ideal) ℓ) (ρ : Dev nD → PrngReg) (hs : ∀ c, RealScores m c) :
    θ_run (defs (F := Ideal)) (onTc (τ := τ) (main (F := Ideal))) ⟨m, fun _ => 0, ρ⟩ (fun r => ∀ c : Dev nD,
      r.2.mem ((c.tc : Thread nD τ).loc main_v3) = headMax (F := Ideal) (gR m c)
      ∧ r.2.mem ((c.tc : Thread nD τ).loc main_v4) = headMax (F := Ideal) (gA m c)
      ∧ r.2.mem ((c.tc : Thread nD τ).loc main_v14) = scaleOf (F := Ideal) (headMax (F := Ideal) (gR m c))
      ∧ r.2.mem ((c.tc : Thread nD τ).loc main_v1) = flat (F := Ideal) (gR m c)
      ∧ r.2.mem ((c.tc : Thread nD τ).loc main_v2) = flat (F := Ideal) (gA m c)
      ∧ r.2.mem ((c.tc : Thread nD τ).loc main_v0_0) = gO m c
      ∧ r.2.mem ((c.tc : Thread nD τ).loc main_v9) = scaleOf (F := Ideal) (headMax (F := Ideal) (gA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono
    (fun r h c => ⟨((h.1 c).2 main_v3 (by decide : main_v3 ∈ Pipeline.restRefs sig spec0)).trans ((tail_v3 _).trans (congrArg headMax (left_R m c (hs c)))),
      ((h.1 c).2 main_v4 (by decide : main_v4 ∈ Pipeline.restRefs sig spec0)).trans ((tail_v4 _).trans (congrArg headMax (left_A m c (hs c)))),
      ((h.1 c).2 main_v14 (by decide : main_v14 ∈ Pipeline.restRefs sig spec0)).trans ((tail_v14 _).trans (congrArg (fun y => scaleOf (headMax y)) (left_R m c (hs c)))),
      ((h.1 c).2 main_v1 (by decide : main_v1 ∈ Pipeline.restRefs sig spec0)).trans ((tail_v1 _).trans (congrArg flat (left_R m c (hs c)))),
      ((h.1 c).2 main_v2 (by decide : main_v2 ∈ Pipeline.restRefs sig spec0)).trans ((tail_v2 _).trans (congrArg flat (left_A m c (hs c)))),
      (Pipeline.FramePost.out_eq h.1 c 3).trans (fin_O m trivial c (hs c)),
      ((h.1 c).2 main_v9 (by decide : main_v9 ∈ Pipeline.restRefs sig spec0)).trans ((tail_v9 _).trans (congrArg (fun y => scaleOf (headMax y)) (left_A m c (hs c)))),
      h.2 c⟩)
    (θ_run_and (run_main m ρ trivial) (unchanged m ρ trivial))

section

open Cert.ReferenceIdeal.Read

variable (x0 : (⟨S2x48x128x12288, .bf16⟩ : BufTy).Contents (Elt Ideal)) (x1 : (⟨S2x8x12288x128, .bf16⟩ : BufTy).Contents (Elt Ideal))
  (x2 : (⟨S2x8x128x12288, .bf16⟩ : BufTy).Contents (Elt Ideal)) (x3 : (⟨S2, .i32⟩ : BufTy).Contents (Elt Ideal))

/-- The reference's maxima of the scores by head, from its row maxima. -/
theorem ref_v46 : val_main_v46 (F := Ideal) x0 x1 x3 = headMax (F := Ideal) (val_main_v42 (F := Ideal) x0 x1 x3) := by
  unfold val_main_v46 val_main_v45 headMax flat
  exact (heads_max _ _ _).symm

/-- The reference's maxima of the outputs by head, from its row maxima. -/
theorem ref_v48 : val_main_v48 (F := Ideal) x0 x1 x2 x3 = headMax (F := Ideal) (val_main_v44 (F := Ideal) x0 x1 x2 x3) := by
  unfold val_main_v48 val_main_v47 headMax flat
  exact (heads_max _ _ _).symm

/-- The reference's scales of the scores, from their maxima by head. -/
theorem ref_v53 : val_main_v53 (F := Ideal) x0 x1 x3 = scaleOf (F := Ideal) (val_main_v46 (F := Ideal) x0 x1 x3) := by
  unfold val_main_v53 val_main_v50 val_main_v52 val_main_call5_v1 val_main_call5_v0 val_main_v49 val_main_v51 val_main_cst_11 val_main_cst_12 val_main_cst_13 scaleOf
  rfl

/-- The reference's scales of the outputs, from their maxima by head. -/
theorem ref_v58 : val_main_v58 (F := Ideal) x0 x1 x2 x3 = scaleOf (F := Ideal) (val_main_v48 (F := Ideal) x0 x1 x2 x3) := by
  unfold val_main_v58 val_main_v55 val_main_v57 val_main_call6_v1 val_main_call6_v0 val_main_v54 val_main_v56 val_main_cst_14 val_main_cst_15 val_main_cst_16 scaleOf
  rfl

end

/-- From equal arguments with finite queries and keys the two programs end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hPre hA
  refine ⟨fun c => headMax (F := Ideal) (gR m c), fun c => headMax (F := Ideal) (gA m c), fun c => scaleOf (F := Ideal) (headMax (F := Ideal) (gR m c)),
    fun c => flat (F := Ideal) (gR m c), fun c => flat (F := Ideal) (gA m c), fun c => gO m c, fun c => scaleOf (F := Ideal) (headMax (F := Ideal) (gA m c)),
    run_values m g (realScores m hPre), ?_⟩
  refine (θ_run (Cert.ReferenceIdeal.defs (F := Ideal)) _ _).mono (fun r h c => ?_) (Cert.ReferenceIdeal.Value.run (F := Ideal) m' g')
  obtain ⟨h46, h48, h53, h59, h60, h61, h58, hargs⟩ := h c
  obtain ⟨a0, a1, a2, a3⟩ := hA c
  have eR : Cert.ReferenceIdeal.Read.val_main_v42 (F := Ideal) (m ((c.tc : Thread nD τ).loc main_arg0)) (m ((c.tc : Thread nD τ).loc main_arg1)) (m ((c.tc : Thread nD τ).loc main_arg3)) = gR m c := by
    funext i
    exact Cert.ReferenceIdeal.Read.v42_idx _ _ _ i
  have eA : Cert.ReferenceIdeal.Read.val_main_v44 (F := Ideal) (m ((c.tc : Thread nD τ).loc main_arg0)) (m ((c.tc : Thread nD τ).loc main_arg1)) (m ((c.tc : Thread nD τ).loc main_arg2)) (m ((c.tc : Thread nD τ).loc main_arg3)) = gA m c := by
    funext i
    exact Cert.ReferenceIdeal.Read.v44_idx _ _ _ _ i
  refine ⟨h46.trans ?_, h48.trans ?_, h53.trans ?_, h59.trans ?_, h60.trans ?_, h61.trans ?_, h58.trans ?_, hargs⟩
  · rw [Cert.ReferenceIdeal.Read.val_main_v46_eq, a0, a1, a3]
    exact (ref_v46 _ _ _).trans (congrArg headMax eR)
  · rw [Cert.ReferenceIdeal.Read.val_main_v48_eq, a0, a1, a2, a3]
    exact (ref_v48 _ _ _ _).trans (congrArg headMax eA)
  · rw [Cert.ReferenceIdeal.Read.val_main_v53_eq, a0, a1, a3]
    exact (ref_v53 _ _ _).trans (congrArg scaleOf ((ref_v46 _ _ _).trans (congrArg headMax eR)))
  · rw [Cert.ReferenceIdeal.Read.val_main_v59_eq, a0, a1, a3]
    exact congrArg (flat (F := Ideal)) eR
  · rw [Cert.ReferenceIdeal.Read.val_main_v60_eq, a0, a1, a2, a3]
    exact congrArg (flat (F := Ideal)) eA
  · rw [Cert.ReferenceIdeal.Read.val_main_v61_eq, a0, a1, a2, a3]
    funext i
    exact Cert.ReferenceIdeal.Read.v61_idx _ _ _ _ i
  · rw [Cert.ReferenceIdeal.Read.val_main_v58_eq, a0, a1, a2, a3]
    exact (ref_v58 _ _ _ _).trans (congrArg scaleOf ((ref_v48 _ _ _ _).trans (congrArg headMax eA)))

end Cert.KernelIdeal.Gen
-- ==== Proof.QuantBytes.lean ====
module

public import proofs.«01_k».proof.Proof.Gen.Quant.Frame
public import Idealize.ShloMosaic.Lib.BitcastFour
public import Idealize.ShloMosaic.Lib.Pipeline.Value
public import Idealize.ShloMosaic.Lib.Pipeline.ValueKit
public import Mathlib.Tactic.IntervalCases

@[expose] public section

set_option maxRecDepth 16384

noncomputable section

/-! # Four words of bytes, transposed

    The quantising call gathers the fp8 codes of four heads by exchanging bytes between four 32-bit words. -/

namespace Cert.Quant.Gen

open Idealize.ShloMosaic Idealize.SL.Sem

/-- The low halves of two words, the second's on top. -/
def lo2 (m a c : BitVec 32) : BitVec 32 := IntOp.ori (IntOp.andi a m) (IntOp.shli .vector c 16#32)
/-- The high halves of two words, the second's on top. -/
def hi2 (m a c : BitVec 32) : BitVec 32 := IntOp.ori (IntOp.shrui .vector a 16#32) (IntOp.andi c m)
/-- The even bytes of two words, the second's above the first's. -/
def lo1 (m x y : BitVec 32) : BitVec 32 := IntOp.ori (IntOp.andi x m) (IntOp.shli .vector (IntOp.andi y m) 8#32)
/-- The odd bytes of two words, the second's above the first's. -/
def hi1 (m m' x y : BitVec 32) : BitVec 32 := IntOp.ori (IntOp.andi (IntOp.shrui .vector x 8#32) m) (IntOp.andi y m')

/-- The word that the exchange leaves in place `k`. -/
def exch (k : Fin 4) (a b c d : BitVec 32) : BitVec 32 :=
  match k with
  | 0 => lo1 16711935#32 (lo2 65535#32 a c) (lo2 65535#32 b d)
  | 1 => hi1 16711935#32 (Scalar.xori 16711935#32 4294967295#32) (lo2 65535#32 a c) (lo2 65535#32 b d)
  | 2 => lo1 16711935#32 (hi2 (Scalar.xori 65535#32 4294967295#32) a c) (hi2 (Scalar.xori 65535#32 4294967295#32) b d)
  | 3 => hi1 16711935#32 (Scalar.xori 16711935#32 4294967295#32) (hi2 (Scalar.xori 65535#32 4294967295#32) a c) (hi2 (Scalar.xori 65535#32 4294967295#32) b d)

/-- Byte `j` of word `k` after the exchange is byte `k` of word `j` before it. -/
theorem exch_getLsbD (k j : Fin 4) (w : Fin 4 → BitVec 32) (q : ℕ) (hq : q < 8) :
    (exch k (w 0) (w 1) (w 2) (w 3)).getLsbD (8 * j.val + q) = (w j).getLsbD (8 * k.val + q) := by
  fin_cases k <;> fin_cases j <;> interval_cases q <;>
    simp [exch, lo1, hi1, lo2, hi2, IntOp.ori, IntOp.andi, IntOp.shli, IntOp.shrui, Scalar.xori, IntOp.xori]

end Cert.Quant.Gen
-- ==== Proof.QuantGroup.lean ====
module

public import proofs.«01_k».proof.Proof.QuantBytes

@[expose] public section

set_option maxRecDepth 16384

noncomputable section

/-! # One group of four heads

    What the quantising call stores for four heads, as one function of their codes, and its value: the code of head `j`, dimension
    `d`, token `t` lies at row `t`, head `j`, lane `d`. -/

namespace Cert.Quant.Gen

open Idealize.ShloMosaic Idealize.SL.Sem

section
variable {F : FTy → Type} [BitOps F]

/-- The code of one value at one scale: the quotient, held to the range of the format, rounded to it. -/
def codeOf (o s : F .f32) : F .fp8e4m3 :=
  FloatOps.truncf .fp8e4m3 bitsLt_fp8e4m3_f32 (FloatOps.minimumf (Scalar.ofBits .f32 0x43E00000#32) (FloatOps.maximumf (Scalar.ofBits .f32 0xC3E00000#32) (FloatOps.divf o s)))

/-- The codes of one head, by dimension and token. -/
def codesH (x : Vec F S1x1x128x256 .f32) (s : F .f32) : FVec F S128x256 .fp8e4m3 :=
  truncf .fp8e4m3 (minimumf (broadcast S128x256 (Scalar.ofBits .f32 0x43E00000#32)) (maximumf (broadcast S128x256 (Scalar.ofBits .f32 0xC3E00000#32)) (divf (shapeCast S128x256 x shapeCasts_S1x1x128x256_S128x256) (broadcast S128x256 s)))) bitsLt_fp8e4m3_f32

/-- The codes of one head, four dimensions to a word. -/
def wordsH (x : Vec F S1x1x128x256 .f32) (s : F .f32) : IVec S32x256 32 :=
  bitcast S32x256 32 (bitcastToInt (codesH x s)) bitcasts_S128x256_w8_S32x256_w32

/-- The exchanged words in place `k`. -/
def exchV (k : Fin 4) (a b c d : IVec S32x256 32) : IVec S32x256 32 := fun i => exch k (a i) (b i) (c i) (d i)

/-- The lane each lane reads: a negative one counted from the end. -/
def lanes (v : IVec S256x128 32) : IVec S256x128 32 :=
  shapeCast S256x128 (shapeCast S256x128x1 (select (cmpi .slt v (broadcast S256x128 0#32)) (addi v (broadcast S256x128 128#32)) v) shapeCasts_S256x128_S256x128x1) shapeCasts_S256x128x1_S256x128

/-- What the call stores for four heads. -/
def grp (v : IVec S256x128 32) (a b c d : IVec S32x256 32) : FVec F S1x256x4x128 .fp8e4m3 :=
  shapeCast S1x256x4x128 (bitcastToFloat .fp8e4m3 (bitcast S256x4x128 8 (shapeCast S256x1x128 (dynamicGather 1
    (transpose S256x128 [1, 0] (concatenate S128x256 0 [⟨S32x256, exchV 0 a b c d⟩, ⟨S32x256, exchV 1 a b c d⟩, ⟨S32x256, exchV 2 a b c d⟩, ⟨S32x256, exchV 3 a b c d⟩] concatenates_S32x256_S32x256_S32x256_S32x256_S128x256_d0) transposes_S128x256_p1_0_S256x128)
    (lanes v)) shapeCasts_S256x128_S256x1x128) bitcasts_S256x1x128_w32_S256x4x128_w8)) shapeCasts_S256x4x128_S1x256x4x128
end

/-- Lane `d` reads lane `32 (d mod 4) + d / 4`. -/
theorem lanes_at (t : Fin 256) (d : Fin 128) : (lanes k0_pay1 (ix2 t d)).toNat = 32 * (d.val % 4) + d.val / 4 := by
  have e : lanes k0_pay1 (ix2 t d) = lanes k0_pay1 (ix2 0 d) := by
    unfold lanes
    rw [shapeCast_apply _ _ (ix2 t d) (fun a => match a with | ⟨0, _⟩ => t | ⟨1, _⟩ => d | ⟨2, _⟩ => (0 : Fin 1)) (by
        rw [Shape.rowMajor_val_two, Shape.rowMajor_val_three]; show (t.val * 128 + d.val) * 1 + 0 = t.val * 128 + d.val; omega),
      shapeCast_apply _ _ _ (ix2 t d) (by
        rw [Shape.rowMajor_val_two, Shape.rowMajor_val_three]; show t.val * 128 + d.val = (t.val * 128 + d.val) * 1 + 0; omega),
      shapeCast_apply _ _ (ix2 0 d) (fun a => match a with | ⟨0, _⟩ => (0 : Fin 256) | ⟨1, _⟩ => d | ⟨2, _⟩ => (0 : Fin 1)) (by
        rw [Shape.rowMajor_val_two, Shape.rowMajor_val_three]; show (0 * 128 + d.val) * 1 + 0 = 0 * 128 + d.val; omega),
      shapeCast_apply _ _ _ (ix2 0 d) (by
        rw [Shape.rowMajor_val_two, Shape.rowMajor_val_three]; show 0 * 128 + d.val = (0 * 128 + d.val) * 1 + 0; omega)]
    rfl
  rw [e]
  clear e
  revert d
  decide +kernel

/-- The concatenated words at row `32 k + r`: row `r` of the exchanged words in place `k`. -/
theorem cat_at (a b c d : IVec S32x256 32) (k : Fin 4) (r : Fin 32) (t : Fin 256) (p : Fin 128) (hp : p.val = 32 * k.val + r.val) :
    concatenate S128x256 0 [⟨S32x256, exchV 0 a b c d⟩, ⟨S32x256, exchV 1 a b c d⟩, ⟨S32x256, exchV 2 a b c d⟩, ⟨S32x256, exchV 3 a b c d⟩] concatenates_S32x256_S32x256_S32x256_S32x256_S128x256_d0 (ix2 p t)
      = exchV k a b c d (ix2 r t) := by
  refine concatenate_apply_piece 0 _ _ (ix2 p t) k.val (by exact k.isLt) S32x256 _ ?_ rfl (32 * k.val) ?_ (ix2 r t) ?_ ?_
  · fin_cases k <;> rfl
  · fin_cases k <;> rfl
  · intro x hx
    match x with
    | ⟨0, _⟩ => exact absurd rfl hx
    | ⟨1, _⟩ => rfl
  · show 32 * k.val + r.val = p.val
    omega

/-- The word gathered at token `t`, lane `e`: row `e / 4` of the exchanged words in place `e mod 4`. -/
theorem gathered_at (a b c d : IVec S32x256 32) (y : S256x1x128.Idx) (t : Fin 256) (e : Fin 128) (ht : (y 0).val = t.val) (he : (y 2).val = e.val)
    (k : Fin 4) (hk : k.val = e.val % 4) (r : Fin 32) (hr : r.val = e.val / 4) :
    shapeCast S256x1x128 (dynamicGather 1
      (transpose S256x128 [1, 0] (concatenate S128x256 0 [⟨S32x256, exchV 0 a b c d⟩, ⟨S32x256, exchV 1 a b c d⟩, ⟨S32x256, exchV 2 a b c d⟩, ⟨S32x256, exchV 3 a b c d⟩] concatenates_S32x256_S32x256_S32x256_S32x256_S128x256_d0) transposes_S128x256_p1_0_S256x128)
      (lanes k0_pay1)) shapeCasts_S256x128_S256x1x128 y = exch k (a (ix2 r t)) (b (ix2 r t)) (c (ix2 r t)) (d (ix2 r t)) := by
  have h1 : (y 1).val < 1 := (y 1).isLt
  have hel := e.isLt
  rw [shapeCast_apply _ _ y (ix2 t e) (by
    rw [Shape.rowMajor_val_two, Shape.rowMajor_val_three]
    show t.val * 128 + e.val = ((y 0).val * 1 + (y 1).val) * 128 + (y 2).val
    omega)]
  rw [dynamicGather_apply]
  have hp : 32 * k.val + r.val < 128 := by omega
  rw [transpose_apply _ _ _ _ (ix2 (⟨32 * k.val + r.val, hp⟩ : Fin 128) t) (fun z => by
    match z with
    | ⟨0, _⟩ => rfl
    | ⟨1, _⟩ =>
      show 32 * k.val + r.val = (lanes k0_pay1 (ix2 t e)).toNat % 128
      rw [lanes_at, hk, hr]
      omega)]
  exact cat_at a b c d k r t _ rfl

/-- Words read as bytes, four to a column: bit `q` of byte `j` is bit `8 j + q` of the word. -/
theorem bytes_at (w : IVec S256x1x128 32) (t : Fin 256) (j : Fin 4) (e : Fin 128) (q : ℕ) (hq : q < 8) :
    (bitcast S256x4x128 8 w bitcasts_S256x1x128_w32_S256x4x128_w8 (ix3 t j e)).getLsbD q = (w (ix3 t (0 : Fin 1) e)).getLsbD (8 * j.val + q) := by
  have hjl := j.isLt
  rw [bitcast_getLsbD w bitcasts_S256x1x128_w32_S256x4x128_w8 (ix3 t j e) q hq (by decide)]
  have hrow : S256x4x128.row (ix3 t j e) = j.val := rfl
  have hm : (S256x4x128.row (ix3 t j e) * 8 + q) % 32 = 8 * j.val + q := by rw [hrow]; omega
  rw [hm]
  congr 2
  funext a
  match a with
  | ⟨0, _⟩ => exact Fin.ext (Shape.Bitcasts.srcIdx_other bitcasts_S256x1x128_w32_S256x4x128_w8 _ _ _ ⟨0, by decide⟩ (by decide))
  | ⟨1, _⟩ => exact Subsingleton.elim (α := Fin 1) _ _
  | ⟨2, _⟩ => exact Fin.ext (Shape.Bitcasts.srcIdx_other bitcasts_S256x1x128_w32_S256x4x128_w8 _ _ _ ⟨2, by decide⟩ (by decide))

/-- What is stored for four heads at token `t`, head `j`, lane `e`: that head's code at dimension `e`. -/
theorem grp_at (x : Fin 4 → Vec Bits S1x1x128x256 .f32) (s : Fin 4 → Bits .f32) (i : S1x256x4x128.Idx) (j : Fin 4) (t : Fin 256) (e : Fin 128)
    (hj : (i 2).val = j.val) (ht : (i 1).val = t.val) (he : (i 3).val = e.val) :
    grp (F := Bits) k0_pay1 (wordsH (x 0) (s 0)) (wordsH (x 1) (s 1)) (wordsH (x 2) (s 2)) (wordsH (x 3) (s 3)) i
      = codesH (x j) (s j) (ix2 e t) := by
  have h0 : (i 0).val < 1 := (i 0).isLt
  have hjl := j.isLt
  have hel := e.isLt
  unfold grp
  rw [shapeCast_apply _ _ i (ix3 t j e) (by
    rw [Shape.rowMajor_val_four, Shape.rowMajor_val_three]
    show (t.val * 4 + j.val) * 128 + e.val = (((i 0).val * 256 + (i 1).val) * 4 + (i 2).val) * 128 + (i 3).val
    omega)]
  refine BitVec.eq_of_getLsbD_eq fun q hq => ?_
  have hq : q < 8 := hq
  refine (bytes_at _ t j e q hq).trans ?_
  rw [gathered_at _ _ _ _ _ t e rfl rfl ⟨e.val % 4, by omega⟩ rfl ⟨e.val / 4, by omega⟩ rfl]
  rw [exch_getLsbD ⟨e.val % 4, by omega⟩ j (fun n => wordsH (x n) (s n) (ix2 ⟨e.val / 4, by omega⟩ t)) q hq]
  refine (bitcast_8_32_getLsbD_ix2 (bitcastToInt (codesH (x j) (s j))) bitcasts_S128x256_w8_S32x256_w32 ⟨e.val / 4, by omega⟩ t (8 * (e.val % 4) + q) (by omega) e (by show e.val = 4 * (e.val / 4) + (8 * (e.val % 4) + q) / 8; omega)).trans ?_
  rw [show (8 * (e.val % 4) + q) % 8 = q by omega]
  rfl

/-- A head's code at one index. -/
theorem codesH_at {F : FTy → Type} [BitOps F] (x : Vec F S1x1x128x256 .f32) (s : F .f32) (e : Fin 128) (t : Fin 256) :
    codesH x s (ix2 e t) = codeOf (x (ix4 (0 : Fin 1) (0 : Fin 1) e t)) s := by
  show codeOf (shapeCast S128x256 x shapeCasts_S1x1x128x256_S128x256 (ix2 e t)) s = _
  rw [shapeCast_apply _ _ (ix2 e t) (ix4 (0 : Fin 1) (0 : Fin 1) e t) (by
    rw [Shape.rowMajor_val_four, Shape.rowMajor_val_two]
    show ((0 * 1 + 0) * 128 + e.val) * 256 + t.val = e.val * 256 + t.val
    omega)]

end Cert.Quant.Gen
-- ==== Proof.QuantBlocks.lean ====
module

public import proofs.«01_k».proof.Proof.QuantGroup
public import Idealize.ShloMosaic.Lib.Pipeline.ReadBack

@[expose] public section

set_option maxRecDepth 16384

noncomputable section

/-! # What a point of the quantising call leaves in its blocks -/

namespace Cert.Quant.Gen

open Idealize.ShloMosaic Idealize.SL.Sem

/-- A block of the codes, by token, head and dimension. -/
def blkC (x0 : Vec Bits S48 .f32) (x1 : Vec Bits S1x48x128x256 .f32) : Vec Bits S1x256x48x128 .fp8e4m3 :=
  fun y => codeOf (F := Bits) (x1 (ix4 (0 : Fin 1) (⟨(y 2).val, (y 2).isLt⟩ : Fin 48) (⟨(y 3).val, (y 3).isLt⟩ : Fin 128) (⟨(y 1).val, (y 1).isLt⟩ : Fin 256)))
    (x0 (ix1 (⟨(y 2).val, (y 2).isLt⟩ : Fin 48)))

/-- A block of row maxima, by token and head. -/
def blkT (x : Vec Bits S1x48x256 .f32) : Vec Bits S1x256x48 .f32 :=
  fun y => x (ix3 (0 : Fin 1) (⟨(y 2).val, (y 2).isLt⟩ : Fin 48) (⟨(y 1).val, (y 1).isLt⟩ : Fin 256))

/-- Head `4 p + n` lies in the block. -/
theorem inbX (p : Fin 12) (n : Fin 4) (a : Fin 4) : ![0, 4 * p.val + n.val, 0, 0] a + S1x1x128x256.size a ≤ S1x48x128x256.size a := by
  have := p.isLt; have := n.isLt
  match a with
  | ⟨0, _⟩ => exact Nat.le_refl 1
  | ⟨1, _⟩ => show 4 * p.val + n.val + 1 ≤ 48; omega
  | ⟨2, _⟩ => exact Nat.le_refl 128
  | ⟨3, _⟩ => exact Nat.le_refl 256

/-- The scale of head `4 p + n` lies in the array. -/
theorem inbS (p : Fin 12) (n : Fin 4) (a : Fin 1) : ![4 * p.val + n.val] a + S1.size a ≤ S48.size a := by
  have := p.isLt; have := n.isLt
  match a with
  | ⟨0, _⟩ => show 4 * p.val + n.val + 1 ≤ 48; omega

/-- The load of head `4 p + n`. -/
def ldX (arg3 : Memref sig .tc .vmem S1x48x128x256 .f32) (harg3 : arg3.IsWhole) (x1 : Vec Bits S1x48x128x256 .f32) (p : Fin 12) (n : Fin 4) : Vec Bits S1x1x128x256 .f32 :=
  View.readAt (Elt Bits) arg3.view (Rect.unit (s := S1x48x128x256) ![0, 4 * p.val + n.val, 0, 0] S1x1x128x256.size (inbX p n)).toLoadRect (harg3.unread x1)

/-- The load of that head's scale. -/
def ldS (arg2 : Memref sig .tc .smem S48 .f32) (harg2 : arg2.IsWhole) (x0 : Vec Bits S48 .f32) (p : Fin 12) (n : Fin 4) : Bits .f32 :=
  View.readAt (Elt Bits) arg2.view (Rect.unit (s := S48) ![4 * p.val + n.val] S1.size (inbS p n)).toLoadRect (harg2.unread x0)
    (Shape.Idx.first (s := S1) (by decide))

/-- That load at an index is the block's element of head `4 p + n`. -/
theorem ldX_at (arg3 : Memref sig .tc .vmem S1x48x128x256 .f32) (harg3 : arg3.IsWhole) (x1 : Vec Bits S1x48x128x256 .f32) (p : Fin 12) (n : Fin 4) (h : Fin 48) (hh : h.val = 4 * p.val + n.val)
    (e : Fin 128) (t : Fin 256) : ldX arg3 harg3 x1 p n (ix4 (0 : Fin 1) (0 : Fin 1) e t) = x1 (ix4 (0 : Fin 1) h e t) := by
  unfold ldX
  rw [View.readAt_eq_ld, Memref.IsWhole.read_unread]
  refine congrArg x1 (funext fun a => Fin.ext ?_)
  match a with
  | ⟨0, _⟩ => rfl
  | ⟨1, _⟩ => show 4 * p.val + n.val + 1 * 0 = h.val; omega
  | ⟨2, _⟩ => show 0 + 1 * e.val = e.val; omega
  | ⟨3, _⟩ => show 0 + 1 * t.val = t.val; omega

/-- That load of a scale is the scale of head `4 p + n`. -/
theorem ldS_at (arg2 : Memref sig .tc .smem S48 .f32) (harg2 : arg2.IsWhole) (x0 : Vec Bits S48 .f32) (p : Fin 12) (n : Fin 4) (h : Fin 48) (hh : h.val = 4 * p.val + n.val) :
    ldS arg2 harg2 x0 p n = x0 (ix1 h) := by
  unfold ldS
  rw [View.readAt_eq_ld, Memref.IsWhole.read_unread]
  refine congrArg x0 (funext fun a => Fin.ext ?_)
  match a with
  | ⟨0, _⟩ => show 4 * p.val + n.val + 1 * 0 = h.val; omega

/-- The words of head `4 p + n`. -/
def headW (arg2 : Memref sig .tc .smem S48 .f32) (harg2 : arg2.IsWhole) (arg3 : Memref sig .tc .vmem S1x48x128x256 .f32) (harg3 : arg3.IsWhole) (x0 : Vec Bits S48 .f32) (x1 : Vec Bits S1x48x128x256 .f32) (p : Fin 12) (n : Fin 4) : IVec S32x256 32 :=
  wordsH (F := Bits) (ldX arg3 harg3 x1 p n) (ldS arg2 harg2 x0 p n)

/-- The heads of group `p` lie in the block of codes. -/
theorem inbC (p : Fin 12) (a : Fin 4) : ![0, 0, 4 * p.val, 0] a + S1x256x4x128.size a ≤ S1x256x48x128.size a := by
  have := p.isLt
  match a with
  | ⟨0, _⟩ => exact Nat.le_refl 1
  | ⟨1, _⟩ => exact Nat.le_refl 256
  | ⟨2, _⟩ => show 4 * p.val + 4 ≤ 48; omega
  | ⟨3, _⟩ => exact Nat.le_refl 128

/-- The store of group `p` is that group's part of the block of codes. -/
theorem codes_emb (arg2 : Memref sig .tc .smem S48 .f32) (harg2 : arg2.IsWhole) (arg3 : Memref sig .tc .vmem S1x48x128x256 .f32) (harg3 : arg3.IsWhole) (x0 : Vec Bits S48 .f32) (x1 : Vec Bits S1x48x128x256 .f32) (p : Fin 12)
    (x : (Rect.unit (s := S1x256x48x128) ![0, 0, 4 * p.val, 0] S1x256x4x128.size (inbC p)).shape.Idx) :
    grp (F := Bits) k0_pay1 (headW arg2 harg2 arg3 harg3 x0 x1 p 0) (headW arg2 harg2 arg3 harg3 x0 x1 p 1) (headW arg2 harg2 arg3 harg3 x0 x1 p 2) (headW arg2 harg2 arg3 harg3 x0 x1 p 3) x
      = blkC x0 x1 ((Rect.unit (s := S1x256x48x128) ![0, 0, 4 * p.val, 0] S1x256x4x128.size (inbC p)).emb x) := by
  have hp := p.isLt
  have h2 : (x 2).val < 4 := (x 2).isLt
  refine (grp_at (fun n => ldX arg3 harg3 x1 p n) (fun n => ldS arg2 harg2 x0 p n) x ⟨(x 2).val, h2⟩ ⟨(x 1).val, (x 1).isLt⟩ ⟨(x 3).val, (x 3).isLt⟩ rfl rfl rfl).trans ?_
  refine (codesH_at _ _ _ _).trans ?_
  rw [ldX_at arg3 harg3 x1 p ⟨(x 2).val, h2⟩ ⟨4 * p.val + (x 2).val, by omega⟩ rfl, ldS_at arg2 harg2 x0 p ⟨(x 2).val, h2⟩ ⟨4 * p.val + (x 2).val, by omega⟩ rfl]
  unfold blkC
  congr 1
  · congr 1
    funext a
    apply Fin.ext
    match a with
    | ⟨0, _⟩ => rfl
    | ⟨1, _⟩ => show 4 * p.val + (x 2).val = 4 * p.val + 1 * (x 2).val; omega
    | ⟨2, _⟩ => show (x 3).val = 0 + 1 * (x 3).val; omega
    | ⟨3, _⟩ => show (x 1).val = 0 + 1 * (x 1).val; omega
  · congr 1
    funext a
    apply Fin.ext
    match a with
    | ⟨0, _⟩ => show 4 * p.val + (x 2).val = 4 * p.val + 1 * (x 2).val; omega

/-- What a point leaves in its block of the codes. -/
theorem out0_A_4_eq (c : Dev nD) (i : grid0.Coords) (arg2 : Memref sig .tc .smem S48 .f32) (harg2 : arg2.IsWhole) (arg3 : Memref sig .tc .vmem S1x48x128x256 .f32) (harg3 : arg3.IsWhole) (arg4 : Memref sig .tc .vmem S1x48x256 .f32) (harg4 : arg4.IsWhole) (arg5 : Memref sig .tc .vmem S1x48x256 .f32) (harg5 : arg5.IsWhole) (arg6 : Memref sig .tc .vmem S1x256x48x128 .fp8e4m3) (harg6 : arg6.IsWhole) (arg7 : Memref sig .tc .vmem S1x256x48 .f32) (harg7 : arg7.IsWhole) (arg8 : Memref sig .tc .vmem S1x256x48 .f32) (harg8 : arg8.IsWhole) (x0 : Vec Bits S48 .f32) (x1 : Vec Bits S1x48x128x256 .f32) (x2 : Vec Bits S1x48x256 .f32) (x3 : Vec Bits S1x48x256 .f32) :
    out0_A_4 (F := Bits) c i arg2 harg2 arg3 harg3 arg4 harg4 arg5 harg5 arg6 harg6 arg7 harg7 arg8 harg8 x0 x1 x2 x3 = blkC x0 x1 := by
  have hp : View.PiecesOf (blkC x0 x1) (kernelRun0_A (F := Bits) c i arg2 harg2 arg3 harg3 arg4 harg4 arg5 harg5 arg6 harg6 arg7 harg7 arg8 harg8 x0 x1 x2 x3).1 := by
    delta kernelRun0_A
    dsimp only
    exact ⟨codes_emb arg2 harg2 arg3 harg3 x0 x1 11, codes_emb arg2 harg2 arg3 harg3 x0 x1 10, codes_emb arg2 harg2 arg3 harg3 x0 x1 9, codes_emb arg2 harg2 arg3 harg3 x0 x1 8, codes_emb arg2 harg2 arg3 harg3 x0 x1 7, codes_emb arg2 harg2 arg3 harg3 x0 x1 6, codes_emb arg2 harg2 arg3 harg3 x0 x1 5, codes_emb arg2 harg2 arg3 harg3 x0 x1 4, codes_emb arg2 harg2 arg3 harg3 x0 x1 3, codes_emb arg2 harg2 arg3 harg3 x0 x1 2, codes_emb arg2 harg2 arg3 harg3 x0 x1 1, codes_emb arg2 harg2 arg3 harg3 x0 x1 0, trivial⟩
  unfold out0_A_4
  rw [View.read_writes_junk_eq_canon]
  exact funext fun y => View.canon_apply_of_pieces _ _ (fun p h => View.PiecesOf.mem hp p h) y (cover0_A_4 c i arg2 harg2 arg3 harg3 arg4 harg4 arg5 harg5 arg6 harg6 arg7 harg7 arg8 harg8 x0 x1 x2 x3 y)

/-- The store of one array of row maxima is its block turned. -/
theorem turn_at (arg : Memref sig .tc .vmem S1x48x256 .f32) (harg : arg.IsWhole) (x : Vec Bits S1x48x256 .f32) (y : S1x256x48.Idx) :
    k0_pay144 (F := Bits) (View.readAt (Elt Bits) arg.view (Rect.unit (s := S1x48x256) ![0, 0, 0] S1x48x256.size inb_S1x48x256_S1x48x256_0_0_0).toLoadRect (harg.unread x)) y = blkT x y := by
  have h0 : (y 0).val < 1 := (y 0).isLt
  rw [View.readAt_eq_ld, Memref.IsWhole.read_unread]
  unfold k0_pay144
  refine (shapeCast_apply _ _ y (ix2 (⟨(y 1).val, (y 1).isLt⟩ : Fin 256) (⟨(y 2).val, (y 2).isLt⟩ : Fin 48)) ?_).trans ?_
  · rw [Shape.rowMajor_val_two, Shape.rowMajor_val_three]
    show (y 1).val * 48 + (y 2).val = ((y 0).val * 256 + (y 1).val) * 48 + (y 2).val
    omega
  rw [transpose_apply _ _ _ _ (ix2 (⟨(y 2).val, (y 2).isLt⟩ : Fin 48) (⟨(y 1).val, (y 1).isLt⟩ : Fin 256)) (fun z => by
    match z with
    | ⟨0, _⟩ => rfl
    | ⟨1, _⟩ => rfl)]
  rw [shapeCast_apply _ _ _ (ix3 (0 : Fin 1) (⟨(y 2).val, (y 2).isLt⟩ : Fin 48) (⟨(y 1).val, (y 1).isLt⟩ : Fin 256)) (by
    rw [Shape.rowMajor_val_two, Shape.rowMajor_val_three]
    show (0 * 48 + (y 2).val) * 256 + (y 1).val = (y 2).val * 256 + (y 1).val
    omega)]
  refine congrArg x (funext fun a => Fin.ext ?_)
  match a with
  | ⟨0, _⟩ => rfl
  | ⟨1, _⟩ => show 0 + 1 * (y 2).val = (y 2).val; omega
  | ⟨2, _⟩ => show 0 + 1 * (y 1).val = (y 1).val; omega

/-- The whole block, as a part of itself. -/
theorem whole_emb (y : (Rect.unit (s := S1x256x48) ![0, 0, 0] ![1, 256, 48] inb_S1x256x48_S1x256x48_0_0_0).shape.Idx) :
    (Rect.unit (s := S1x256x48) ![0, 0, 0] ![1, 256, 48] inb_S1x256x48_S1x256x48_0_0_0).emb y = y := by
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- What a point leaves in its block of the greatest absolute scores. -/
theorem out0_A_5_eq (c : Dev nD) (i : grid0.Coords) (arg2 : Memref sig .tc .smem S48 .f32) (harg2 : arg2.IsWhole) (arg3 : Memref sig .tc .vmem S1x48x128x256 .f32) (harg3 : arg3.IsWhole) (arg4 : Memref sig .tc .vmem S1x48x256 .f32) (harg4 : arg4.IsWhole) (arg5 : Memref sig .tc .vmem S1x48x256 .f32) (harg5 : arg5.IsWhole) (arg6 : Memref sig .tc .vmem S1x256x48x128 .fp8e4m3) (harg6 : arg6.IsWhole) (arg7 : Memref sig .tc .vmem S1x256x48 .f32) (harg7 : arg7.IsWhole) (arg8 : Memref sig .tc .vmem S1x256x48 .f32) (harg8 : arg8.IsWhole) (x0 : Vec Bits S48 .f32) (x1 : Vec Bits S1x48x128x256 .f32) (x2 : Vec Bits S1x48x256 .f32) (x3 : Vec Bits S1x48x256 .f32) :
    out0_A_5 (F := Bits) c i arg2 harg2 arg3 harg3 arg4 harg4 arg5 harg5 arg6 harg6 arg7 harg7 arg8 harg8 x0 x1 x2 x3 = blkT x2 := by
  have hp : View.PiecesOf (blkT x2) (kernelRun0_A (F := Bits) c i arg2 harg2 arg3 harg3 arg4 harg4 arg5 harg5 arg6 harg6 arg7 harg7 arg8 harg8 x0 x1 x2 x3).2.1 := by
    delta kernelRun0_A
    dsimp only
    exact ⟨fun y => (turn_at arg4 harg4 x2 y).trans (congrArg (blkT x2) (whole_emb y).symm), trivial⟩
  unfold out0_A_5
  rw [View.read_writes_junk_eq_canon]
  exact funext fun y => View.canon_apply_of_pieces _ _ (fun p h => View.PiecesOf.mem hp p h) y (cover0_A_5 c i arg2 harg2 arg3 harg3 arg4 harg4 arg5 harg5 arg6 harg6 arg7 harg7 arg8 harg8 x0 x1 x2 x3 y)

/-- What a point leaves in its block of the greatest absolute outputs. -/
theorem out0_A_6_eq (c : Dev nD) (i : grid0.Coords) (arg2 : Memref sig .tc .smem S48 .f32) (harg2 : arg2.IsWhole) (arg3 : Memref sig .tc .vmem S1x48x128x256 .f32) (harg3 : arg3.IsWhole) (arg4 : Memref sig .tc .vmem S1x48x256 .f32) (harg4 : arg4.IsWhole) (arg5 : Memref sig .tc .vmem S1x48x256 .f32) (harg5 : arg5.IsWhole) (arg6 : Memref sig .tc .vmem S1x256x48x128 .fp8e4m3) (harg6 : arg6.IsWhole) (arg7 : Memref sig .tc .vmem S1x256x48 .f32) (harg7 : arg7.IsWhole) (arg8 : Memref sig .tc .vmem S1x256x48 .f32) (harg8 : arg8.IsWhole) (x0 : Vec Bits S48 .f32) (x1 : Vec Bits S1x48x128x256 .f32) (x2 : Vec Bits S1x48x256 .f32) (x3 : Vec Bits S1x48x256 .f32) :
    out0_A_6 (F := Bits) c i arg2 harg2 arg3 harg3 arg4 harg4 arg5 harg5 arg6 harg6 arg7 harg7 arg8 harg8 x0 x1 x2 x3 = blkT x3 := by
  have hp : View.PiecesOf (blkT x3) (kernelRun0_A (F := Bits) c i arg2 harg2 arg3 harg3 arg4 harg4 arg5 harg5 arg6 harg6 arg7 harg7 arg8 harg8 x0 x1 x2 x3).2.2.1 := by
    delta kernelRun0_A
    dsimp only
    exact ⟨fun y => (turn_at arg5 harg5 x3 y).trans (congrArg (blkT x3) (whole_emb y).symm), trivial⟩
  unfold out0_A_6
  rw [View.read_writes_junk_eq_canon]
  exact funext fun y => View.canon_apply_of_pieces _ _ (fun p h => View.PiecesOf.mem hp p h) y (cover0_A_6 c i arg2 harg2 arg3 harg3 arg4 harg4 arg5 harg5 arg6 harg6 arg7 harg7 arg8 harg8 x0 x1 x2 x3 y)

end Cert.Quant.Gen
-- ==== Proof.QuantResult.lean ====
module

public import proofs.«01_k».proof.Proof.QuantBlocks
public import proofs.«01_k».proof.Proof.Gen.Quant.Value

@[expose] public section

set_option maxRecDepth 16384

noncomputable section

/-! # The arrays the quantising call leaves -/

namespace Cert.Quant.Gen

open Idealize.ShloMosaic Idealize.ShloMosaic.TcCoe Idealize.SL.Sem

/-- The codes of an array laid out by batch, head, dimension and token, at a scale for each head, by batch, token, head and dimension. -/
def allCodes (o : Vec Bits S2x48x128x12288 .f32) (s : Vec Bits S48 .f32) : Vec Bits S2x12288x48x128 .fp8e4m3 :=
  fun i => codeOf (F := Bits) (o (ix4 (⟨(i 0).val, (i 0).isLt⟩ : Fin 2) (⟨(i 2).val, (i 2).isLt⟩ : Fin 48) (⟨(i 3).val, (i 3).isLt⟩ : Fin 128) (⟨(i 1).val, (i 1).isLt⟩ : Fin 12288)))
    (s (ix1 (⟨(i 2).val, (i 2).isLt⟩ : Fin 48)))

/-- An array of row maxima, by batch, token and head. -/
def allRows (x : Vec Bits S2x48x12288 .f32) : Vec Bits S2x12288x48 .f32 :=
  fun i => x (ix3 (⟨(i 0).val, (i 0).isLt⟩ : Fin 2) (⟨(i 2).val, (i 2).isLt⟩ : Fin 48) (⟨(i 1).val, (i 1).isLt⟩ : Fin 12288))

variable (m : (ℓ : Loc nD τ sig) → Buf (Elt Bits) ℓ)

/-- A point's two coordinates, as words and back. -/
theorem coords_nat (t : Fin grid0.N) : (BitVec.ofNat 32 (grid0.coords t 0).val).toNat = (grid0.coords t 0).val ∧ (BitVec.ofNat 32 (grid0.coords t 1).val).toNat = (grid0.coords t 1).val := by
  have h0 : (grid0.coords t 0).val < 2 := (grid0.coords t 0).isLt
  have h1 : (grid0.coords t 1).val < 48 := (grid0.coords t 1).isLt
  constructor
  · rw [BitVec.toNat_ofNat]; exact Nat.mod_eq_of_lt (by omega)
  · rw [BitVec.toNat_ofNat]; exact Nat.mod_eq_of_lt (by omega)

/-- The batch of a point. -/
def bt (t : Fin grid0.N) : Fin 2 := ⟨(grid0.coords t 0).val, (grid0.coords t 0).isLt⟩
/-- The token of column `k` of a point's tile. -/
def tk (t : Fin grid0.N) (k : Fin 256) : Fin 12288 :=
  ⟨256 * (grid0.coords t 1).val + k.val, by have : (grid0.coords t 1).val < 48 := (grid0.coords t 1).isLt; have := k.isLt; omega⟩

/-- A point's scales: all of them. -/
theorem iblk0_at (c : Dev nD) (t : Fin cfg0.N) (h : Fin 48) : iblk m c 0 t (ix1 h) = V m c main_arg3 (ix1 h) := by
  blk_ext [iblk, V]
  · show cc0_transform_0 (grid0.coords t) 0 * 48 + h.val = h.val
    show 0 * 48 + h.val = h.val
    omega

/-- An element of a point's block of the output. -/
theorem iblk1_at (c : Dev nD) (t : Fin cfg0.N) (h : Fin 48) (d : Fin 128) (k : Fin 256) :
    iblk m c 1 t (ix4 0 h d k) = V m c main_arg0 (ix4 (bt t) h d (tk t k)) := by
  obtain ⟨e0, e1⟩ := coords_nat t
  blk_ext [iblk, V]
  · show (BitVec.ofNat 32 (grid0.coords t 0).val).toNat + 0 = (grid0.coords t 0).val
    omega
  · show 0 * 48 + h.val = h.val
    omega
  · show 0 * 128 + d.val = d.val
    omega
  · show (BitVec.ofNat 32 (grid0.coords t 1).val).toNat * 256 + k.val = 256 * (grid0.coords t 1).val + k.val
    omega

/-- An element of a point's block of the greatest absolute scores. -/
theorem iblk2_at (c : Dev nD) (t : Fin cfg0.N) (h : Fin 48) (k : Fin 256) :
    iblk m c 2 t (ix3 0 h k) = V m c main_arg1 (ix3 (bt t) h (tk t k)) := by
  obtain ⟨e0, e1⟩ := coords_nat t
  blk_ext [iblk, V]
  · show (BitVec.ofNat 32 (grid0.coords t 0).val).toNat + 0 = (grid0.coords t 0).val
    omega
  · show 0 * 48 + h.val = h.val
    omega
  · show (BitVec.ofNat 32 (grid0.coords t 1).val).toNat * 256 + k.val = 256 * (grid0.coords t 1).val + k.val
    omega

/-- An element of a point's block of the greatest absolute outputs. -/
theorem iblk3_at (c : Dev nD) (t : Fin cfg0.N) (h : Fin 48) (k : Fin 256) :
    iblk m c 3 t (ix3 0 h k) = V m c main_arg2 (ix3 (bt t) h (tk t k)) := by
  obtain ⟨e0, e1⟩ := coords_nat t
  blk_ext [iblk, V]
  · show (BitVec.ofNat 32 (grid0.coords t 0).val).toNat + 0 = (grid0.coords t 0).val
    omega
  · show 0 * 48 + h.val = h.val
    omega
  · show (BitVec.ofNat 32 (grid0.coords t 1).val).toNat * 256 + k.val = 256 * (grid0.coords t 1).val + k.val
    omega

/-- The blocks of codes cover their array. -/
theorem covers4 : (cfg0.win 4).Covers := by decide +kernel
/-- The blocks of greatest absolute scores cover their array. -/
theorem covers5 : (cfg0.win 5).Covers := by decide +kernel
/-- The blocks of greatest absolute outputs cover their array. -/
theorem covers6 : (cfg0.win 6).Covers := by decide +kernel

/-- The codes at an index given by its coordinates' values. -/
theorem allCodes_at (o : Vec Bits S2x48x128x12288 .f32) (s : Vec Bits S48 .f32) (i : S2x12288x48x128.Idx) (b : Fin 2) (k : Fin 12288) (h : Fin 48) (d : Fin 128)
    (e0 : (i 0).val = b.val) (e1 : (i 1).val = k.val) (e2 : (i 2).val = h.val) (e3 : (i 3).val = d.val) :
    allCodes o s i = codeOf (F := Bits) (o (ix4 b h d k)) (s (ix1 h)) := by
  have f0 : (⟨(i 0).val, (i 0).isLt⟩ : Fin 2) = b := Fin.ext e0
  have f1 : (⟨(i 1).val, (i 1).isLt⟩ : Fin 12288) = k := Fin.ext e1
  have f2 : (⟨(i 2).val, (i 2).isLt⟩ : Fin 48) = h := Fin.ext e2
  have f3 : (⟨(i 3).val, (i 3).isLt⟩ : Fin 128) = d := Fin.ext e3
  subst f0 f1 f2 f3
  rfl

/-- The row maxima at an index given by its coordinates' values. -/
theorem allRows_at (x : Vec Bits S2x48x12288 .f32) (i : S2x12288x48.Idx) (b : Fin 2) (k : Fin 12288) (h : Fin 48)
    (e0 : (i 0).val = b.val) (e1 : (i 1).val = k.val) (e2 : (i 2).val = h.val) : allRows x i = x (ix3 b h k) := by
  have f0 : (⟨(i 0).val, (i 0).isLt⟩ : Fin 2) = b := Fin.ext e0
  have f1 : (⟨(i 1).val, (i 1).isLt⟩ : Fin 12288) = k := Fin.ext e1
  have f2 : (⟨(i 2).val, (i 2).isLt⟩ : Fin 48) = h := Fin.ext e2
  subst f0 f1 f2
  rfl

/-- The codes after the run. -/
theorem fin_codes (c : Dev nD) : (dats m 0 c).arrAt 4 cfg0.N = allCodes (V m c main_arg0) (V m c main_arg3) := by
  refine (dats m 0 c).arrAt_eq_of_covers 4 _ covers4 fun t hf y => ?_
  obtain ⟨e0, e1⟩ := coords_nat t
  blk_simp
  rw [after0_4]
  unfold outsAt0
  rw [out0_A_4_eq]
  refine Eq.trans ?_ (allCodes_at _ _ _ (bt t) (tk t ⟨(y 1).val, (y 1).isLt⟩) ⟨(y 2).val, (y 2).isLt⟩ ⟨(y 3).val, (y 3).isLt⟩ ?_ ?_ ?_ ?_).symm
  · show codeOf (F := Bits) (iblk m c 1 t (ix4 0 _ _ _)) (iblk m c 0 t (ix1 _)) = _
    rw [iblk1_at, iblk0_at]
  · have h0 : (y 0).val < 1 := (y 0).isLt
    blk_simp
    show (BitVec.ofNat 32 (grid0.coords t 0).val).toNat = (grid0.coords t 0).val
    omega
  · blk_simp
    show (BitVec.ofNat 32 (grid0.coords t 1).val).toNat * 256 + (y 1).val = 256 * (grid0.coords t 1).val + (y 1).val
    omega
  · blk_simp
    show 0 * 48 + (y 2).val = (y 2).val
    omega
  · blk_simp
    show 0 * 128 + (y 3).val = (y 3).val
    omega

/-- The greatest absolute scores after the run. -/
theorem fin_scores (c : Dev nD) : (dats m 0 c).arrAt 5 cfg0.N = allRows (V m c main_arg1) := by
  refine (dats m 0 c).arrAt_eq_of_covers 5 _ covers5 fun t hf y => ?_
  obtain ⟨e0, e1⟩ := coords_nat t
  blk_simp
  rw [after0_5]
  unfold outsAt0
  rw [out0_A_5_eq]
  refine Eq.trans ?_ (allRows_at _ _ (bt t) (tk t ⟨(y 1).val, (y 1).isLt⟩) ⟨(y 2).val, (y 2).isLt⟩ ?_ ?_ ?_).symm
  · show iblk m c 2 t (ix3 0 _ _) = _
    rw [iblk2_at]
  · blk_simp
    show (BitVec.ofNat 32 (grid0.coords t 0).val).toNat = (grid0.coords t 0).val
    omega
  · blk_simp
    show (BitVec.ofNat 32 (grid0.coords t 1).val).toNat * 256 + (y 1).val = 256 * (grid0.coords t 1).val + (y 1).val
    omega
  · blk_simp
    show 0 * 48 + (y 2).val = (y 2).val
    omega

/-- The greatest absolute outputs after the run. -/
theorem fin_outs (c : Dev nD) : (dats m 0 c).arrAt 6 cfg0.N = allRows (V m c main_arg2) := by
  refine (dats m 0 c).arrAt_eq_of_covers 6 _ covers6 fun t hf y => ?_
  obtain ⟨e0, e1⟩ := coords_nat t
  blk_simp
  rw [after0_6]
  unfold outsAt0
  rw [out0_A_6_eq]
  refine Eq.trans ?_ (allRows_at _ _ (bt t) (tk t ⟨(y 1).val, (y 1).isLt⟩) ⟨(y 2).val, (y 2).isLt⟩ ?_ ?_ ?_).symm
  · show iblk m c 3 t (ix3 0 _ _) = _
    rw [iblk3_at]
  · blk_simp
    show (BitVec.ofNat 32 (grid0.coords t 0).val).toNat = (grid0.coords t 0).val
    omega
  · blk_simp
    show (BitVec.ofNat 32 (grid0.coords t 1).val).toNat * 256 + (y 1).val = 256 * (grid0.coords t 1).val + (y 1).val
    omega
  · blk_simp
    show 0 * 48 + (y 2).val = (y 2).val
    omega

/-- The call's run: the three results as functions of the arguments, the arguments kept. -/
theorem run_values (ρ : Dev nD → PrngReg) : θ_run defs (onTc (τ := τ) (main (F := Bits))) ⟨m, fun _ => 0, ρ⟩ fun r => ∀ c : Dev nD,
      r.2.mem ((c : Thread nD τ).loc main_v0_0) = allCodes (m ((c : Thread nD τ).loc main_arg0)) (m ((c : Thread nD τ).loc main_arg3))
      ∧ r.2.mem ((c : Thread nD τ).loc main_v0_1) = allRows (m ((c : Thread nD τ).loc main_arg1))
      ∧ r.2.mem ((c : Thread nD τ).loc main_v0_2) = allRows (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (fin_codes m c), (h c).2.1.trans (fin_scores m c), (h c).2.2.1.trans (fin_outs m c), (h c).2.2.2⟩)
    (Value.run_blocks m ρ)

end Cert.Quant.Gen
-- ==== Proof.QuantValues.lean ====
module

public import proofs.«01_k».proof.Defs
public import proofs.«01_k».proof.Proof.QuantResult
public import proofs.«01_k».proof.Proof.Gen.QuantReference.Value

@[expose] public section

set_option maxRecDepth 16384

noncomputable section

/-! # The quantising call and its reference end with the same bits -/

namespace Cert.QuantReference.Gen

open Idealize.ShloMosaic Idealize.ShloMosaic.TcCoe Idealize.SL.Sem
open Cert.Quant.Gen (allCodes allRows allCodes_at)

variable (m : (ℓ : Loc nD τ sig) → Buf (Elt Bits) ℓ)

/-- The transposed output, as the region finds it. -/
theorem V_o (c : Dev nD) : V m c main_v0 = transpose S2x12288x48x128 [0, 3, 1, 2] (m ((c : Thread nD τ).loc main_arg0)) transposes_S2x48x128x12288_S2x12288x48x128_0_3_1_2 := by
  unfold V
  simp only [hostOps0]
  after_results_simp <;> rfl

/-- The transposed score maxima. -/
theorem V_rows (c : Dev nD) : V m c main_v1 = transpose S2x12288x48 [0, 2, 1] (m ((c : Thread nD τ).loc main_arg1)) transposes_S2x48x12288_S2x12288x48_0_2_1 := by
  unfold V
  simp only [hostOps0]
  after_results_simp <;> rfl

/-- The transposed output maxima. -/
theorem V_outs (c : Dev nD) : V m c main_v2 = transpose S2x12288x48 [0, 2, 1] (m ((c : Thread nD τ).loc main_arg2)) transposes_S2x48x12288_S2x12288x48_0_2_1 := by
  unfold V
  simp only [hostOps0]
  after_results_simp <;> rfl

/-- The scales, one to a row. -/
theorem V_scale (c : Dev nD) : V m c main_v3 = broadcastInDim S48x1 ![0] bcast_S48_S48x1_0 (m ((c : Thread nD τ).loc main_arg3)) := by
  unfold V
  simp only [hostOps0]
  after_results_simp <;> rfl

/-- Row maxima by batch, token and head are the transpose of those by batch, head and token. -/
theorem rows_eq (x : Vec Bits S2x48x12288 .f32) : transpose S2x12288x48 [0, 2, 1] x transposes_S2x48x12288_S2x12288x48_0_2_1 = allRows x :=
  funext fun i => transpose_apply _ _ _ i _ fun z => by
    match z with
    | ⟨0, _⟩ => rfl
    | ⟨1, _⟩ => rfl
    | ⟨2, _⟩ => rfl

/-- The one block is its whole array. -/
theorem covers2 : (cfg0.win 2).Covers := by decide +kernel

/-- The block of the transposed output, by the argument's coordinates. -/
theorem iblk0_at (c : Dev nD) (t : Fin cfg0.N) (y : S2x12288x48x128.Idx) (b : Fin 2) (k : Fin 12288) (h : Fin 48) (d : Fin 128)
    (e0 : (y 0).val = b.val) (e1 : (y 1).val = k.val) (e2 : (y 2).val = h.val) (e3 : (y 3).val = d.val) :
    iblk m c 0 t y = m ((c : Thread nD τ).loc main_arg0) (ix4 b h d k) := by
  have e : iblk m c 0 t y = V m c main_v0 (ix4 b k h d) := by
    blk_ext [iblk, V]
    · show 0 * 2 + (y 0).val = b.val
      omega
    · show 0 * 12288 + (y 1).val = k.val
      omega
    · show 0 * 48 + (y 2).val = h.val
      omega
    · show 0 * 128 + (y 3).val = d.val
      omega
  rw [e, V_o]
  exact transpose_apply _ _ _ _ _ fun z => by
    match z with
    | ⟨0, _⟩ => rfl
    | ⟨1, _⟩ => rfl
    | ⟨2, _⟩ => rfl
    | ⟨3, _⟩ => rfl

/-- The block of the scales, by head. -/
theorem iblk1_at (c : Dev nD) (t : Fin cfg0.N) (y : S48x1.Idx) (h : Fin 48) (e0 : (y 0).val = h.val) :
    iblk m c 1 t y = m ((c : Thread nD τ).loc main_arg3) (ix1 h) := by
  have h1 : (y 1).val < 1 := (y 1).isLt
  have e : iblk m c 1 t y = V m c main_v3 (ix2 h (0 : Fin 1)) := by
    blk_ext [iblk, V]
    · show 0 * 48 + (y 0).val = h.val
      omega
    · rfl
  rw [e, V_scale]
  refine congrArg (m ((c : Thread nD τ).loc main_arg3)) (funext fun z => ?_)
  match z with
  | ⟨0, _⟩ => rfl

/-- The codes after the reference's run. -/
theorem fin_codes (c : Dev nD) : (dats m 0 c).arrAt 2 cfg0.N = allCodes (m ((c : Thread nD τ).loc main_arg0)) (m ((c : Thread nD τ).loc main_arg3)) := by
  refine (dats m 0 c).arrAt_eq_of_covers 2 _ covers2 fun t hf y => ?_
  blk_simp
  rw [after0_2]
  unfold out0_2
  rw [Value.canon2_eq]
  refine Eq.trans ?_ (allCodes_at _ _ _ ⟨(y 0).val, (y 0).isLt⟩ ⟨(y 1).val, (y 1).isLt⟩ ⟨(y 2).val, (y 2).isLt⟩ ⟨(y 3).val, (y 3).isLt⟩ ?_ ?_ ?_ ?_).symm
  · exact congrArg₂ (Cert.Quant.Gen.codeOf (F := Bits))
      (iblk0_at m c t _ _ _ _ _ (by show 0 + 1 * (y 0).val = (y 0).val; omega) (by show 0 + 1 * (y 1).val = (y 1).val; omega)
        (by show 0 + 1 * (y 2).val = (y 2).val; omega) (by show 0 + 1 * (y 3).val = (y 3).val; omega))
      (iblk1_at m c t _ _ (by show 0 + 1 * (y 2).val = (y 2).val; omega))
  · blk_simp
    show 0 * 2 + (y 0).val = (y 0).val
    omega
  · blk_simp
    show 0 * 12288 + (y 1).val = (y 1).val
    omega
  · blk_simp
    show 0 * 48 + (y 2).val = (y 2).val
    omega
  · blk_simp
    show 0 * 128 + (y 3).val = (y 3).val
    omega

/-- The reference's run: the three results as functions of the arguments, the arguments kept. -/
theorem run_values (ρ : Dev nD → PrngReg) : θ_run defs (onTc (τ := τ) (main (F := Bits))) ⟨m, fun _ => 0, ρ⟩ fun r => ∀ c : Dev nD,
      r.2.mem ((c : Thread nD τ).loc main_v4) = allCodes (m ((c : Thread nD τ).loc main_arg0)) (m ((c : Thread nD τ).loc main_arg3))
      ∧ r.2.mem ((c : Thread nD τ).loc main_v1) = allRows (m ((c : Thread nD τ).loc main_arg1))
      ∧ r.2.mem ((c : Thread nD τ).loc main_v2) = allRows (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(Value.post2 m r h c).trans (fin_codes m c),
      (((h c).2 main_v1 (Pipeline.mem_restRefs_of main_v1 (by decide) (by decide))).trans (V_rows m c)).trans (rows_eq _),
      (((h c).2 main_v2 (Pipeline.mem_restRefs_of main_v2 (by decide) (by decide))).trans (V_outs m c)).trans (rows_eq _),
      Value.kept_main_arg0 m r h c, Value.kept_main_arg1 m r h c, Value.kept_main_arg2 m r h c, Value.kept_main_arg3 m r h c⟩)
    (run_main m ρ)

end Cert.QuantReference.Gen

namespace Cert.Quant.Gen

open Idealize.ShloMosaic Idealize.ShloMosaic.TcCoe Idealize.SL.Sem

/-- From equal arguments the call and its reference end with the same three arrays, bit for bit. -/
theorem bitexact : Cert.bitexact_Quant_QuantReference (hQuant := Cert.Quant.Gen.facts) (hQuantReference := Cert.QuantReference.Gen.facts) := by
  intro m g m' g' _ he
  refine ⟨fun c => allCodes (m ((c : Thread nD τ).loc main_arg0)) (m ((c : Thread nD τ).loc main_arg3)),
    fun c => allRows (m ((c : Thread nD τ).loc main_arg1)), fun c => allRows (m ((c : Thread nD τ).loc main_arg2)), run_values m g, ?_⟩
  refine (θ_run (Cert.QuantReference.defs (F := Bits)) _ _).mono (fun r h c => ?_) (Cert.QuantReference.Gen.run_values m' g')
  obtain ⟨a0, a1, a2, a3⟩ := he c
  obtain ⟨h0, h1, h2, h3⟩ := h c
  exact ⟨h0.trans (congrArg₂ allCodes a0 a3), h1.trans (congrArg allRows a1), h2.trans (congrArg allRows a2), h3⟩

end Cert.Quant.Gen
-- ==== Proof.lean ====
module

public import proofs.«01_k».proof.Defs
public import proofs.«01_k».proof.Proof.KernelFrame
public import proofs.«01_k».proof.Proof.KernelIdealFrame
public import proofs.«01_k».proof.Proof.Values
public import proofs.«01_k».proof.Proof.QuantValues
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Quant.Value
public import proofs.«01_k».proof.Proof.Gen.QuantReference.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's frame, from its run: it declares no semaphores, so every counter is zero. -/
theorem frame_reference : Cert.quiescent_ReferenceIdeal (hReferenceIdeal := Cert.ReferenceIdeal.Gen.facts) := fun m g _ =>
  (θ_run (Cert.ReferenceIdeal.defs (F := Ideal)) _ _).mono (fun r h => ⟨fun c => (h c).2.2.2.2.2.2.2, sem_eq_zero_of_no_sems (by decide) r.2⟩)
    (Cert.ReferenceIdeal.Value.run (F := Ideal) m g)

/-- The whole claim. -/
theorem claim : Cert.Claim := ⟨Cert.Kernel.Gen.facts, Cert.KernelIdeal.Gen.facts, Cert.ReferenceIdeal.Gen.facts, Cert.Quant.Gen.facts, Cert.QuantReference.Gen.facts, Cert.Pre_finite.Gen.facts,
  fun m g _ => Cert.Kernel.Gen.frame m g trivial,
  fun m g _ => Cert.KernelIdeal.Gen.frame m g trivial,
  fun m g _ => Cert.KernelIdeal.Gen.frame m g trivial,
  frame_reference,
  fun m g _ => frame_reference m g trivial,
  fun m g _ => Cert.Quant.Gen.frame m g,
  fun m g _ => Cert.QuantReference.Gen.frame m g,
  trivial,
  Cert.KernelIdeal.Gen.algebraic,
  Cert.Quant.Gen.bitexact⟩

end Cert.Proof

end
